-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_args [hPre_attn_args : Cert.Pre_attn_args.Facts] (m : (ℓ : Loc Cert.KernelIdeal.nD Cert.KernelIdeal.τ Cert.KernelIdeal.sig) → Buf (Elt Ideal) ℓ) : Prop :=
  ∀ c : Dev Cert.KernelIdeal.nD,
    (Cert.Pre_attn_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_args [hPre_attn_args : Cert.Pre_attn_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InRet (m : (ℓ : Loc Cert.InRet.nD Cert.InRet.τ Cert.InRet.sig) → Buf (Elt Bits) ℓ) : Prop :=
  True

def Pre_InRetIdeal (m : (ℓ : Loc Cert.InRetIdeal.nD Cert.InRetIdeal.τ Cert.InRetIdeal.sig) → Buf (Elt Ideal) ℓ) : Prop :=
  True

def Pre_InRetRefIdeal (m : (ℓ : Loc Cert.InRetRefIdeal.nD Cert.InRetRefIdeal.τ Cert.InRetRefIdeal.sig) → Buf (Elt Ideal) ℓ) : Prop :=
  True

def Pre_InGm (m : (ℓ : Loc Cert.InGm.nD Cert.InGm.τ Cert.InGm.sig) → Buf (Elt Bits) ℓ) : Prop :=
  True

def Pre_InGmIdeal (m : (ℓ : Loc Cert.InGmIdeal.nD Cert.InGmIdeal.τ Cert.InGmIdeal.sig) → Buf (Elt Ideal) ℓ) : Prop :=
  True

def Pre_InGmRefIdeal (m : (ℓ : Loc Cert.InGmRefIdeal.nD Cert.InGmRefIdeal.τ Cert.InGmRefIdeal.sig) → Buf (Elt Ideal) ℓ) : Prop :=
  True

def Pre_InMla (m : (ℓ : Loc Cert.InMla.nD Cert.InMla.τ Cert.InMla.sig) → Buf (Elt Bits) ℓ) : Prop :=
  True

def Pre_InMlaIdeal (m : (ℓ : Loc Cert.InMlaIdeal.nD Cert.InMlaIdeal.τ Cert.InMlaIdeal.sig) → Buf (Elt Ideal) ℓ) : Prop :=
  True

def Pre_InMlaIdeal_rotary_finite [hPre_rotary_finite : Cert.Pre_rotary_finite.Facts] (m : (ℓ : Loc Cert.InMlaIdeal.nD Cert.InMlaIdeal.τ Cert.InMlaIdeal.sig) → Buf (Elt Ideal) ℓ) : Prop :=
  ∀ c : Dev Cert.InMlaIdeal.nD,
    (Cert.Pre_rotary_finite.fn (F := Ideal) (m ((c.tc : Thread Cert.InMlaIdeal.nD Cert.InMlaIdeal.τ).loc Cert.InMlaIdeal.main_arg0)) (m ((c.tc : Thread Cert.InMlaIdeal.nD Cert.InMlaIdeal.τ).loc Cert.InMlaIdeal.main_arg1))) = (fun _ => 1#1)

def Pre_InMlaRefIdeal (m : (ℓ : Loc Cert.InMlaRefIdeal.nD Cert.InMlaRefIdeal.τ Cert.InMlaRefIdeal.sig) → Buf (Elt Ideal) ℓ) : Prop :=
  True

def Pre_InMlaRefIdeal_rotary_finite [hPre_rotary_finite : Cert.Pre_rotary_finite.Facts] (m : (ℓ : Loc Cert.InMlaRefIdeal.nD Cert.InMlaRefIdeal.τ Cert.InMlaRefIdeal.sig) → Buf (Elt Ideal) ℓ) : Prop :=
  ∀ c : Dev Cert.InMlaRefIdeal.nD,
    (Cert.Pre_rotary_finite.fn (F := Ideal) (m ((c.tc : Thread Cert.InMlaRefIdeal.nD Cert.InMlaRefIdeal.τ).loc Cert.InMlaRefIdeal.main_arg0)) (m ((c.tc : Thread Cert.InMlaRefIdeal.nD Cert.InMlaRefIdeal.τ).loc Cert.InMlaRefIdeal.main_arg1))) = (fun _ => 1#1)

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepIdeal_queries_finite [hPre_queries_finite : Cert.Pre_queries_finite.Facts] (m : (ℓ : Loc Cert.MlaPrepIdeal.nD Cert.MlaPrepIdeal.τ Cert.MlaPrepIdeal.sig) → Buf (Elt Ideal) ℓ) : Prop :=
  ∀ c : Dev Cert.MlaPrepIdeal.nD,
    (Cert.Pre_queries_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6))) = (fun _ => 1#1)

def Pre_MlaPrepRefIdeal (m : (ℓ : Loc Cert.MlaPrepRefIdeal.nD Cert.MlaPrepRefIdeal.τ Cert.MlaPrepRefIdeal.sig) → Buf (Elt Ideal) ℓ) : Prop :=
  True

def Pre_MlaPrepRefIdeal_queries_finite [hPre_queries_finite : Cert.Pre_queries_finite.Facts] (m : (ℓ : Loc Cert.MlaPrepRefIdeal.nD Cert.MlaPrepRefIdeal.τ Cert.MlaPrepRefIdeal.sig) → Buf (Elt Ideal) ℓ) : Prop :=
  ∀ c : Dev Cert.MlaPrepRefIdeal.nD,
    (Cert.Pre_queries_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_retained_finite [hPre_retained_finite : Cert.Pre_retained_finite.Facts] (m : (ℓ : Loc Cert.RetIdeal.nD Cert.RetIdeal.τ Cert.RetIdeal.sig) → Buf (Elt Ideal) ℓ) : Prop :=
  ∀ c : Dev Cert.RetIdeal.nD,
    (Cert.Pre_retained_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_retained_finite [hPre_retained_finite : Cert.Pre_retained_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_retained_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesRefIdeal (m : (ℓ : Loc Cert.TablesRefIdeal.nD Cert.TablesRefIdeal.τ Cert.TablesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attn_args [hKernelIdeal : Cert.KernelIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attn_args [hReferenceIdeal : Cert.ReferenceIdeal.Facts] [hPre_attn_args : Cert.Pre_attn_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InRet [hInRet : Cert.InRet.Facts] : Prop :=
  ∀ (m : (ℓ : Loc Cert.InRet.nD Cert.InRet.τ Cert.InRet.sig) → Buf (Elt Bits) ℓ) (g : Dev Cert.InRet.nD → PrngReg), Pre_InRet m →
    θ_run (Cert.InRet.defs (F := Bits)) (onTc (τ := Cert.InRet.τ) (Cert.InRet.main (F := Bits))) ⟨m, fun _ => 0, g⟩ (fun r => (∀ c : Dev Cert.InRet.nD,
      r.2.mem ((c.tc : Thread Cert.InRet.nD Cert.InRet.τ).loc Cert.InRet.main_arg0) = m ((c.tc : Thread Cert.InRet.nD Cert.InRet.τ).loc Cert.InRet.main_arg0)
      ∧ r.2.mem ((c.tc : Thread Cert.InRet.nD Cert.InRet.τ).loc Cert.InRet.main_arg1) = m ((c.tc : Thread Cert.InRet.nD Cert.InRet.τ).loc Cert.InRet.main_arg1))
      ∧ r.2.sem = fun _ => 0)

def quiescent_InRetIdeal [hInRetIdeal : Cert.InRetIdeal.Facts] : Prop :=
  ∀ (m : (ℓ : Loc Cert.InRetIdeal.nD Cert.InRetIdeal.τ Cert.InRetIdeal.sig) → Buf (Elt Ideal) ℓ) (g : Dev Cert.InRetIdeal.nD → PrngReg), Pre_InRetIdeal m →
    θ_run (Cert.InRetIdeal.defs (F := Ideal)) (onTc (τ := Cert.InRetIdeal.τ) (Cert.InRetIdeal.main (F := Ideal))) ⟨m, fun _ => 0, g⟩ (fun r => (∀ c : Dev Cert.InRetIdeal.nD,
      r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
      ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ r.2.sem = fun _ => 0)

def quiescent_InRetRefIdeal [hInRetRefIdeal : Cert.InRetRefIdeal.Facts] : Prop :=
  ∀ (m : (ℓ : Loc Cert.InRetRefIdeal.nD Cert.InRetRefIdeal.τ Cert.InRetRefIdeal.sig) → Buf (Elt Ideal) ℓ) (g : Dev Cert.InRetRefIdeal.nD → PrngReg), Pre_InRetRefIdeal m →
    θ_run (Cert.InRetRefIdeal.defs (F := Ideal)) (onTc (τ := Cert.InRetRefIdeal.τ) (Cert.InRetRefIdeal.main (F := Ideal))) ⟨m, fun _ => 0, g⟩ (fun r => (∀ c : Dev Cert.InRetRefIdeal.nD,
      r.2.mem ((c.tc : Thread Cert.InRetRefIdeal.nD Cert.InRetRefIdeal.τ).loc Cert.InRetRefIdeal.main_arg0) = m ((c.tc : Thread Cert.InRetRefIdeal.nD Cert.InRetRefIdeal.τ).loc Cert.InRetRefIdeal.main_arg0)
      ∧ r.2.mem ((c.tc : Thread Cert.InRetRefIdeal.nD Cert.InRetRefIdeal.τ).loc Cert.InRetRefIdeal.main_arg1) = m ((c.tc : Thread Cert.InRetRefIdeal.nD Cert.InRetRefIdeal.τ).loc Cert.InRetRefIdeal.main_arg1))
      ∧ r.2.sem = fun _ => 0)

def quiescent_InGm [hInGm : Cert.InGm.Facts] : Prop :=
  ∀ (m : (ℓ : Loc Cert.InGm.nD Cert.InGm.τ Cert.InGm.sig) → Buf (Elt Bits) ℓ) (g : Dev Cert.InGm.nD → PrngReg), Pre_InGm m →
    θ_run (Cert.InGm.defs (F := Bits)) (onTc (τ := Cert.InGm.τ) (Cert.InGm.main (F := Bits))) ⟨m, fun _ => 0, g⟩ (fun r => (∀ c : Dev Cert.InGm.nD,
      r.2.mem ((c.tc : Thread Cert.InGm.nD Cert.InGm.τ).loc Cert.InGm.main_arg0) = m ((c.tc : Thread Cert.InGm.nD Cert.InGm.τ).loc Cert.InGm.main_arg0)
      ∧ r.2.mem ((c.tc : Thread Cert.InGm.nD Cert.InGm.τ).loc Cert.InGm.main_arg1) = m ((c.tc : Thread Cert.InGm.nD Cert.InGm.τ).loc Cert.InGm.main_arg1))
      ∧ r.2.sem = fun _ => 0)

def quiescent_InGmIdeal [hInGmIdeal : Cert.InGmIdeal.Facts] : Prop :=
  ∀ (m : (ℓ : Loc Cert.InGmIdeal.nD Cert.InGmIdeal.τ Cert.InGmIdeal.sig) → Buf (Elt Ideal) ℓ) (g : Dev Cert.InGmIdeal.nD → PrngReg), Pre_InGmIdeal m →
    θ_run (Cert.InGmIdeal.defs (F := Ideal)) (onTc (τ := Cert.InGmIdeal.τ) (Cert.InGmIdeal.main (F := Ideal))) ⟨m, fun _ => 0, g⟩ (fun r => (∀ c : Dev Cert.InGmIdeal.nD,
      r.2.mem ((c.tc : Thread Cert.InGmIdeal.nD Cert.InGmIdeal.τ).loc Cert.InGmIdeal.main_arg0) = m ((c.tc : Thread Cert.InGmIdeal.nD Cert.InGmIdeal.τ).loc Cert.InGmIdeal.main_arg0)
      ∧ r.2.mem ((c.tc : Thread Cert.InGmIdeal.nD Cert.InGmIdeal.τ).loc Cert.InGmIdeal.main_arg1) = m ((c.tc : Thread Cert.InGmIdeal.nD Cert.InGmIdeal.τ).loc Cert.InGmIdeal.main_arg1))
      ∧ r.2.sem = fun _ => 0)

def quiescent_InGmRefIdeal [hInGmRefIdeal : Cert.InGmRefIdeal.Facts] : Prop :=
  ∀ (m : (ℓ : Loc Cert.InGmRefIdeal.nD Cert.InGmRefIdeal.τ Cert.InGmRefIdeal.sig) → Buf (Elt Ideal) ℓ) (g : Dev Cert.InGmRefIdeal.nD → PrngReg), Pre_InGmRefIdeal m →
    θ_run (Cert.InGmRefIdeal.defs (F := Ideal)) (onTc (τ := Cert.InGmRefIdeal.τ) (Cert.InGmRefIdeal.main (F := Ideal))) ⟨m, fun _ => 0, g⟩ (fun r => (∀ c : Dev Cert.InGmRefIdeal.nD,
      r.2.mem ((c.tc : Thread Cert.InGmRefIdeal.nD Cert.InGmRefIdeal.τ).loc Cert.InGmRefIdeal.main_arg0) = m ((c.tc : Thread Cert.InGmRefIdeal.nD Cert.InGmRefIdeal.τ).loc Cert.InGmRefIdeal.main_arg0)
      ∧ r.2.mem ((c.tc : Thread Cert.InGmRefIdeal.nD Cert.InGmRefIdeal.τ).loc Cert.InGmRefIdeal.main_arg1) = m ((c.tc : Thread Cert.InGmRefIdeal.nD Cert.InGmRefIdeal.τ).loc Cert.InGmRefIdeal.main_arg1))
      ∧ r.2.sem = fun _ => 0)

def quiescent_InMla [hInMla : Cert.InMla.Facts] : Prop :=
  ∀ (m : (ℓ : Loc Cert.InMla.nD Cert.InMla.τ Cert.InMla.sig) → Buf (Elt Bits) ℓ) (g : Dev Cert.InMla.nD → PrngReg), Pre_InMla m →
    θ_run (Cert.InMla.defs (F := Bits)) (onTc (τ := Cert.InMla.τ) (Cert.InMla.main (F := Bits))) ⟨m, fun _ => 0, g⟩ (fun r => (∀ c : Dev Cert.InMla.nD,
      r.2.mem ((c.tc : Thread Cert.InMla.nD Cert.InMla.τ).loc Cert.InMla.main_arg0) = m ((c.tc : Thread Cert.InMla.nD Cert.InMla.τ).loc Cert.InMla.main_arg0)
      ∧ r.2.mem ((c.tc : Thread Cert.InMla.nD Cert.InMla.τ).loc Cert.InMla.main_arg1) = m ((c.tc : Thread Cert.InMla.nD Cert.InMla.τ).loc Cert.InMla.main_arg1))
      ∧ r.2.sem = fun _ => 0)

def quiescent_InMlaIdeal [hInMlaIdeal : Cert.InMlaIdeal.Facts] : Prop :=
  ∀ (m : (ℓ : Loc Cert.InMlaIdeal.nD Cert.InMlaIdeal.τ Cert.InMlaIdeal.sig) → Buf (Elt Ideal) ℓ) (g : Dev Cert.InMlaIdeal.nD → PrngReg), Pre_InMlaIdeal m →
    θ_run (Cert.InMlaIdeal.defs (F := Ideal)) (onTc (τ := Cert.InMlaIdeal.τ) (Cert.InMlaIdeal.main (F := Ideal))) ⟨m, fun _ => 0, g⟩ (fun r => (∀ c : Dev Cert.InMlaIdeal.nD,
      r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
      ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ r.2.sem = fun _ => 0)

def quiescent_InMlaIdeal_pre_rotary_finite [hInMlaIdeal : Cert.InMlaIdeal.Facts] [hPre_rotary_finite : Cert.Pre_rotary_finite.Facts] : Prop :=
  ∀ (m : (ℓ : Loc Cert.InMlaIdeal.nD Cert.InMlaIdeal.τ Cert.InMlaIdeal.sig) → Buf (Elt Ideal) ℓ) (g : Dev Cert.InMlaIdeal.nD → PrngReg), Pre_InMlaIdeal_rotary_finite m →
    θ_run (Cert.InMlaIdeal.defs (F := Ideal)) (onTc (τ := Cert.InMlaIdeal.τ) (Cert.InMlaIdeal.main (F := Ideal))) ⟨m, fun _ => 0, g⟩ (fun r => (∀ c : Dev Cert.InMlaIdeal.nD,
      r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
      ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ r.2.sem = fun _ => 0)

def quiescent_InMlaRefIdeal [hInMlaRefIdeal : Cert.InMlaRefIdeal.Facts] : Prop :=
  ∀ (m : (ℓ : Loc Cert.InMlaRefIdeal.nD Cert.InMlaRefIdeal.τ Cert.InMlaRefIdeal.sig) → Buf (Elt Ideal) ℓ) (g : Dev Cert.InMlaRefIdeal.nD → PrngReg), Pre_InMlaRefIdeal m →
    θ_run (Cert.InMlaRefIdeal.defs (F := Ideal)) (onTc (τ := Cert.InMlaRefIdeal.τ) (Cert.InMlaRefIdeal.main (F := Ideal))) ⟨m, fun _ => 0, g⟩ (fun r => (∀ c : Dev Cert.InMlaRefIdeal.nD,
      r.2.mem ((c.tc : Thread Cert.InMlaRefIdeal.nD Cert.InMlaRefIdeal.τ).loc Cert.InMlaRefIdeal.main_arg0) = m ((c.tc : Thread Cert.InMlaRefIdeal.nD Cert.InMlaRefIdeal.τ).loc Cert.InMlaRefIdeal.main_arg0)
      ∧ r.2.mem ((c.tc : Thread Cert.InMlaRefIdeal.nD Cert.InMlaRefIdeal.τ).loc Cert.InMlaRefIdeal.main_arg1) = m ((c.tc : Thread Cert.InMlaRefIdeal.nD Cert.InMlaRefIdeal.τ).loc Cert.InMlaRefIdeal.main_arg1))
      ∧ r.2.sem = fun _ => 0)

def quiescent_InMlaRefIdeal_pre_rotary_finite [hInMlaRefIdeal : Cert.InMlaRefIdeal.Facts] [hPre_rotary_finite : Cert.Pre_rotary_finite.Facts] : Prop :=
  ∀ (m : (ℓ : Loc Cert.InMlaRefIdeal.nD Cert.InMlaRefIdeal.τ Cert.InMlaRefIdeal.sig) → Buf (Elt Ideal) ℓ) (g : Dev Cert.InMlaRefIdeal.nD → PrngReg), Pre_InMlaRefIdeal_rotary_finite m →
    θ_run (Cert.InMlaRefIdeal.defs (F := Ideal)) (onTc (τ := Cert.InMlaRefIdeal.τ) (Cert.InMlaRefIdeal.main (F := Ideal))) ⟨m, fun _ => 0, g⟩ (fun r => (∀ c : Dev Cert.InMlaRefIdeal.nD,
      r.2.mem ((c.tc : Thread Cert.InMlaRefIdeal.nD Cert.InMlaRefIdeal.τ).loc Cert.InMlaRefIdeal.main_arg0) = m ((c.tc : Thread Cert.InMlaRefIdeal.nD Cert.InMlaRefIdeal.τ).loc Cert.InMlaRefIdeal.main_arg0)
      ∧ r.2.mem ((c.tc : Thread Cert.InMlaRefIdeal.nD Cert.InMlaRefIdeal.τ).loc Cert.InMlaRefIdeal.main_arg1) = m ((c.tc : Thread Cert.InMlaRefIdeal.nD Cert.InMlaRefIdeal.τ).loc Cert.InMlaRefIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ r.2.sem = fun _ => 0)

def quiescent_MlaPrepIdeal_pre_queries_finite [hMlaPrepIdeal : Cert.MlaPrepIdeal.Facts] [hPre_queries_finite : Cert.Pre_queries_finite.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal_queries_finite m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6))
      ∧ r.2.sem = fun _ => 0)

def quiescent_MlaPrepRefIdeal_pre_queries_finite [hMlaPrepRefIdeal : Cert.MlaPrepRefIdeal.Facts] [hPre_queries_finite : Cert.Pre_queries_finite.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal_queries_finite m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_retained_finite [hRetIdeal : Cert.RetIdeal.Facts] [hPre_retained_finite : Cert.Pre_retained_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_retained_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_retained_finite [hRetRefIdeal : Cert.RetRefIdeal.Facts] [hPre_retained_finite : Cert.Pre_retained_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_retained_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ r.2.sem = fun _ => 0)

def quiescent_TablesRefIdeal [hTablesRefIdeal : Cert.TablesRefIdeal.Facts] : Prop :=
  ∀ (m : (ℓ : Loc Cert.TablesRefIdeal.nD Cert.TablesRefIdeal.τ Cert.TablesRefIdeal.sig) → Buf (Elt Ideal) ℓ) (g : Dev Cert.TablesRefIdeal.nD → PrngReg), Pre_TablesRefIdeal m →
    θ_run (Cert.TablesRefIdeal.defs (F := Ideal)) (onTc (τ := Cert.TablesRefIdeal.τ) (Cert.TablesRefIdeal.main (F := Ideal))) ⟨m, fun _ => 0, g⟩ (fun r => (∀ c : Dev Cert.TablesRefIdeal.nD,
      r.2.mem ((c.tc : Thread Cert.TablesRefIdeal.nD Cert.TablesRefIdeal.τ).loc Cert.TablesRefIdeal.main_arg0) = m ((c.tc : Thread Cert.TablesRefIdeal.nD Cert.TablesRefIdeal.τ).loc Cert.TablesRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attn_args [hKernelIdeal : Cert.KernelIdeal.Facts] [hReferenceIdeal : Cert.ReferenceIdeal.Facts] [hPre_attn_args : Cert.Pre_attn_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InRet_InRetIdeal : Prop :=
  True

def algebraic_InRetIdeal_InRetRefIdeal [hInRetIdeal : Cert.InRetIdeal.Facts] [hInRetRefIdeal : Cert.InRetRefIdeal.Facts] : Prop :=
  ∀ (m : (ℓ : Loc Cert.InRetIdeal.nD Cert.InRetIdeal.τ Cert.InRetIdeal.sig) → Buf (Elt Ideal) ℓ) (g : Dev Cert.InRetIdeal.nD → PrngReg)
    (m' : (ℓ : Loc Cert.InRetRefIdeal.nD Cert.InRetRefIdeal.τ Cert.InRetRefIdeal.sig) → Buf (Elt Ideal) ℓ) (g' : Dev Cert.InRetRefIdeal.nD → PrngReg), Pre_InRetIdeal m →
    (∀ c : Dev Cert.InRetIdeal.nD,
      m' ((c.tc : Thread Cert.InRetRefIdeal.nD Cert.InRetRefIdeal.τ).loc Cert.InRetRefIdeal.main_arg0) = m ((c.tc : Thread Cert.InRetIdeal.nD Cert.InRetIdeal.τ).loc Cert.InRetIdeal.main_arg0)
      ∧ m' ((c.tc : Thread Cert.InRetRefIdeal.nD Cert.InRetRefIdeal.τ).loc Cert.InRetRefIdeal.main_arg1) = m ((c.tc : Thread Cert.InRetIdeal.nD Cert.InRetIdeal.τ).loc Cert.InRetIdeal.main_arg1)) →
    ∃ (v0 : (c : Dev Cert.InRetIdeal.nD) → Buf (Elt Ideal) ((c.tc : Thread Cert.InRetIdeal.nD Cert.InRetIdeal.τ).loc Cert.InRetIdeal.main_v12)),
      θ_run (Cert.InRetIdeal.defs (F := Ideal)) (onTc (τ := Cert.InRetIdeal.τ) (Cert.InRetIdeal.main (F := Ideal))) ⟨m, fun _ => 0, g⟩ (fun r => ∀ c : Dev Cert.InRetIdeal.nD,
          r.2.mem ((c.tc : Thread Cert.InRetIdeal.nD Cert.InRetIdeal.τ).loc Cert.InRetIdeal.main_v12) = v0 c
          ∧ r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
          ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ θ_run (Cert.InRetRefIdeal.defs (F := Ideal)) (onTc (τ := Cert.InRetRefIdeal.τ) (Cert.InRetRefIdeal.main (F := Ideal))) ⟨m', fun _ => 0, g'⟩ (fun r => ∀ c : Dev Cert.InRetRefIdeal.nD,
          r.2.mem ((c.tc : Thread Cert.InRetRefIdeal.nD Cert.InRetRefIdeal.τ).loc Cert.InRetRefIdeal.main_v3) = v0 c
          ∧ r.2.mem ((c.tc : Thread Cert.InRetRefIdeal.nD Cert.InRetRefIdeal.τ).loc Cert.InRetRefIdeal.main_arg0) = m' ((c.tc : Thread Cert.InRetRefIdeal.nD Cert.InRetRefIdeal.τ).loc Cert.InRetRefIdeal.main_arg0)
          ∧ r.2.mem ((c.tc : Thread Cert.InRetRefIdeal.nD Cert.InRetRefIdeal.τ).loc Cert.InRetRefIdeal.main_arg1) = m' ((c.tc : Thread Cert.InRetRefIdeal.nD Cert.InRetRefIdeal.τ).loc Cert.InRetRefIdeal.main_arg1))

def preserves_InGm_InGmIdeal : Prop :=
  True

def algebraic_InGmIdeal_InGmRefIdeal [hInGmIdeal : Cert.InGmIdeal.Facts] [hInGmRefIdeal : Cert.InGmRefIdeal.Facts] : Prop :=
  ∀ (m : (ℓ : Loc Cert.InGmIdeal.nD Cert.InGmIdeal.τ Cert.InGmIdeal.sig) → Buf (Elt Ideal) ℓ) (g : Dev Cert.InGmIdeal.nD → PrngReg)
    (m' : (ℓ : Loc Cert.InGmRefIdeal.nD Cert.InGmRefIdeal.τ Cert.InGmRefIdeal.sig) → Buf (Elt Ideal) ℓ) (g' : Dev Cert.InGmRefIdeal.nD → PrngReg), Pre_InGmIdeal m →
    (∀ c : Dev Cert.InGmIdeal.nD,
      m' ((c.tc : Thread Cert.InGmRefIdeal.nD Cert.InGmRefIdeal.τ).loc Cert.InGmRefIdeal.main_arg0) = m ((c.tc : Thread Cert.InGmIdeal.nD Cert.InGmIdeal.τ).loc Cert.InGmIdeal.main_arg0)
      ∧ m' ((c.tc : Thread Cert.InGmRefIdeal.nD Cert.InGmRefIdeal.τ).loc Cert.InGmRefIdeal.main_arg1) = m ((c.tc : Thread Cert.InGmIdeal.nD Cert.InGmIdeal.τ).loc Cert.InGmIdeal.main_arg1)) →
    ∃ (v0 : (c : Dev Cert.InGmIdeal.nD) → Buf (Elt Ideal) ((c.tc : Thread Cert.InGmIdeal.nD Cert.InGmIdeal.τ).loc Cert.InGmIdeal.main_v12)),
      θ_run (Cert.InGmIdeal.defs (F := Ideal)) (onTc (τ := Cert.InGmIdeal.τ) (Cert.InGmIdeal.main (F := Ideal))) ⟨m, fun _ => 0, g⟩ (fun r => ∀ c : Dev Cert.InGmIdeal.nD,
          r.2.mem ((c.tc : Thread Cert.InGmIdeal.nD Cert.InGmIdeal.τ).loc Cert.InGmIdeal.main_v12) = v0 c
          ∧ r.2.mem ((c.tc : Thread Cert.InGmIdeal.nD Cert.InGmIdeal.τ).loc Cert.InGmIdeal.main_arg0) = m ((c.tc : Thread Cert.InGmIdeal.nD Cert.InGmIdeal.τ).loc Cert.InGmIdeal.main_arg0)
          ∧ r.2.mem ((c.tc : Thread Cert.InGmIdeal.nD Cert.InGmIdeal.τ).loc Cert.InGmIdeal.main_arg1) = m ((c.tc : Thread Cert.InGmIdeal.nD Cert.InGmIdeal.τ).loc Cert.InGmIdeal.main_arg1))
      ∧ θ_run (Cert.InGmRefIdeal.defs (F := Ideal)) (onTc (τ := Cert.InGmRefIdeal.τ) (Cert.InGmRefIdeal.main (F := Ideal))) ⟨m', fun _ => 0, g'⟩ (fun r => ∀ c : Dev Cert.InGmRefIdeal.nD,
          r.2.mem ((c.tc : Thread Cert.InGmRefIdeal.nD Cert.InGmRefIdeal.τ).loc Cert.InGmRefIdeal.main_v3) = v0 c
          ∧ r.2.mem ((c.tc : Thread Cert.InGmRefIdeal.nD Cert.InGmRefIdeal.τ).loc Cert.InGmRefIdeal.main_arg0) = m' ((c.tc : Thread Cert.InGmRefIdeal.nD Cert.InGmRefIdeal.τ).loc Cert.InGmRefIdeal.main_arg0)
          ∧ r.2.mem ((c.tc : Thread Cert.InGmRefIdeal.nD Cert.InGmRefIdeal.τ).loc Cert.InGmRefIdeal.main_arg1) = m' ((c.tc : Thread Cert.InGmRefIdeal.nD Cert.InGmRefIdeal.τ).loc Cert.InGmRefIdeal.main_arg1))

def preserves_InMla_InMlaIdeal : Prop :=
  True

def algebraic_InMlaIdeal_InMlaRefIdeal_pre_rotary_finite [hInMlaIdeal : Cert.InMlaIdeal.Facts] [hInMlaRefIdeal : Cert.InMlaRefIdeal.Facts] [hPre_rotary_finite : Cert.Pre_rotary_finite.Facts] : Prop :=
  ∀ (m : (ℓ : Loc Cert.InMlaIdeal.nD Cert.InMlaIdeal.τ Cert.InMlaIdeal.sig) → Buf (Elt Ideal) ℓ) (g : Dev Cert.InMlaIdeal.nD → PrngReg)
    (m' : (ℓ : Loc Cert.InMlaRefIdeal.nD Cert.InMlaRefIdeal.τ Cert.InMlaRefIdeal.sig) → Buf (Elt Ideal) ℓ) (g' : Dev Cert.InMlaRefIdeal.nD → PrngReg), Pre_InMlaIdeal_rotary_finite m →
    (∀ c : Dev Cert.InMlaIdeal.nD,
      m' ((c.tc : Thread Cert.InMlaRefIdeal.nD Cert.InMlaRefIdeal.τ).loc Cert.InMlaRefIdeal.main_arg0) = m ((c.tc : Thread Cert.InMlaIdeal.nD Cert.InMlaIdeal.τ).loc Cert.InMlaIdeal.main_arg0)
      ∧ m' ((c.tc : Thread Cert.InMlaRefIdeal.nD Cert.InMlaRefIdeal.τ).loc Cert.InMlaRefIdeal.main_arg1) = m ((c.tc : Thread Cert.InMlaIdeal.nD Cert.InMlaIdeal.τ).loc Cert.InMlaIdeal.main_arg1)) →
    ∃ (v0 : (c : Dev Cert.InMlaIdeal.nD) → Buf (Elt Ideal) ((c.tc : Thread Cert.InMlaIdeal.nD Cert.InMlaIdeal.τ).loc Cert.InMlaIdeal.main_v12)),
      θ_run (Cert.InMlaIdeal.defs (F := Ideal)) (onTc (τ := Cert.InMlaIdeal.τ) (Cert.InMlaIdeal.main (F := Ideal))) ⟨m, fun _ => 0, g⟩ (fun r => ∀ c : Dev Cert.InMlaIdeal.nD,
          r.2.mem ((c.tc : Thread Cert.InMlaIdeal.nD Cert.InMlaIdeal.τ).loc Cert.InMlaIdeal.main_v12) = v0 c
          ∧ r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
          ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ θ_run (Cert.InMlaRefIdeal.defs (F := Ideal)) (onTc (τ := Cert.InMlaRefIdeal.τ) (Cert.InMlaRefIdeal.main (F := Ideal))) ⟨m', fun _ => 0, g'⟩ (fun r => ∀ c : Dev Cert.InMlaRefIdeal.nD,
          r.2.mem ((c.tc : Thread Cert.InMlaRefIdeal.nD Cert.InMlaRefIdeal.τ).loc Cert.InMlaRefIdeal.main_v9) = v0 c
          ∧ r.2.mem ((c.tc : Thread Cert.InMlaRefIdeal.nD Cert.InMlaRefIdeal.τ).loc Cert.InMlaRefIdeal.main_arg0) = m' ((c.tc : Thread Cert.InMlaRefIdeal.nD Cert.InMlaRefIdeal.τ).loc Cert.InMlaRefIdeal.main_arg0)
          ∧ r.2.mem ((c.tc : Thread Cert.InMlaRefIdeal.nD Cert.InMlaRefIdeal.τ).loc Cert.InMlaRefIdeal.main_arg1) = m' ((c.tc : Thread Cert.InMlaRefIdeal.nD Cert.InMlaRefIdeal.τ).loc Cert.InMlaRefIdeal.main_arg1))

def preserves_MlaPrep_MlaPrepIdeal : Prop :=
  True

def algebraic_MlaPrepIdeal_MlaPrepRefIdeal_pre_queries_finite [hMlaPrepIdeal : Cert.MlaPrepIdeal.Facts] [hMlaPrepRefIdeal : Cert.MlaPrepRefIdeal.Facts] [hPre_queries_finite : Cert.Pre_queries_finite.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal_queries_finite m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)) →
    ∃ (v0 : (c : Dev Cert.MlaPrepIdeal.nD) → Buf (Elt Ideal) ((c.tc : Thread Cert.MlaPrepIdeal.nD Cert.MlaPrepIdeal.τ).loc Cert.MlaPrepIdeal.main_v22_0)) (v1 : (c : Dev Cert.MlaPrepIdeal.nD) → Buf (Elt Ideal) ((c.tc : Thread Cert.MlaPrepIdeal.nD Cert.MlaPrepIdeal.τ).loc Cert.MlaPrepIdeal.main_v22_1)) (v2 : (c : Dev Cert.MlaPrepIdeal.nD) → Buf (Elt Ideal) ((c.tc : Thread Cert.MlaPrepIdeal.nD Cert.MlaPrepIdeal.τ).loc Cert.MlaPrepIdeal.main_v22_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v22_0) = v0 c
          ∧ r.2.mem ((c.tc : Thread Cert.MlaPrepIdeal.nD Cert.MlaPrepIdeal.τ).loc Cert.MlaPrepIdeal.main_v22_1) = v1 c
          ∧ r.2.mem ((c.tc : Thread Cert.MlaPrepIdeal.nD Cert.MlaPrepIdeal.τ).loc Cert.MlaPrepIdeal.main_v22_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v68) = v0 c
          ∧ r.2.mem ((c.tc : Thread Cert.MlaPrepRefIdeal.nD Cert.MlaPrepRefIdeal.τ).loc Cert.MlaPrepRefIdeal.main_v69) = v1 c
          ∧ r.2.mem ((c.tc : Thread Cert.MlaPrepRefIdeal.nD Cert.MlaPrepRefIdeal.τ).loc Cert.MlaPrepRefIdeal.main_v70) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v3) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v73) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Ret_RetIdeal : Prop :=
  True

def algebraic_RetIdeal_RetRefIdeal_pre_retained_finite [hRetIdeal : Cert.RetIdeal.Facts] [hRetRefIdeal : Cert.RetRefIdeal.Facts] [hPre_retained_finite : Cert.Pre_retained_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_retained_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v7)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v7) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v104) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Tables_TablesIdeal : Prop :=
  True

def algebraic_TablesIdeal_TablesRefIdeal [hTablesIdeal : Cert.TablesIdeal.Facts] [hTablesRefIdeal : Cert.TablesRefIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesRefIdeal.nD Cert.TablesRefIdeal.τ Cert.TablesRefIdeal.sig) → Buf (Elt Ideal) ℓ) (g' : Dev Cert.TablesRefIdeal.nD → PrngReg), Pre_TablesIdeal m →
    (∀ c : Dev Cert.TablesIdeal.nD,
      m' ((c.tc : Thread Cert.TablesRefIdeal.nD Cert.TablesRefIdeal.τ).loc Cert.TablesRefIdeal.main_arg0) = m ((c.tc : Thread Cert.TablesIdeal.nD Cert.TablesIdeal.τ).loc Cert.TablesIdeal.main_arg0)) →
    ∃ (v0 : (c : Dev Cert.TablesIdeal.nD) → Buf (Elt Ideal) ((c.tc : Thread Cert.TablesIdeal.nD Cert.TablesIdeal.τ).loc Cert.TablesIdeal.main_v32_0)) (v1 : (c : Dev Cert.TablesIdeal.nD) → Buf (Elt Ideal) ((c.tc : Thread Cert.TablesIdeal.nD Cert.TablesIdeal.τ).loc Cert.TablesIdeal.main_v32_1)) (v2 : (c : Dev Cert.TablesIdeal.nD) → Buf (Elt Ideal) ((c.tc : Thread Cert.TablesIdeal.nD Cert.TablesIdeal.τ).loc Cert.TablesIdeal.main_v32_2)) (v3 : (c : Dev Cert.TablesIdeal.nD) → Buf (Elt Ideal) ((c.tc : Thread Cert.TablesIdeal.nD Cert.TablesIdeal.τ).loc Cert.TablesIdeal.main_v32_3)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v32_0) = v0 c
          ∧ r.2.mem ((c.tc : Thread Cert.TablesIdeal.nD Cert.TablesIdeal.τ).loc Cert.TablesIdeal.main_v32_1) = v1 c
          ∧ r.2.mem ((c.tc : Thread Cert.TablesIdeal.nD Cert.TablesIdeal.τ).loc Cert.TablesIdeal.main_v32_2) = v2 c
          ∧ r.2.mem ((c.tc : Thread Cert.TablesIdeal.nD Cert.TablesIdeal.τ).loc Cert.TablesIdeal.main_v32_3) = v3 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ θ_run (Cert.TablesRefIdeal.defs (F := Ideal)) (onTc (τ := Cert.TablesRefIdeal.τ) (Cert.TablesRefIdeal.main (F := Ideal))) ⟨m', fun _ => 0, g'⟩ (fun r => ∀ c : Dev Cert.TablesRefIdeal.nD,
          r.2.mem ((c.tc : Thread Cert.TablesRefIdeal.nD Cert.TablesRefIdeal.τ).loc Cert.TablesRefIdeal.main_v37) = v0 c
          ∧ r.2.mem ((c.tc : Thread Cert.TablesRefIdeal.nD Cert.TablesRefIdeal.τ).loc Cert.TablesRefIdeal.main_v39) = v1 c
          ∧ r.2.mem ((c.tc : Thread Cert.TablesRefIdeal.nD Cert.TablesRefIdeal.τ).loc Cert.TablesRefIdeal.main_v34) = v2 c
          ∧ r.2.mem ((c.tc : Thread Cert.TablesRefIdeal.nD Cert.TablesRefIdeal.τ).loc Cert.TablesRefIdeal.main_v35) = v3 c
          ∧ r.2.mem ((c.tc : Thread Cert.TablesRefIdeal.nD Cert.TablesRefIdeal.τ).loc Cert.TablesRefIdeal.main_arg0) = m' ((c.tc : Thread Cert.TablesRefIdeal.nD Cert.TablesRefIdeal.τ).loc Cert.TablesRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInRet : Cert.InRet.Facts) (hInRetIdeal : Cert.InRetIdeal.Facts) (hInRetRefIdeal : Cert.InRetRefIdeal.Facts) (hInGm : Cert.InGm.Facts) (hInGmIdeal : Cert.InGmIdeal.Facts) (hInGmRefIdeal : Cert.InGmRefIdeal.Facts) (hInMla : Cert.InMla.Facts) (hInMlaIdeal : Cert.InMlaIdeal.Facts) (hInMlaRefIdeal : Cert.InMlaRefIdeal.Facts) (hMlaPrep : Cert.MlaPrep.Facts) (hMlaPrepIdeal : Cert.MlaPrepIdeal.Facts) (hMlaPrepRefIdeal : Cert.MlaPrepRefIdeal.Facts) (hGmlp : Cert.Gmlp.Facts) (hGmlpIdeal : Cert.GmlpIdeal.Facts) (hGmlpRefIdeal : Cert.GmlpRefIdeal.Facts) (hRet : Cert.Ret.Facts) (hRetIdeal : Cert.RetIdeal.Facts) (hRetRefIdeal : Cert.RetRefIdeal.Facts) (hNorm : Cert.Norm.Facts) (hNormIdeal : Cert.NormIdeal.Facts) (hNormRefIdeal : Cert.NormRefIdeal.Facts) (hTables : Cert.Tables.Facts) (hTablesIdeal : Cert.TablesIdeal.Facts) (hTablesRefIdeal : Cert.TablesRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hPre_attn_args : Cert.Pre_attn_args.Facts) (hPre_rotary_finite : Cert.Pre_rotary_finite.Facts) (hPre_queries_finite : Cert.Pre_queries_finite.Facts) (hPre_retained_finite : Cert.Pre_retained_finite.Facts),
    quiescent_Kernel (hKernel := hKernel)
    ∧ quiescent_KernelIdeal (hKernelIdeal := hKernelIdeal)
    ∧ quiescent_KernelIdeal_pre_attn_args (hKernelIdeal := hKernelIdeal) (hPre_attn_args := hPre_attn_args)
    ∧ quiescent_ReferenceIdeal (hReferenceIdeal := hReferenceIdeal)
    ∧ quiescent_ReferenceIdeal_pre_attn_args (hReferenceIdeal := hReferenceIdeal) (hPre_attn_args := hPre_attn_args)
    ∧ quiescent_Ffn (hFfn := hFfn)
    ∧ quiescent_FfnIdeal (hFfnIdeal := hFfnIdeal)
    ∧ quiescent_FfnRefIdeal (hFfnRefIdeal := hFfnRefIdeal)
    ∧ quiescent_InRet (hInRet := hInRet)
    ∧ quiescent_InRetIdeal (hInRetIdeal := hInRetIdeal)
    ∧ quiescent_InRetRefIdeal (hInRetRefIdeal := hInRetRefIdeal)
    ∧ quiescent_InGm (hInGm := hInGm)
    ∧ quiescent_InGmIdeal (hInGmIdeal := hInGmIdeal)
    ∧ quiescent_InGmRefIdeal (hInGmRefIdeal := hInGmRefIdeal)
    ∧ quiescent_InMla (hInMla := hInMla)
    ∧ quiescent_InMlaIdeal (hInMlaIdeal := hInMlaIdeal)
    ∧ quiescent_InMlaIdeal_pre_rotary_finite (hInMlaIdeal := hInMlaIdeal) (hPre_rotary_finite := hPre_rotary_finite)
    ∧ quiescent_InMlaRefIdeal (hInMlaRefIdeal := hInMlaRefIdeal)
    ∧ quiescent_InMlaRefIdeal_pre_rotary_finite (hInMlaRefIdeal := hInMlaRefIdeal) (hPre_rotary_finite := hPre_rotary_finite)
    ∧ quiescent_MlaPrep (hMlaPrep := hMlaPrep)
    ∧ quiescent_MlaPrepIdeal (hMlaPrepIdeal := hMlaPrepIdeal)
    ∧ quiescent_MlaPrepIdeal_pre_queries_finite (hMlaPrepIdeal := hMlaPrepIdeal) (hPre_queries_finite := hPre_queries_finite)
    ∧ quiescent_MlaPrepRefIdeal (hMlaPrepRefIdeal := hMlaPrepRefIdeal)
    ∧ quiescent_MlaPrepRefIdeal_pre_queries_finite (hMlaPrepRefIdeal := hMlaPrepRefIdeal) (hPre_queries_finite := hPre_queries_finite)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Ret (hRet := hRet)
    ∧ quiescent_RetIdeal (hRetIdeal := hRetIdeal)
    ∧ quiescent_RetIdeal_pre_retained_finite (hRetIdeal := hRetIdeal) (hPre_retained_finite := hPre_retained_finite)
    ∧ quiescent_RetRefIdeal (hRetRefIdeal := hRetRefIdeal)
    ∧ quiescent_RetRefIdeal_pre_retained_finite (hRetRefIdeal := hRetRefIdeal) (hPre_retained_finite := hPre_retained_finite)
    ∧ quiescent_Norm (hNorm := hNorm)
    ∧ quiescent_NormIdeal (hNormIdeal := hNormIdeal)
    ∧ quiescent_NormRefIdeal (hNormRefIdeal := hNormRefIdeal)
    ∧ quiescent_Tables (hTables := hTables)
    ∧ quiescent_TablesIdeal (hTablesIdeal := hTablesIdeal)
    ∧ quiescent_TablesRefIdeal (hTablesRefIdeal := hTablesRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Kernel_KernelIdeal
    ∧ algebraic_KernelIdeal_ReferenceIdeal_pre_attn_args (hKernelIdeal := hKernelIdeal) (hReferenceIdeal := hReferenceIdeal) (hPre_attn_args := hPre_attn_args)
    ∧ preserves_Ffn_FfnIdeal
    ∧ algebraic_FfnIdeal_FfnRefIdeal (hFfnIdeal := hFfnIdeal) (hFfnRefIdeal := hFfnRefIdeal)
    ∧ preserves_InRet_InRetIdeal
    ∧ algebraic_InRetIdeal_InRetRefIdeal (hInRetIdeal := hInRetIdeal) (hInRetRefIdeal := hInRetRefIdeal)
    ∧ preserves_InGm_InGmIdeal
    ∧ algebraic_InGmIdeal_InGmRefIdeal (hInGmIdeal := hInGmIdeal) (hInGmRefIdeal := hInGmRefIdeal)
    ∧ preserves_InMla_InMlaIdeal
    ∧ algebraic_InMlaIdeal_InMlaRefIdeal_pre_rotary_finite (hInMlaIdeal := hInMlaIdeal) (hInMlaRefIdeal := hInMlaRefIdeal) (hPre_rotary_finite := hPre_rotary_finite)
    ∧ preserves_MlaPrep_MlaPrepIdeal
    ∧ algebraic_MlaPrepIdeal_MlaPrepRefIdeal_pre_queries_finite (hMlaPrepIdeal := hMlaPrepIdeal) (hMlaPrepRefIdeal := hMlaPrepRefIdeal) (hPre_queries_finite := hPre_queries_finite)
    ∧ preserves_Gmlp_GmlpIdeal
    ∧ algebraic_GmlpIdeal_GmlpRefIdeal (hGmlpIdeal := hGmlpIdeal) (hGmlpRefIdeal := hGmlpRefIdeal)
    ∧ preserves_Ret_RetIdeal
    ∧ algebraic_RetIdeal_RetRefIdeal_pre_retained_finite (hRetIdeal := hRetIdeal) (hRetRefIdeal := hRetRefIdeal) (hPre_retained_finite := hPre_retained_finite)
    ∧ preserves_Norm_NormIdeal
    ∧ algebraic_NormIdeal_NormRefIdeal (hNormIdeal := hNormIdeal) (hNormRefIdeal := hNormRefIdeal)
    ∧ preserves_Tables_TablesIdeal
    ∧ algebraic_TablesIdeal_TablesRefIdeal (hTablesIdeal := hTablesIdeal) (hTablesRefIdeal := hTablesRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
-- ==== Pre_attn_args.lean ====
abbrev S16384x4096 : Shape := ⟨2, ![16384, 4096]⟩
abbrev S16384x128 : Shape := ⟨2, ![16384, 128]⟩
abbrev S16384x16x256 : Shape := ⟨3, ![16384, 16, 256]⟩
abbrev S16384x16x192 : Shape := ⟨3, ![16384, 16, 192]⟩
abbrev S16384x16x128 : Shape := ⟨3, ![16384, 16, 128]⟩
abbrev S16384x64 : Shape := ⟨2, ![16384, 64]⟩
abbrev S_ : Shape := ⟨0, ![]⟩
abbrev S16384x3072 : Shape := ⟨2, ![16384, 3072]⟩
abbrev S16384x2048 : Shape := ⟨2, ![16384, 2048]⟩
abbrev S16384x5248 : Shape := ⟨2, ![16384, 5248]⟩

class Facts : Prop where
  bitsLt_bf16_f32 : FTy.bits .bf16 < FTy.bits .f32
  shapeCasts_S16384x4096_S16384x16x256 : S16384x4096.ShapeCasts S16384x16x256
  slices_S16384x16x256_S16384x16x192_0_0_0 : S16384x16x256.Slices ![0, 0, 0] S16384x16x192
  slices_S16384x16x256_S16384x16x128_0_0_0 : S16384x16x256.Slices ![0, 0, 0] S16384x16x128
  slices_S16384x128_S16384x64_0_0 : S16384x128.Slices ![0, 0] S16384x64
  bcast_S_S16384x16x192 : S_.BroadcastsInDim S16384x16x192 (![] : Fin 0 → Fin S16384x16x192.rank)
  shapeCasts_S16384x16x192_S16384x3072 : S16384x16x192.ShapeCasts S16384x3072
  bcast_S_S16384x16x128 : S_.BroadcastsInDim S16384x16x128 (![] : Fin 0 → Fin S16384x16x128.rank)
  shapeCasts_S16384x16x128_S16384x2048 : S16384x16x128.ShapeCasts S16384x2048
  bcast_S_S16384x64 : S_.BroadcastsInDim S16384x64 (![] : Fin 0 → Fin S16384x64.rank)
  slices_S16384x128_S16384x64_0_64 : S16384x128.Slices ![0, 64] S16384x64
  concatenates_S16384x3072_S16384x2048_S16384x64_S16384x64_S16384x5248_d1 : Shape.Concatenates [S16384x3072, S16384x2048, S16384x64, S16384x64] S16384x5248 1

variable [Facts]

def fn_part1 {F : FTy → Type} [FloatOps F] (main_v11 : IVec S16384x3072 1) (main_v15 : IVec S16384x2048 1) (main_v18 : IVec S16384x64 1) (main_v19 : FVec F S16384x64 .bf16) (main_cst_2 : FVec F S_ .bf16) : IVec S16384x5248 1 :=
  let main_v20 : FVec F S16384x64 .bf16 := broadcastInDim S16384x64 ![] bcast_S_S16384x64 main_cst_2
  let main_v21 : IVec S16384x64 1 := cmpf .oeq main_v19 main_v20
  let main_v22 : IVec S16384x5248 1 := concatenate S16384x5248 1 [⟨S16384x3072, main_v11⟩, ⟨S16384x2048, main_v15⟩, ⟨S16384x64, main_v18⟩, ⟨S16384x64, main_v21⟩] concatenates_S16384x3072_S16384x2048_S16384x64_S16384x64_S16384x5248_d1
  main_v22

def fn {F : FTy → Type} [FloatOps F] (main_arg0 : FVec F S16384x4096 .bf16) (main_arg1 : FVec F S16384x4096 .bf16) (main_arg2 : FVec F S16384x128 .bf16) : IVec S16384x5248 1 :=
  let main_v0 : FVec F S16384x4096 .f32 := (extf .f32 · bitsLt_bf16_f32) main_arg0
  let main_v1 : FVec F S16384x16x256 .f32 := shapeCast S16384x16x256 main_v0 shapeCasts_S16384x4096_S16384x16x256
  let main_v2 : FVec F S16384x16x192 .f32 := (extractStridedSlice S16384x16x192 ![0, 0, 0] · slices_S16384x16x256_S16384x16x192_0_0_0) main_v1
  let main_v3 : FVec F S16384x4096 .f32 := (extf .f32 · bitsLt_bf16_f32) main_arg1
  let main_v4 : FVec F S16384x16x256 .f32 := shapeCast S16384x16x256 main_v3 shapeCasts_S16384x4096_S16384x16x256
  let main_v5 : FVec F S16384x16x128 .f32 := (extractStridedSlice S16384x16x128 ![0, 0, 0] · slices_S16384x16x256_S16384x16x128_0_0_0) main_v4
  let main_v6 : FVec F S16384x128 .f32 := (extf .f32 · bitsLt_bf16_f32) main_arg2
  let main_v7 : FVec F S16384x64 .f32 := (extractStridedSlice S16384x64 ![0, 0] · slices_S16384x128_S16384x64_0_0) main_v6
  let main_v8 : FVec F S16384x16x192 .f32 := Host.absf main_v2
  let main_cst : FVec F S_ .f32 := constant S_ .f32 0x7F800000#32
  let main_v9 : FVec F S16384x16x192 .f32 := broadcastInDim S16384x16x192 ![] bcast_S_S16384x16x192 main_cst
  let main_v10 : IVec S16384x16x192 1 := cmpf .olt main_v8 main_v9
  let main_v11 : IVec S16384x3072 1 := shapeCast S16384x3072 main_v10 shapeCasts_S16384x16x192_S16384x3072
  let main_v12 : FVec F S16384x16x128 .f32 := Host.absf main_v5
  let main_cst_0 : FVec F S_ .f32 := constant S_ .f32 0x7F800000#32
  let main_v13 : FVec F S16384x16x128 .f32 := broadcastInDim S16384x16x128 ![] bcast_S_S16384x16x128 main_cst_0
  let main_v14 : IVec S16384x16x128 1 := cmpf .olt main_v12 main_v13
  let main_v15 : IVec S16384x2048 1 := shapeCast S16384x2048 main_v14 shapeCasts_S16384x16x128_S16384x2048
  let main_v16 : FVec F S16384x64 .f32 := Host.absf main_v7
  let main_cst_1 : FVec F S_ .f32 := constant S_ .f32 0x7F800000#32
  let main_v17 : FVec F S16384x64 .f32 := broadcastInDim S16384x64 ![] bcast_S_S16384x64 main_cst_1
  let main_v18 : IVec S16384x64 1 := cmpf .olt main_v16 main_v17
  let main_v19 : FVec F S16384x64 .bf16 := (extractStridedSlice S16384x64 ![0, 64] · slices_S16384x128_S16384x64_0_64) main_arg2
  let main_cst_2 : FVec F S_ .bf16 := constant S_ .bf16 0x0000#16
  fn_part1 (F := F) main_v11 main_v15 main_v18 main_v19 main_cst_2
-- ==== Pre_queries_finite.lean ====
abbrev S16384x1088 : Shape := ⟨2, ![16384, 1088]⟩
abbrev S512 : Shape := ⟨1, ![512]⟩
abbrev S512x3072 : Shape := ⟨2, ![512, 3072]⟩
abbrev S512x4096 : Shape := ⟨2, ![512, 4096]⟩
abbrev S16384x32 : Shape := ⟨2, ![16384, 32]⟩
abbrev S512x16x192 : Shape := ⟨3, ![512, 16, 192]⟩
abbrev S512x16x64 : Shape := ⟨3, ![512, 16, 64]⟩
abbrev S512x1024 : Shape := ⟨2, ![512, 1024]⟩
abbrev S1024x512 : Shape := ⟨2, ![1024, 512]⟩
abbrev S1x512 : Shape := ⟨2, ![1, 512]⟩
abbrev S_ : Shape := ⟨0, ![]⟩
abbrev S1025x512 : Shape := ⟨2, ![1025, 512]⟩

class Facts : Prop where
  shapeCasts_S512x3072_S512x16x192 : S512x3072.ShapeCasts S512x16x192
  slices_S512x16x192_S512x16x64_0_0_128 : S512x16x192.Slices ![0, 0, 128] S512x16x64
  shapeCasts_S512x16x64_S512x1024 : S512x16x64.ShapeCasts S512x1024
  transposes_S512x1024_S1024x512_1_0 : S512x1024.Transposes [1, 0] S1024x512
  shapeCasts_S512_S1x512 : S512.ShapeCasts S1x512
  bcast_S_S1x512 : S_.BroadcastsInDim S1x512 (![] : Fin 0 → Fin S1x512.rank)
  bcast_S_S1024x512 : S_.BroadcastsInDim S1024x512 (![] : Fin 0 → Fin S1024x512.rank)
  concatenates_S1x512_S1024x512_S1025x512_d0 : Shape.Concatenates [S1x512, S1024x512] S1025x512 0

variable [Facts]

def fn {F : FTy → Type} [FloatOps F] (main_arg0 : FVec F S16384x1088 .bf16) (main_arg1 : FVec F S512 .f32) (main_arg2 : FVec F S512x3072 .f32) (main_arg3 : FVec F S512 .f32) (main_arg4 : FVec F S512x4096 .f32) (main_arg5 : FVec F S16384x32 .f32) (main_arg6 : FVec F S16384x32 .f32) : IVec S1025x512 1 :=
  let main_v0 : FVec F S512x16x192 .f32 := shapeCast S512x16x192 main_arg2 shapeCasts_S512x3072_S512x16x192
  let main_v1 : FVec F S512x16x64 .f32 := (extractStridedSlice S512x16x64 ![0, 0, 128] · slices_S512x16x192_S512x16x64_0_0_128) main_v0
  let main_v2 : FVec F S512x1024 .f32 := shapeCast S512x1024 main_v1 shapeCasts_S512x16x64_S512x1024
  let main_v3 : FVec F S1024x512 .f32 := (transpose S1024x512 [1, 0] · transposes_S512x1024_S1024x512_1_0) main_v2
  let main_v4 : FVec F S1x512 .f32 := shapeCast S1x512 main_arg1 shapeCasts_S512_S1x512
  let main_v5 : FVec F S1x512 .f32 := Host.absf main_v4
  let main_cst : FVec F S_ .f32 := constant S_ .f32 0x7F800000#32
  let main_v6 : FVec F S1x512 .f32 := broadcastInDim S1x512 ![] bcast_S_S1x512 main_cst
  let main_v7 : IVec S1x512 1 := cmpf .olt main_v5 main_v6
  let main_v8 : FVec F S1024x512 .f32 := Host.absf main_v3
  let main_cst_0 : FVec F S_ .f32 := constant S_ .f32 0x7F800000#32
  let main_v9 : FVec F S1024x512 .f32 := broadcastInDim S1024x512 ![] bcast_S_S1024x512 main_cst_0
  let main_v10 : IVec S1024x512 1 := cmpf .olt main_v8 main_v9
  let main_v11 : IVec S1025x512 1 := (fun a b => concatenate S1025x512 0 [⟨S1x512, a⟩, ⟨S1024x512, b⟩] concatenates_S1x512_S1024x512_S1025x512_d0) main_v7 main_v10
  main_v11
-- ==== Pre_retained_finite.lean ====
abbrev S16384x8192 : Shape := ⟨2, ![16384, 8192]⟩
abbrev S16384x128 : Shape := ⟨2, ![16384, 128]⟩
abbrev S16384x6144 : Shape := ⟨2, ![16384, 6144]⟩
abbrev S_ : Shape := ⟨0, ![]⟩
abbrev S16384x6400 : Shape := ⟨2, ![16384, 6400]⟩

class Facts : Prop where
  slices_S16384x8192_S16384x6144_0_0 : S16384x8192.Slices ![0, 0] S16384x6144
  bitsLt_bf16_f32 : FTy.bits .bf16 < FTy.bits .f32
  bcast_S_S16384x6144 : S_.BroadcastsInDim S16384x6144 (![] : Fin 0 → Fin S16384x6144.rank)
  bcast_S_S16384x128 : S_.BroadcastsInDim S16384x128 (![] : Fin 0 → Fin S16384x128.rank)
  concatenates_S16384x6144_S16384x128_S16384x128_S16384x6400_d1 : Shape.Concatenates [S16384x6144, S16384x128, S16384x128] S16384x6400 1

variable [Facts]

def fn {F : FTy → Type} [FloatOps F] (main_arg0 : FVec F S16384x8192 .bf16) (main_arg1 : FVec F S16384x128 .f32) (main_arg2 : FVec F S16384x128 .f32) : IVec S16384x6400 1 :=
  let main_v0 : FVec F S16384x6144 .bf16 := (extractStridedSlice S16384x6144 ![0, 0] · slices_S16384x8192_S16384x6144_0_0) main_arg0
  let main_v1 : FVec F S16384x6144 .f32 := (extf .f32 · bitsLt_bf16_f32) main_v0
  let main_v2 : FVec F S16384x6144 .f32 := Host.absf main_v1
  let main_cst : FVec F S_ .f32 := constant S_ .f32 0x7F800000#32
  let main_v3 : FVec F S16384x6144 .f32 := broadcastInDim S16384x6144 ![] bcast_S_S16384x6144 main_cst
  let main_v4 : IVec S16384x6144 1 := cmpf .olt main_v2 main_v3
  let main_v5 : FVec F S16384x128 .f32 := Host.absf main_arg1
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  let main_v8 : FVec F S16384x128 .f32 := Host.absf main_arg2
  let main_cst_1 : FVec F S_ .f32 := constant S_ .f32 0x7F800000#32
  let main_v9 : FVec F S16384x128 .f32 := broadcastInDim S16384x128 ![] bcast_S_S16384x128 main_cst_1
  let main_v10 : IVec S16384x128 1 := cmpf .olt main_v8 main_v9
  let main_v11 : IVec S16384x6400 1 := concatenate S16384x6400 1 [⟨S16384x6144, main_v4⟩, ⟨S16384x128, main_v7⟩, ⟨S16384x128, main_v10⟩] concatenates_S16384x6144_S16384x128_S16384x128_S16384x6400_d1
  main_v11
-- ==== Pre_rotary_finite.lean ====
abbrev S16384x2048 : Shape := ⟨2, ![16384, 2048]⟩
abbrev S2048x13376 : Shape := ⟨2, ![2048, 13376]⟩
abbrev S2048x64 : Shape := ⟨2, ![2048, 64]⟩
abbrev S64x2048 : Shape := ⟨2, ![64, 2048]⟩
abbrev S_ : Shape := ⟨0, ![]⟩
abbrev S16448x2048 : Shape := ⟨2, ![16448, 2048]⟩

class Facts : Prop where
  slices_S2048x13376_S2048x64_0_1024 : S2048x13376.Slices ![0, 1024] S2048x64
  transposes_S2048x64_S64x2048_1_0 : S2048x64.Transposes [1, 0] S64x2048
  bitsLt_bf16_f32 : FTy.bits .bf16 < FTy.bits .f32
  bcast_S_S16384x2048 : S_.BroadcastsInDim S16384x2048 (![] : Fin 0 → Fin S16384x2048.rank)
  bcast_S_S64x2048 : S_.BroadcastsInDim S64x2048 (![] : Fin 0 → Fin S64x2048.rank)
  concatenates_S16384x2048_S64x2048_S16448x2048_d0 : Shape.Concatenates [S16384x2048, S64x2048] S16448x2048 0

variable [Facts]

def fn {F : FTy → Type} [FloatOps F] (main_arg0 : FVec F S16384x2048 .bf16) (main_arg1 : FVec F S2048x13376 .f32) : IVec S16448x2048 1 :=
  let main_v0 : FVec F S2048x64 .f32 := (extractStridedSlice S2048x64 ![0, 1024] · slices_S2048x13376_S2048x64_0_1024) main_arg1
  let main_v1 : FVec F S64x2048 .f32 := (transpose S64x2048 [1, 0] · transposes_S2048x64_S64x2048_1_0) main_v0
  let main_v2 : FVec F S16384x2048 .f32 := (extf .f32 · bitsLt_bf16_f32) main_arg0
  let main_v3 : FVec F S16384x2048 .f32 := Host.absf main_v2
  let main_cst : FVec F S_ .f32 := constant S_ .f32 0x7F800000#32
  let main_v4 : FVec F S16384x2048 .f32 := broadcastInDim S16384x2048 ![] bcast_S_S16384x2048 main_cst
  let main_v5 : IVec S16384x2048 1 := cmpf .olt main_v3 main_v4
  let main_v6 : FVec F S64x2048 .f32 := Host.absf main_v1
  let main_cst_0 : FVec F S_ .f32 := constant S_ .f32 0x7F800000#32
  let main_v7 : FVec F S64x2048 .f32 := broadcastInDim S64x2048 ![] bcast_S_S64x2048 main_cst_0
  let main_v8 : IVec S64x2048 1 := cmpf .olt main_v6 main_v7
  let main_v9 : IVec S16448x2048 1 := (fun a b => concatenate S16448x2048 0 [⟨S16384x2048, a⟩, ⟨S64x2048, b⟩] concatenates_S16384x2048_S64x2048_S16448x2048_d0) main_v5 main_v8
  main_v9
-- ==== Kernel.lean ====
abbrev S16384x4096 : Shape := ⟨2, ![16384, 4096]⟩
abbrev S16384x128 : Shape := ⟨2, ![16384, 128]⟩
abbrev S4x4096x4096 : Shape := ⟨3, ![4, 4096, 4096]⟩
abbrev S4x4096x128 : Shape := ⟨3, ![4, 4096, 128]⟩
abbrev S16384x2048 : Shape := ⟨2, ![16384, 2048]⟩
abbrev S256x256 : Shape := ⟨2, ![256, 256]⟩
abbrev S1x4096x256 : Shape := ⟨3, ![1, 4096, 256]⟩
abbrev S1x4096x128 : Shape := ⟨3, ![1, 4096, 128]⟩
abbrev S256x128 : Shape := ⟨2, ![256, 128]⟩
abbrev S256x1 : Shape := ⟨2, ![256, 1]⟩
abbrev S1x256x128 : Shape := ⟨3, ![1, 256, 128]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x128, .bf16⟩
  | .hbm, ⟨3, _⟩ => ⟨S4x4096x4096, .bf16⟩
  | .hbm, ⟨4, _⟩ => ⟨S4x4096x128, .bf16⟩
  | .hbm, ⟨5, _⟩ => ⟨S16384x2048, .bf16⟩
  | .local _ .vmem, ⟨0, _⟩ => ⟨S256x256, .bf16⟩
  | .local _ .vmem, ⟨1, _⟩ => ⟨S256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .bf16⟩
  | .local _ .vmem, ⟨7, _⟩ => ⟨S256x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

@[reducible] def k0_t1_loop (i : grid0.Coords) : Scf.Loop 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c256_i32_31 : BitVec 32 := 256#32
  let v100 : BitVec 32 := Scalar.muli arg7 c256_i32_31
  v100
def k0_off1 (i : grid0.Coords) (k0_t1 : Fin (k0_t1_loop i).trips) : Fin 3 → Nat :=
  let c0_32 : Index := 0#32
  let c0_i32 : BitVec 32 := 0#32
  let c1_i32_3 : BitVec 32 := 1#32
  let arg7 : BitVec 32 := Scf.iv c0_i32 c1_i32_3 k0_t1
  let c256_i32_31 : BitVec 32 := 256#32
  let v100 : BitVec 32 := Scalar.muli arg7 c256_i32_31
  let v101 : BitVec 32 := v100
  let v102 : Index := Scalar.indexCast v101
  let c0_33 : Index := 0#32
  ![0, v102.toNat, 0]
def k0_off2 (i : grid0.Coords) (k0_t1 : Fin (k0_t1_loop i).trips) : Fin 3 → Nat :=
  let c0_34 : Index := 0#32
  let c0_i32 : BitVec 32 := 0#32
  let c1_i32_3 : BitVec 32 := 1#32
  let arg7 : BitVec 32 := Scf.iv c0_i32 c1_i32_3 k0_t1
  let c256_i32_31 : BitVec 32 := 256#32
  let v100 : BitVec 32 := Scalar.muli arg7 c256_i32_31
  let v101 : BitVec 32 := v100
  let v105 : Index := Scalar.indexCast v101
  let c0_35 : Index := 0#32
  ![0, v105.toNat, 0]
def k0_off3 (i : grid0.Coords) (k0_t1 : Fin (k0_t1_loop i).trips) : Fin 3 → Nat :=
  let c0_40 : Index := 0#32
  let c0_i32 : BitVec 32 := 0#32
  let c1_i32_3 : BitVec 32 := 1#32
  let arg7 : BitVec 32 := Scf.iv c0_i32 c1_i32_3 k0_t1
  let c256_i32_31 : BitVec 32 := 256#32
  let v100 : BitVec 32 := Scalar.muli arg7 c256_i32_31
  let v101 : BitVec 32 := v100
  let v124 : Index := Scalar.indexCast v101
  let c128_41 : Index := 128#32
  ![0, v124.toNat, 128]
@[reducible] def k0_t2_loop (i : grid0.Coords) : Scf.Loop 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c256_i32_31 : BitVec 32 := 256#32
  let v100 : BitVec 32 := Scalar.muli arg7 c256_i32_31
  v100
def k0_off4 (i : grid0.Coords) (k0_t2 : Fin (k0_t2_loop i).trips) : Fin 3 → Nat :=
  let c0_32 : Index := 0#32
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c256_i32_31 : BitVec 32 := 256#32
  let v100 : BitVec 32 := Scalar.muli arg7 c256_i32_31
  let v101 : BitVec 32 := v100
  let v102 : Index := Scalar.indexCast v101
  let c0_33 : Index := 0#32
  ![0, v102.toNat, 0]
def k0_off5 (i : grid0.Coords) (k0_t2 : Fin (k0_t2_loop i).trips) : Fin 3 → Nat :=
  let c0_34 : Index := 0#32
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c256_i32_31 : BitVec 32 := 256#32
  let v100 : BitVec 32 := Scalar.muli arg7 c256_i32_31
  let v101 : BitVec 32 := v100
  let v105 : Index := Scalar.indexCast v101
  let c0_35 : Index := 0#32
  ![0, v105.toNat, 0]
def k0_off6 (i : grid0.Coords) (k0_t2 : Fin (k0_t2_loop i).trips) : Fin 3 → Nat :=
  let c0_40 : Index := 0#32
  let c0_i32 : BitVec 32 := 0#32
  let arg2 : BitVec 32 := BitVec.ofNat 32 (i 2).val
  let v4 : BitVec 32 := Scalar.subi arg2 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg7 : BitVec 32 := Scf.iv v8 c1_i32_4 k0_t2
  let c256_i32_31 : BitVec 32 := 256#32
  let v100 : BitVec 32 := Scalar.muli arg7 c256_i32_31
  let v101 : BitVec 32 := v100
  let v124 : Index := Scalar.indexCast v101
  let c128_41 : Index := 128#32
  ![0, v124.toNat, 128]
def k0_mult3 (i : grid0.Coords) : BitVec 32 :=
  let arg2 : BitVec 32 := BitVec.ofNat 32 (i 2).val
  let c256_i32 : BitVec 32 := 256#32
  let v11 : BitVec 32 := Scalar.muli arg2 c256_i32
  v11
def k0_off7 (i : grid0.Coords) : Fin 3 → Nat :=
  let c0_18 : Index := 0#32
  let arg2 : BitVec 32 := BitVec.ofNat 32 (i 2).val
  let c256_i32 : BitVec 32 := 256#32
  let v11 : BitVec 32 := Scalar.muli arg2 c256_i32
  let v12 : BitVec 32 := v11
  let v64 : Index := Scalar.indexCast v12
  let c0_19 : Index := 0#32
  ![0, v64.toNat, 0]
def k0_off8 (i : grid0.Coords) : Fin 3 → Nat :=
  let c0_20 : Index := 0#32
  let arg2 : BitVec 32 := BitVec.ofNat 32 (i 2).val
  let c256_i32 : BitVec 32 := 256#32
  let v11 : BitVec 32 := Scalar.muli arg2 c256_i32
  let v12 : BitVec 32 := v11
  let v67 : Index := Scalar.indexCast v12
  let c0_21 : Index := 0#32
  ![0, v67.toNat, 0]
def k0_off9 (i : grid0.Coords) : Fin 3 → Nat :=
  let c0_27 : Index := 0#32
  let arg2 : BitVec 32 := BitVec.ofNat 32 (i 2).val
  let c256_i32 : BitVec 32 := 256#32
  let v11 : BitVec 32 := Scalar.muli arg2 c256_i32
  let v12 : BitVec 32 := v11
  let v88 : Index := Scalar.indexCast v12
  let c128 : Index := 128#32
  ![0, v88.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x4096 : Shape := ⟨2, ![16384, 4096]⟩
abbrev S16384x128 : Shape := ⟨2, ![16384, 128]⟩
abbrev S4x4096x16x256 : Shape := ⟨4, ![4, 4096, 16, 256]⟩
abbrev S4x4096x128 : Shape := ⟨3, ![4, 4096, 128]⟩
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4096 : Shape := ⟨1, ![4096]⟩
abbrev S_ : Shape := ⟨0, ![]⟩
abbrev S4x16x4096x4096 : Shape := ⟨4, ![4, 16, 4096, 4096]⟩
abbrev S4x4096x4096x16 : Shape := ⟨4, ![4, 4096, 4096, 16]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x128, .bf16⟩
  | .hbm, ⟨3, _⟩ => ⟨S16384x4096, .f32⟩
  | .hbm, ⟨4, _⟩ => ⟨S4x4096x16x256, .f32⟩
  | .hbm, ⟨5, _⟩ => ⟨S16384x4096, .f32⟩
  | .hbm, ⟨6, _⟩ => ⟨S4x4096x16x256, .f32⟩
  | .hbm, ⟨7, _⟩ => ⟨S16384x128, .f32⟩
  | .hbm, ⟨8, _⟩ => ⟨S4x4096x128, .f32⟩
  | .hbm, ⟨9, _⟩ => ⟨S4x4096x16x128, .f32⟩
  | .hbm, ⟨10, _⟩ => ⟨S4x4096x16x64, .f32⟩
  | .hbm, ⟨11, _⟩ => ⟨S4x4096x16x128, .f32⟩
  | .hbm, ⟨12, _⟩ => ⟨S4x4096x16x128, .f32⟩
  | .hbm, ⟨13, _⟩ => ⟨S4x4096x64, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4x16x4096x4096, .f32⟩
  | .hbm, ⟨34, _⟩ => ⟨S4x4096x4096x16, .f32⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S4x16x4096x4096, .f32⟩
  | .hbm, ⟨39, _⟩ => ⟨S4x16x4096x4096, .f32⟩
  | .hbm, ⟨40, _⟩ => ⟨S1x4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S4x16x4096x4096, .i1⟩
  | .hbm, ⟨48, _⟩ => ⟨S4x16x4096x4096, .f32⟩
  | .hbm, ⟨49, _⟩ => ⟨S4x16x4096x4096, .f32⟩
  | .hbm, ⟨50, _⟩ => ⟨S_, .f32⟩
  | .hbm, ⟨51, _⟩ => ⟨S4x16x4096, .f32⟩
  | .hbm, ⟨52, _⟩ => ⟨S_, .f32⟩
  | .hbm, ⟨53, _⟩ => ⟨S4x16x4096, .f32⟩
  | .hbm, ⟨54, _⟩ => ⟨S4x16x4096, .f32⟩
  | .hbm, ⟨55, _⟩ => ⟨S4x16x4096x1, .f32⟩
  | .hbm, ⟨56, _⟩ => ⟨S4x16x4096x4096, .f32⟩
  | .hbm, ⟨57, _⟩ => ⟨S4x16x4096x4096, .f32⟩
  | .hbm, ⟨58, _⟩ => ⟨S4x16x4096x4096, .f32⟩
  | .hbm, ⟨59, _⟩ => ⟨S_, .f32⟩
  | .hbm, ⟨60, _⟩ => ⟨S4x16x4096, .f32⟩
  | .hbm, ⟨61, _⟩ => ⟨S4x16x4096x1, .f32⟩
  | .hbm, ⟨62, _⟩ => ⟨S4x16x4096x4096, .f32⟩
  | .hbm, ⟨63, _⟩ => ⟨S4x16x4096x4096, .f32⟩
  | .hbm, ⟨64, _⟩ => ⟨S4x16x128x4096, .f32⟩
  | .hbm, ⟨65, _⟩ => ⟨S4x4096x16x128, .f32⟩
  | .hbm, ⟨66, _⟩ => ⟨S16384x2048, .f32⟩
  | .hbm, ⟨67, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S2048x5504, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5504, .f32⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x11264, .f32⟩
  | .hbm, ⟨14, _⟩ => ⟨S2048x11264, .bf16⟩
  | .hbm, ⟨15, _⟩ => ⟨S_, .i32⟩
  | .hbm, ⟨16, _⟩ => ⟨S_, .f32⟩
  | .hbm, ⟨17, _⟩ => ⟨S5632x2048, .f32⟩
  | .hbm, ⟨18, _⟩ => ⟨S5632x2048, .bf16⟩
  | .hbm, ⟨19, _⟩ => ⟨S1x2048, .f32⟩
  | .hbm, ⟨20, _⟩ => ⟨S1x2048, .f32⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11008, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== InRet.lean ====
abbrev S16384x2048 : Shape := ⟨2, ![16384, 2048]⟩
abbrev S2048x13376 : Shape := ⟨2, ![2048, 13376]⟩
abbrev S2048x64 : Shape := ⟨2, ![2048, 64]⟩
abbrev S2048x1088 : Shape := ⟨2, ![2048, 1088]⟩
abbrev S2048x32 : Shape := ⟨2, ![2048, 32]⟩
abbrev S2048x1152 : Shape := ⟨2, ![2048, 1152]⟩
abbrev S2048x8192 : Shape := ⟨2, ![2048, 8192]⟩
abbrev S2048x4096 : Shape := ⟨2, ![2048, 4096]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S2048x64, .f32⟩
  | .hbm, ⟨3, _⟩ => ⟨S2048x1088, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S2048x64, .f32⟩
  | .hbm, ⟨8, _⟩ => ⟨S2048x1152, .f32⟩
  | .hbm, ⟨9, _⟩ => ⟨S2048x1152, .bf16⟩
  | .hbm, ⟨10, _⟩ => ⟨S2048x8192, .f32⟩
  | .hbm, ⟨11, _⟩ => ⟨S2048x8192, .bf16⟩
  | .hbm, ⟨12, _⟩ => ⟨S2048x4096, .f32⟩
  | .hbm, ⟨13, _⟩ => ⟨S2048x4096, .bf16⟩
  | .hbm, ⟨14, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRetRefIdeal.lean ====
abbrev S16384x2048 : Shape := ⟨2, ![16384, 2048]⟩
abbrev S2048x13376 : Shape := ⟨2, ![2048, 13376]⟩
abbrev S16384x13376 : Shape := ⟨2, ![16384, 13376]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S16384x8192, .f32⟩
  | .hbm, ⟨5, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGm.lean ====
abbrev S16384x2048 : Shape := ⟨2, ![16384, 2048]⟩
abbrev S2048x13376 : Shape := ⟨2, ![2048, 13376]⟩
abbrev S2048x64 : Shape := ⟨2, ![2048, 64]⟩
abbrev S2048x1088 : Shape := ⟨2, ![2048, 1088]⟩
abbrev S2048x32 : Shape := ⟨2, ![2048, 32]⟩
abbrev S2048x1152 : Shape := ⟨2, ![2048, 1152]⟩
abbrev S2048x8192 : Shape := ⟨2, ![2048, 8192]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S2048x64, .f32⟩
  | .hbm, ⟨3, _⟩ => ⟨S2048x1088, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S2048x64, .f32⟩
  | .hbm, ⟨8, _⟩ => ⟨S2048x1152, .f32⟩
  | .hbm, ⟨9, _⟩ => ⟨S2048x1152, .bf16⟩
  | .hbm, ⟨10, _⟩ => ⟨S2048x8192, .f32⟩
  | .hbm, ⟨11, _⟩ => ⟨S2048x8192, .bf16⟩
  | .hbm, ⟨12, _⟩ => ⟨S2048x4096, .f32⟩
  | .hbm, ⟨13, _⟩ => ⟨S2048x4096, .bf16⟩
  | .hbm, ⟨14, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGmRefIdeal.lean ====
abbrev S16384x2048 : Shape := ⟨2, ![16384, 2048]⟩
abbrev S2048x13376 : Shape := ⟨2, ![2048, 13376]⟩
abbrev S16384x13376 : Shape := ⟨2, ![16384, 13376]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S16384x4096, .f32⟩
  | .hbm, ⟨5, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InMla.lean ====
abbrev S16384x2048 : Shape := ⟨2, ![16384, 2048]⟩
abbrev S2048x13376 : Shape := ⟨2, ![2048, 13376]⟩
abbrev S2048x64 : Shape := ⟨2, ![2048, 64]⟩
abbrev S2048x1088 : Shape := ⟨2, ![2048, 1088]⟩
abbrev S2048x32 : Shape := ⟨2, ![2048, 32]⟩
abbrev S2048x1152 : Shape := ⟨2, ![2048, 1152]⟩
abbrev S2048x8192 : Shape := ⟨2, ![2048, 8192]⟩
abbrev S2048x4096 : Shape := ⟨2, ![2048, 4096]⟩
abbrev S16384x1152 : Shape := ⟨2, ![16384, 1152]⟩
abbrev S1024x2048 : Shape := ⟨2, ![1024, 2048]⟩
abbrev S1024x1152 : Shape := ⟨2, ![1024, 1152]⟩

abbrev nBuf : Space → Nat
  | .hbm => 15
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S2048x64, .f32⟩
  | .hbm, ⟨3, _⟩ => ⟨S2048x1088, .f32⟩
  | .hbm, ⟨4, _⟩ => ⟨S2048x32, .f32⟩
  | .hbm, ⟨5, _⟩ => ⟨S2048x32, .f32⟩
  | .hbm, ⟨6, _⟩ => ⟨S2048x32, .f32⟩
  | .hbm, ⟨7, _⟩ => ⟨S2048x64, .f32⟩
  | .hbm, ⟨8, _⟩ => ⟨S2048x1152, .f32⟩
  | .hbm, ⟨9, _⟩ => ⟨S2048x1152, .bf16⟩
  | .hbm, ⟨10, _⟩ => ⟨S2048x8192, .f32⟩
  | .hbm, ⟨11, _⟩ => ⟨S2048x8192, .bf16⟩
  | .hbm, ⟨12, _⟩ => ⟨S2048x4096, .f32⟩
  | .hbm, ⟨13, _⟩ => ⟨S2048x4096, .bf16⟩
  | .hbm, ⟨14, _⟩ => ⟨S16384x1152, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .bf16⟩
  | .local _ .vmem, ⟨4, _⟩ => ⟨S1024x1152, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMlaRefIdeal.lean ====
abbrev S16384x2048 : Shape := ⟨2, ![16384, 2048]⟩
abbrev S2048x13376 : Shape := ⟨2, ![2048, 13376]⟩
abbrev S16384x13376 : Shape := ⟨2, ![16384, 13376]⟩
abbrev S16384x512 : Shape := ⟨2, ![16384, 512]⟩
abbrev S16384x64 : Shape := ⟨2, ![16384, 64]⟩
abbrev S16384x32 : Shape := ⟨2, ![16384, 32]⟩
abbrev S16384x1152 : Shape := ⟨2, ![16384, 1152]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13376, .f32⟩
  | .hbm, ⟨2, _⟩ => ⟨S16384x2048, .f32⟩
  | .hbm, ⟨3, _⟩ => ⟨S16384x13376, .f32⟩
  | .hbm, ⟨4, _⟩ => ⟨S16384x512, .f32⟩
  | .hbm, ⟨5, _⟩ => ⟨S16384x512, .f32⟩
  | .hbm, ⟨6, _⟩ => ⟨S16384x64, .f32⟩
  | .hbm, ⟨7, _⟩ => ⟨S16384x32, .f32⟩
  | .hbm, ⟨8, _⟩ => ⟨S16384x32, .f32⟩
  | .hbm, ⟨9, _⟩ => ⟨S16384x32, .f32⟩
  | .hbm, ⟨10, _⟩ => ⟨S16384x1152, .f32⟩
  | .hbm, ⟨11, _⟩ => ⟨S16384x1152, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== MlaPrep.lean ====
abbrev S16384x1088 : Shape := ⟨2, ![16384, 1088]⟩
abbrev S512 : Shape := ⟨1, ![512]⟩
abbrev S512x3072 : Shape := ⟨2, ![512, 3072]⟩
abbrev S512x4096 : Shape := ⟨2, ![512, 4096]⟩
abbrev S16384x32 : Shape := ⟨2, ![16384, 32]⟩
abbrev S16384x64 : Shape := ⟨2, ![16384, 64]⟩
abbrev S16384x1152 : Shape := ⟨2, ![16384, 1152]⟩
abbrev S1x512 : Shape := ⟨2, ![1, 512]⟩
abbrev S512x16x192 : Shape := ⟨3, ![512, 16, 192]⟩
abbrev S512x16x64 : Shape := ⟨3, ![512, 16, 64]⟩
abbrev S512x16x32 : Shape := ⟨3, ![512, 16, 32]⟩
abbrev S512x16x256 : Shape := ⟨3, ![512, 16, 256]⟩
abbrev S_ : Shape := ⟨0, ![]⟩
abbrev S16384x128 : Shape := ⟨2, ![16384, 128]⟩
abbrev S16384x4096 : Shape := ⟨2, ![16384, 4096]⟩
abbrev S256x1152 : Shape := ⟨2, ![256, 1152]⟩
abbrev S256x128 : Shape := ⟨2, ![256, 128]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S512x256 : Shape := ⟨2, ![512, 256]⟩
abbrev S256x256 : Shape := ⟨2, ![256, 256]⟩
abbrev S512x1024 : Shape := ⟨2, ![512, 1024]⟩
abbrev S256x1024 : Shape := ⟨2, ![256, 1024]⟩

abbrev nBuf : Space → Nat
  | .hbm => 34
  | .vmem => 16
  | .smem => 0
  | _ => 0

abbrev bufTy : (tb : Table) → Fin (tcTables nBuf tb) → BufTy
  | .hbm, ⟨0, _⟩ => ⟨S16384x1088, .bf16⟩
  | .hbm, ⟨1, _⟩ => ⟨S512, .f32⟩
  | .hbm, ⟨2, _⟩ => ⟨S512x3072, .f32⟩
  | .hbm, ⟨3, _⟩ => ⟨S512, .f32⟩
  | .hbm, ⟨4, _⟩ => ⟨S512x4096, .f32⟩
  | .hbm, ⟨5, _⟩ => ⟨S16384x32, .f32⟩
  | .hbm, ⟨6, _⟩ => ⟨S16384x32, .f32⟩
  | .hbm, ⟨7, _⟩ => ⟨S16384x64, .bf16⟩
  | .hbm, ⟨8, _⟩ => ⟨S16384x32, .bf16⟩
  | .hbm, ⟨9, _⟩ => ⟨S16384x32, .bf16⟩
  | .hbm, ⟨10, _⟩ => ⟨S16384x32, .bf16⟩
  | .hbm, ⟨11, _⟩ => ⟨S16384x64, .bf16⟩
  | .hbm, ⟨12, _⟩ => ⟨S16384x1152, .bf16⟩
  | .hbm, ⟨13, _⟩ => ⟨S1x512, .f32⟩
  | .hbm, ⟨14, _⟩ => ⟨S1x512, .f32⟩
  | .hbm, ⟨15, _⟩ => ⟨S512x16x192, .f32⟩
  | .hbm, ⟨16, _⟩ => ⟨S512x16x64, .f32⟩
  | .hbm, ⟨17, _⟩ => ⟨S512x16x32, .f32⟩
  | .hbm, ⟨18, _⟩ => ⟨S512x16x32, .f32⟩
  | .hbm, ⟨19, _⟩ => ⟨S512x16x32, .f32⟩
  | .hbm, ⟨20, _⟩ => ⟨S512x16x64, .f32⟩
  | .hbm, ⟨21, _⟩ => ⟨S512x16x256, .f32⟩
  | .hbm, ⟨22, _⟩ => ⟨S512x4096, .f32⟩
  | .hbm, ⟨23, _⟩ => ⟨S512x4096, .bf16⟩
  | .hbm, ⟨24, _⟩ => ⟨S512x4096, .bf16⟩
  | .hbm, ⟨25, _⟩ => ⟨S_, .f32⟩
  | .hbm, ⟨26, _⟩ => ⟨S16384x64, .f32⟩
  | .hbm, ⟨27, _⟩ => ⟨S16384x128, .f32⟩
  | .hbm, ⟨28, _⟩ => ⟨S_, .f32⟩
  | .hbm, ⟨29, _⟩ => ⟨S16384x64, .f32⟩
  | .hbm, ⟨30, _⟩ => ⟨S16384x128, .f32⟩
  | .hbm, ⟨31, _⟩ => ⟨S16384x4096, .bf16⟩
  | .hbm, ⟨32, _⟩ => ⟨S16384x4096, .bf16⟩
  | .hbm, ⟨33, _⟩ => ⟨S16384x128, .bf16⟩
  | .local _ .vmem, ⟨0, _⟩ => ⟨S256x1152, .bf16⟩
  | .local _ .vmem, ⟨1, _⟩ => ⟨S256x1152, .bf16⟩
  | .local _ .vmem, ⟨2, _⟩ => ⟨S1x512, .f32⟩
  | .local _ .vmem, ⟨3, _⟩ => ⟨S1x512, .f32⟩
  | .local _ .vmem, ⟨4, _⟩ => ⟨S512x4096, .bf16⟩
  | .local _ .vmem, ⟨5, _⟩ => ⟨S512x4096, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x128, .bf16⟩
  | .local _ .vmem, ⟨15, _⟩ => ⟨S256x128, .bf16⟩
  | _, _ => ⟨S16384x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaPrepRefIdeal.lean ====
abbrev S16384x1088 : Shape := ⟨2, ![16384, 1088]⟩
abbrev S512 : Shape := ⟨1, ![512]⟩
abbrev S512x3072 : Shape := ⟨2, ![512, 3072]⟩
abbrev S512x4096 : Shape := ⟨2, ![512, 4096]⟩
abbrev S16384x32 : Shape := ⟨2, ![16384, 32]⟩
abbrev S16384x512 : Shape := ⟨2, ![16384, 512]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x3072 : Shape := ⟨2, ![16384, 3072]⟩
abbrev S16384x16x192 : Shape := ⟨3, ![16384, 16, 192]⟩
abbrev S16384x16x64 : Shape := ⟨3, ![16384, 16, 64]⟩
abbrev S16384x16x32 : Shape := ⟨3, ![16384, 16, 32]⟩
abbrev S16384x1x32 : Shape := ⟨3, ![16384, 1, 32]⟩
abbrev S16384x16x128 : Shape := ⟨3, ![16384, 16, 128]⟩
abbrev S16384x16x256 : Shape := ⟨3, ![16384, 16, 256]⟩
abbrev S16384x4096 : Shape := ⟨2, ![16384, 4096]⟩
abbrev S16384x1x64 : Shape := ⟨3, ![16384, 1, 64]⟩
abbrev S16384x128 : Shape := ⟨2, ![16384, 128]⟩

abbrev nBuf : Space → Nat
  | .hbm => 86
  | .vmem => 0
  | .smem => 0
  | _ => 0

abbrev bufTy : (tb : Table) → Fin (tcTables nBuf tb) → BufTy
  | .hbm, ⟨0, _⟩ => ⟨S16384x1088, .bf16⟩
  | .hbm, ⟨1, _⟩ => ⟨S512, .f32⟩
  | .hbm, ⟨2, _⟩ => ⟨S512x3072, .f32⟩
  | .hbm, ⟨3, _⟩ => ⟨S512, .f32⟩
  | .hbm, ⟨4, _⟩ => ⟨S512x4096, .f32⟩
  | .hbm, ⟨5, _⟩ => ⟨S16384x32, .f32⟩
  | .hbm, ⟨6, _⟩ => ⟨S16384x32, .f32⟩
  | .hbm, ⟨7, _⟩ => ⟨S16384x1088, .f32⟩
  | .hbm, ⟨8, _⟩ => ⟨S16384x512, .f32⟩
  | .hbm, ⟨9, _⟩ => ⟨S16384x512, .f32⟩
  | .hbm, ⟨10, _⟩ => ⟨S16384x64, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x3072, .f32⟩
  | .hbm, ⟨28, _⟩ => ⟨S16384x16x192, .f32⟩
  | .hbm, ⟨29, _⟩ => ⟨S16384x16x64, .f32⟩
  | .hbm, ⟨30, _⟩ => ⟨S16384x16x32, .f32⟩
  | .hbm, ⟨31, _⟩ => ⟨S16384x16x32, .f32⟩
  | .hbm, ⟨32, _⟩ => ⟨S16384x1x32, .f32⟩
  | .hbm, ⟨33, _⟩ => ⟨S16384x1x32, .f32⟩
  | .hbm, ⟨34, _⟩ => ⟨S16384x16x32, .f32⟩
  | .hbm, ⟨35, _⟩ => ⟨S16384x16x32, .f32⟩
  | .hbm, ⟨36, _⟩ => ⟨S16384x16x32, .f32⟩
  | .hbm, ⟨37, _⟩ => ⟨S16384x16x32, .f32⟩
  | .hbm, ⟨38, _⟩ => ⟨S16384x16x32, .f32⟩
  | .hbm, ⟨39, _⟩ => ⟨S16384x16x32, .f32⟩
  | .hbm, ⟨40, _⟩ => ⟨S16384x16x32, .f32⟩
  | .hbm, ⟨41, _⟩ => ⟨S16384x16x32, .f32⟩
  | .hbm, ⟨42, _⟩ => ⟨S16384x16x32, .f32⟩
  | .hbm, ⟨43, _⟩ => ⟨S16384x16x32, .f32⟩
  | .hbm, ⟨44, _⟩ => ⟨S16384x16x64, .f32⟩
  | .hbm, ⟨45, _⟩ => ⟨S16384x16x128, .f32⟩
  | .hbm, ⟨46, _⟩ => ⟨S_, .f32⟩
  | .hbm, ⟨47, _⟩ => ⟨S16384x16x64, .f32⟩
  | .hbm, ⟨48, _⟩ => ⟨S16384x16x256, .f32⟩
  | .hbm, ⟨49, _⟩ => ⟨S16384x512, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x512, .f32⟩
  | .hbm, ⟨61, _⟩ => ⟨S16384x512, .f32⟩
  | .hbm, ⟨62, _⟩ => ⟨S1x512, .f32⟩
  | .hbm, ⟨63, _⟩ => ⟨S16384x512, .f32⟩
  | .hbm, ⟨64, _⟩ => ⟨S16384x512, .f32⟩
  | .hbm, ⟨65, _⟩ => ⟨S16384x4096, .f32⟩
  | .hbm, ⟨66, _⟩ => ⟨S16384x1x64, .f32⟩
  | .hbm, ⟨67, _⟩ => ⟨S16384x1x32, .f32⟩
  | .hbm, ⟨68, _⟩ => ⟨S16384x1x32, .f32⟩
  | .hbm, ⟨69, _⟩ => ⟨S16384x1x32, .f32⟩
  | .hbm, ⟨70, _⟩ => ⟨S16384x1x32, .f32⟩
  | .hbm, ⟨71, _⟩ => ⟨S16384x1x32, .f32⟩
  | .hbm, ⟨72, _⟩ => ⟨S16384x1x32, .f32⟩
  | .hbm, ⟨73, _⟩ => ⟨S16384x1x32, .f32⟩
  | .hbm, ⟨74, _⟩ => ⟨S16384x1x32, .f32⟩
  | .hbm, ⟨75, _⟩ => ⟨S16384x1x32, .f32⟩
  | .hbm, ⟨76, _⟩ => ⟨S16384x1x32, .f32⟩
  | .hbm, ⟨77, _⟩ => ⟨S16384x1x64, .f32⟩
  | .hbm, ⟨78, _⟩ => ⟨S16384x64, .f32⟩
  | .hbm, ⟨79, _⟩ => ⟨S_, .f32⟩
  | .hbm, ⟨80, _⟩ => ⟨S16384x64, .f32⟩
  | .hbm, ⟨81, _⟩ => ⟨S16384x128, .f32⟩
  | .hbm, ⟨82, _⟩ => ⟨S16384x4096, .f32⟩
  | .hbm, ⟨83, _⟩ => ⟨S16384x4096, .bf16⟩
  | .hbm, ⟨84, _⟩ => ⟨S16384x4096, .bf16⟩
  | .hbm, ⟨85, _⟩ => ⟨S16384x128, .bf16⟩
  | _, _ => ⟨S16384x1088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Gmlp.lean ====
abbrev S16384x4096 : Shape := ⟨2, ![16384, 4096]⟩
abbrev S2048 : Shape := ⟨1, ![2048]⟩
abbrev S4x128x128 : Shape := ⟨3, ![4, 128, 128]⟩
abbrev S4x128 : Shape := ⟨2, ![4, 128]⟩
abbrev S1x2048 : Shape := ⟨2, ![1, 2048]⟩
abbrev S128x4 : Shape := ⟨2, ![128, 4]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x512 : Shape := ⟨2, ![128, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2048, .f32⟩
  | .hbm, ⟨2, _⟩ => ⟨S2048, .f32⟩
  | .hbm, ⟨3, _⟩ => ⟨S4x128x128, .f32⟩
  | .hbm, ⟨4, _⟩ => ⟨S4x128, .f32⟩
  | .hbm, ⟨5, _⟩ => ⟨S1x2048, .f32⟩
  | .hbm, ⟨6, _⟩ => ⟨S1x2048, .f32⟩
  | .hbm, ⟨7, _⟩ => ⟨S128x4, .f32⟩
  | .hbm, ⟨8, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S4x128x128, .f32⟩
  | .local _ .vmem, ⟨7, _⟩ => ⟨S128x4, .f32⟩
  | .local _ .vmem, ⟨8, _⟩ => ⟨S256x2048, .bf16⟩
  | .local _ .vmem, ⟨9, _⟩ => ⟨S256x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpRefIdeal.lean ====
abbrev S16384x4096 : Shape := ⟨2, ![16384, 4096]⟩
abbrev S2048 : Shape := ⟨1, ![2048]⟩
abbrev S4x128x128 : Shape := ⟨3, ![4, 128, 128]⟩
abbrev S4x128 : Shape := ⟨2, ![4, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S128x128x4x512 : Shape := ⟨4, ![128, 128, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x128x512x128 : Shape := ⟨4, ![4, 128, 512, 128]⟩
abbrev S128x4 : Shape := ⟨2, ![128, 4]⟩
abbrev S1x128x4x1 : Shape := ⟨4, ![1, 128, 4, 1]⟩

abbrev nBuf : Space → Nat
  | .hbm => 113
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2048, .f32⟩
  | .hbm, ⟨2, _⟩ => ⟨S2048, .f32⟩
  | .hbm, ⟨3, _⟩ => ⟨S4x128x128, .f32⟩
  | .hbm, ⟨4, _⟩ => ⟨S4x128, .f32⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S128x128x4x512, .f32⟩
  | .hbm, ⟨74, _⟩ => ⟨S128, .i32⟩
  | .hbm, ⟨75, _⟩ => ⟨S_, .i32⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S128x1, .i32⟩
  | .hbm, ⟨94, _⟩ => ⟨S1x128, .i32⟩
  | .hbm, ⟨95, _⟩ => ⟨S128x128, .i32⟩
  | .hbm, ⟨96, _⟩ => ⟨S128x128, .i32⟩
  | .hbm, ⟨97, _⟩ => ⟨S128x128, .i1⟩
  | .hbm, ⟨98, _⟩ => ⟨S1x128x128, .i1⟩
  | .hbm, ⟨99, _⟩ => ⟨S_, .f32⟩
  | .hbm, ⟨100, _⟩ => ⟨S_, .f32⟩
  | .hbm, ⟨101, _⟩ => ⟨S4x128x128, .i1⟩
  | .hbm, ⟨102, _⟩ => ⟨S4x128x128, .f32⟩
  | .hbm, ⟨103, _⟩ => ⟨S4x128x128, .f32⟩
  | .hbm, ⟨104, _⟩ => ⟨S4x128x512x128, .f32⟩
  | .hbm, ⟨105, _⟩ => ⟨S128x128x4x512, .f32⟩
  | .hbm, ⟨106, _⟩ => ⟨S128x4, .f32⟩
  | .hbm, ⟨107, _⟩ => ⟨S1x128x4x1, .f32⟩
  | .hbm, ⟨108, _⟩ => ⟨S128x128x4x512, .f32⟩
  | .hbm, ⟨109, _⟩ => ⟨S128x128x4x512, .f32⟩
  | .hbm, ⟨110, _⟩ => ⟨S16384x2048, .f32⟩
  | .hbm, ⟨111, _⟩ => ⟨S16384x2048, .f32⟩
  | .hbm, ⟨112, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩

abbrev nD : Nat := 1
abbrev τ : Topo := Topo.v7x

variable {F : FTy → Type} [FloatOps F]
-- ==== Ret.lean ====
abbrev S16384x8192 : Shape := ⟨2, ![16384, 8192]⟩
abbrev S16384x128 : Shape := ⟨2, ![16384, 128]⟩
abbrev S8 : Shape := ⟨1, ![8]⟩
abbrev S_ : Shape := ⟨0, ![]⟩
abbrev S16384x2048 : Shape := ⟨2, ![16384, 2048]⟩
abbrev S256x256 : Shape := ⟨2, ![256, 256]⟩
abbrev S256x128 : Shape := ⟨2, ![256, 128]⟩
abbrev S1 : Shape := ⟨1, ![1]⟩
abbrev S256x1 : Shape := ⟨2, ![256, 1]⟩
abbrev S1x256 : Shape := ⟨2, ![1, 256]⟩
abbrev S256 : Shape := ⟨1, ![256]⟩

abbrev nBuf : Space → Nat
  | .hbm => 13
  | .vmem => 15
  | .smem => 1
  | _ => 0

abbrev bufTy : (tb : Table) → Fin (tcTables nBuf tb) → BufTy
  | .hbm, ⟨0, _⟩ => ⟨S16384x8192, .bf16⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S16384x2048, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .smem, ⟨0, _⟩ => ⟨S8, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 16], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== RetRefIdeal.lean ====
abbrev S16384x8192 : Shape := ⟨2, ![16384, 8192]⟩
abbrev S16384x128 : Shape := ⟨2, ![16384, 128]⟩
abbrev S16384x4x8x256 : Shape := ⟨4, ![16384, 4, 8, 256]⟩
abbrev S16384x1x8x256 : Shape := ⟨4, ![16384, 1, 8, 256]⟩
abbrev S16384x8x256 : Shape := ⟨3, ![16384, 8, 256]⟩
abbrev S16384x8x128 : Shape := ⟨3, ![16384, 8, 128]⟩
abbrev S16384x1x128 : Shape := ⟨3, ![16384, 1, 128]⟩
abbrev S4x4096x8x256 : Shape := ⟨4, ![4, 4096, 8, 256]⟩
abbrev S_ : Shape := ⟨0, ![]⟩
abbrev S8 : Shape := ⟨1, ![8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x256x4096 : Shape := ⟨4, ![4, 8, 256, 4096]⟩
abbrev S4x4096x8 : Shape := ⟨3, ![4, 4096, 8]⟩
abbrev S4x4096x8x1 : Shape := ⟨4, ![4, 4096, 8, 1]⟩
abbrev S16384x2048 : Shape := ⟨2, ![16384, 2048]⟩

abbrev nBuf : Space → Nat
  | .hbm => 145
  | .vmem => 0
  | .smem => 0
  | _ => 0

abbrev hbmTy0_0 (i : Nat) : BufTy := match i % 128 with
  | 0 => ⟨S16384x8192, .bf16⟩
  | 1 => ⟨S16384x128, .f32⟩
  | 2 => ⟨S16384x128, .f32⟩
  | 3 => ⟨S16384x8192, .f32⟩
  | 4 => ⟨S16384x4x8x256, .f32⟩
  | 5 => ⟨S16384x1x8x256, .f32⟩
  | 6 => ⟨S16384x8x256, .f32⟩
  | 7 => ⟨S16384x8x128, .f32⟩
  | 8 => ⟨S16384x8x128, .f32⟩
  | 9 => ⟨S16384x1x128, .f32⟩
  | 10 => ⟨S16384x1x128, .f32⟩
  | 11 => ⟨S16384x8x128, .f32⟩
  | 12 => ⟨S16384x8x128, .f32⟩
  | 13 => ⟨S16384x8x128, .f32⟩
  | 14 => ⟨S16384x8x128, .f32⟩
  | 15 => ⟨S16384x8x128, .f32⟩
  | 16 => ⟨S16384x8x128, .f32⟩
  | 17 => ⟨S16384x8x128, .f32⟩
  | 18 => ⟨S16384x8x128, .f32⟩
  | 19 => ⟨S16384x8x128, .f32⟩
  | 20 => ⟨S16384x8x128, .f32⟩
  | 21 => ⟨S16384x8x256, .f32⟩
  | 22 => ⟨S4x4096x8x256, .f32⟩
  | 23 => ⟨S16384x1x8x256, .f32⟩
  | 24 => ⟨S16384x8x256, .f32⟩
  | 25 => ⟨S16384x8x128, .f32⟩
  | 26 => ⟨S16384x8x128, .f32⟩
  | 27 => ⟨S16384x1x128, .f32⟩
  | 28 => ⟨S16384x1x128, .f32⟩
  | 29 => ⟨S16384x8x128, .f32⟩
  | 30 => ⟨S16384x8x128, .f32⟩
  | 31 => ⟨S16384x8x128, .f32⟩
  | 32 => ⟨S16384x8x128, .f32⟩
  | 33 => ⟨S16384x8x128, .f32⟩
  | 34 => ⟨S16384x8x128, .f32⟩
  | 35 => ⟨S16384x8x128, .f32⟩
  | 36 => ⟨S16384x8x128, .f32⟩
  | 37 => ⟨S16384x8x128, .f32⟩
  | 38 => ⟨S16384x8x128, .f32⟩
  | 39 => ⟨S16384x8x256, .f32⟩
  | 40 => ⟨S_, .f32⟩
  | 41 => ⟨S16384x8x256, .f32⟩
  | 42 => ⟨S16384x8x256, .f32⟩
  | 43 => ⟨S4x4096x8x256, .f32⟩
  | 44 => ⟨S16384x1x8x256, .f32⟩
  | 45 => ⟨S16384x8x256, .f32⟩
  | 46 => ⟨S4x4096x8x256, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S8, .f32⟩
  | 56 => ⟨S4096, .f32⟩
  | 57 => ⟨S4096, .i32⟩
  | 58 => ⟨S_, .i32⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i1⟩
  | 66 => ⟨S4096, .i32⟩
  | 67 => ⟨S4096, .i32⟩
  | 68 => ⟨S_, .i32⟩
  | 69 => ⟨S4096, .i32⟩
  | 70 => ⟨S4096, .i1⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .f32⟩
  | 77 => ⟨S1x4096, .f32⟩
  | 78 => ⟨S4096x4096, .f32⟩
  | 79 => ⟨S4096x4096, .f32⟩
  | 80 => ⟨S4096x4096, .f32⟩
  | 81 => ⟨S4096x4096, .f32⟩
  | 82 => ⟨S1x4096x4096, .f32⟩
  | 83 => ⟨S8x1x1, .f32⟩
  | 84 => ⟨S8x4096x4096, .f32⟩
  | 85 => ⟨S8x4096x4096, .f32⟩
  | 86 => ⟨S8x4096x4096, .f32⟩
  | 87 => ⟨S8x4096x4096, .f32⟩
  | 88 => ⟨S1x4096, .i32⟩
  | 89 => ⟨S4096x1, .i32⟩
  | 90 => ⟨S4096x4096, .i32⟩
  | 91 => ⟨S4096x4096, .i32⟩
  | 92 => ⟨S4096x4096, .i1⟩
  | 93 => ⟨S1x4096x4096, .i1⟩
  | 94 => ⟨S_, .f32⟩
  | 95 => ⟨S_, .f32⟩
  | 96 => ⟨S8x4096x4096, .i1⟩
  | 97 => ⟨S8x4096x4096, .f32⟩
  | 98 => ⟨S8x4096x4096, .f32⟩
  | 99 => ⟨S4x8x4096x4096, .f32⟩
  | 100 => ⟨S1x8x4096x4096, .f32⟩
  | 101 => ⟨S4x8x4096x4096, .f32⟩
  | 102 => ⟨S4x8x4096x4096, .f32⟩
  | 103 => ⟨S4x8x256x4096, .f32⟩
  | 104 => ⟨S4x4096x8x256, .f32⟩
  | 105 => ⟨S_, .f32⟩
  | 106 => ⟨S4x4096x8, .f32⟩
  | 107 => ⟨S4x4096x8x1, .f32⟩
  | 108 => ⟨S_, .f32⟩
  | 109 => ⟨S4x4096x8x1, .f32⟩
  | 110 => ⟨S4x4096x8x1, .f32⟩
  | 111 => ⟨S4x4096x8x256, .f32⟩
  | 112 => ⟨S4x4096x8x256, .f32⟩
  | 113 => ⟨S4x4096x8x256, .f32⟩
  | 114 => ⟨S4x4096x8x256, .f32⟩
  | 115 => ⟨S4x4096x8x256, .f32⟩
  | 116 => ⟨S_, .f32⟩
  | 117 => ⟨S4x4096x8, .f32⟩
  | 118 => ⟨S4x4096x8x1, .f32⟩
  | 119 => ⟨S_, .f32⟩
  | 120 => ⟨S4x4096x8x1, .f32⟩
  | 121 => ⟨S4x4096x8x1, .f32⟩
  | 122 => ⟨S4x4096x8x256, .f32⟩
  | 123 => ⟨S4x4096x8x256, .f32⟩
  | 124 => ⟨S_, .f32⟩
  | 125 => ⟨S4x4096x8x1, .f32⟩
  | 126 => ⟨S4x4096x8x1, .f32⟩
  | 127 => ⟨S4x4096x8x1, .f32⟩
  | _ => ⟨S16384x8192, .bf16⟩

abbrev hbmTy0_1 (i : Nat) : BufTy := match i % 128 with
  | 0 => ⟨S4x4096x8x256, .f32⟩
  | 1 => ⟨S4x4096x8x256, .f32⟩
  | 2 => ⟨S16384x2048, .f32⟩
  | 3 => ⟨S16384x1x8x256, .f32⟩
  | 4 => ⟨S16384x8x256, .f32⟩
  | 5 => ⟨S16384x2048, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S_, .f32⟩
  | 12 => ⟨S16384x2048, .f32⟩
  | 13 => ⟨S16384x2048, .f32⟩
  | 14 => ⟨S16384x2048, .f32⟩
  | 15 => ⟨S16384x2048, .f32⟩
  | 16 => ⟨S16384x2048, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst_0 : Ref sig .tc := ⟨.hbm, 48, rfl⟩
abbrev main_v44 : Ref sig .tc := ⟨.hbm, 49, rfl⟩
abbrev main_v45 : Ref sig .tc := ⟨.hbm, 50, rfl⟩
abbrev main_cst_1 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_2 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_3 : Ref sig .tc := ⟨.hbm, 105, rfl⟩
abbrev main_v78 : Ref sig .tc := ⟨.hbm, 106, rfl⟩
abbrev main_v79 : Ref sig .tc := ⟨.hbm, 107, rfl⟩
abbrev main_cst_4 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_5 : Ref sig .tc := ⟨.hbm, 116, rfl⟩
abbrev main_v87 : Ref sig .tc := ⟨.hbm, 117, rfl⟩
abbrev main_v88 : Ref sig .tc := ⟨.hbm, 118, rfl⟩
abbrev main_cst_6 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_7 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_call2_v5 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Tables.lean ====
abbrev S16384 : Shape := ⟨1, ![16384]⟩
abbrev S16384x1 : Shape := ⟨2, ![16384, 1]⟩
abbrev S32 : Shape := ⟨1, ![32]⟩
abbrev S_ : Shape := ⟨0, ![]⟩
abbrev S128 : Shape := ⟨1, ![128]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S1x128 : Shape := ⟨2, ![1, 128]⟩
abbrev S1024x128 : Shape := ⟨2, ![1024, 128]⟩

abbrev nBuf : Space → Nat
  | .hbm => 46
  | .vmem => 12
  | .smem => 0
  | _ => 0

abbrev bufTy : (tb : Table) → Fin (tcTables nBuf tb) → BufTy
  | .hbm, ⟨0, _⟩ => ⟨S16384, .i32⟩
  | .hbm, ⟨1, _⟩ => ⟨S16384, .f32⟩
  | .hbm, ⟨2, _⟩ => ⟨S16384x1, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x64, .f32⟩
  | .hbm, ⟨37, _⟩ => ⟨S16384x128, .f32⟩
  | .hbm, ⟨38, _⟩ => ⟨S1x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_cst_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TablesRefIdeal.lean ====
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S128 : Shape := ⟨1, ![128]⟩
abbrev S1x128 : Shape := ⟨2, ![1, 128]⟩
abbrev S16384x128 : Shape := ⟨2, ![16384, 128]⟩
abbrev S16384x64 : Shape := ⟨2, ![16384, 64]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384, .f32⟩
  | .hbm, ⟨16, _⟩ => ⟨S16384x1, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S16384, .f32⟩
  | .hbm, ⟨38, _⟩ => ⟨S16384x1, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384x64, .f32⟩
  | .hbm, ⟨47, _⟩ => ⟨S16384x128, .f32⟩
  | .hbm, ⟨48, _⟩ => ⟨S_, .f32⟩
  | .hbm, ⟨49, _⟩ => ⟨S16384x64, .f32⟩
  | .hbm, ⟨50, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_cst_6 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_7 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Merge.lean ====
abbrev S16384x2048 : Shape := ⟨2, ![16384, 2048]⟩
abbrev S2048x6144 : Shape := ⟨2, ![2048, 6144]⟩
abbrev S6144 : Shape := ⟨1, ![6144]⟩
abbrev S3x2048x2048 : Shape := ⟨3, ![3, 2048, 2048]⟩
abbrev S1x6144 : Shape := ⟨2, ![1, 6144]⟩
abbrev S512x2048 : Shape := ⟨2, ![512, 2048]⟩
abbrev S2048x256 : Shape := ⟨2, ![2048, 256]⟩
abbrev S1x256 : Shape := ⟨2, ![1, 256]⟩
abbrev S1x2048x256 : Shape := ⟨3, ![1, 2048, 256]⟩
abbrev S512x256 : Shape := ⟨2, ![512, 256]⟩

abbrev nBuf : Space → Nat
  | .hbm => 11
  | .vmem => 28
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S2048x6144, .f32⟩
  | .hbm, ⟨5, _⟩ => ⟨S6144, .f32⟩
  | .hbm, ⟨6, _⟩ => ⟨S3x2048x2048, .f32⟩
  | .hbm, ⟨7, _⟩ => ⟨S2048x6144, .bf16⟩
  | .hbm, ⟨8, _⟩ => ⟨S1x6144, .f32⟩
  | .hbm, ⟨9, _⟩ => ⟨S3x2048x2048, .bf16⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x2048x256, .bf16⟩
  | .local _ .vmem, ⟨25, _⟩ => ⟨S1x2048x256, .bf16⟩
  | .local _ .vmem, ⟨26, _⟩ => ⟨S512x256, .bf16⟩
  | .local _ .vmem, ⟨27, _⟩ => ⟨S512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16384x2048 : Shape := ⟨2, ![16384, 2048]⟩
abbrev S2048x6144 : Shape := ⟨2, ![2048, 6144]⟩
abbrev S6144 : Shape := ⟨1, ![6144]⟩
abbrev S3x2048x2048 : Shape := ⟨3, ![3, 2048, 2048]⟩
abbrev S16384x6144 : Shape := ⟨2, ![16384, 6144]⟩
abbrev S1x6144 : Shape := ⟨2, ![1, 6144]⟩
abbrev S_ : Shape := ⟨0, ![]⟩
abbrev S16384x3x2048 : Shape := ⟨3, ![16384, 3, 2048]⟩
abbrev S16384x1x2048 : Shape := ⟨3, ![16384, 1, 2048]⟩
abbrev S1x2048x2048 : Shape := ⟨3, ![1, 2048, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S2048x6144, .f32⟩
  | .hbm, ⟨5, _⟩ => ⟨S6144, .f32⟩
  | .hbm, ⟨6, _⟩ => ⟨S3x2048x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x6144, .f32⟩
  | .hbm, ⟨12, _⟩ => ⟨S1x6144, .f32⟩
  | .hbm, ⟨13, _⟩ => ⟨S16384x6144, .f32⟩
  | .hbm, ⟨14, _⟩ => ⟨S16384x6144, .f32⟩
  | .hbm, ⟨15, _⟩ => ⟨S16384x6144, .f32⟩
  | .hbm, ⟨16, _⟩ => ⟨S16384x6144, .f32⟩
  | .hbm, ⟨17, _⟩ => ⟨S_, .f32⟩
  | .hbm, ⟨18, _⟩ => ⟨S16384x6144, .f32⟩
  | .hbm, ⟨19, _⟩ => ⟨S16384x6144, .f32⟩
  | .hbm, ⟨20, _⟩ => ⟨S_, .f32⟩
  | .hbm, ⟨21, _⟩ => ⟨S16384x6144, .f32⟩
  | .hbm, ⟨22, _⟩ => ⟨S16384x6144, .f32⟩
  | .hbm, ⟨23, _⟩ => ⟨S16384x3x2048, .f32⟩
  | .hbm, ⟨24, _⟩ => ⟨S16384x1x2048, .f32⟩
  | .hbm, ⟨25, _⟩ => ⟨S16384x2048, .f32⟩
  | .hbm, ⟨26, _⟩ => ⟨S1x2048x2048, .f32⟩
  | .hbm, ⟨27, _⟩ => ⟨S2048x2048, .f32⟩
  | .hbm, ⟨28, _⟩ => ⟨S16384x2048, .f32⟩
  | .hbm, ⟨29, _⟩ => ⟨S16384x2048, .f32⟩
  | .hbm, ⟨30, _⟩ => ⟨S16384x1x2048, .f32⟩
  | .hbm, ⟨31, _⟩ => ⟨S16384x2048, .f32⟩
  | .hbm, ⟨32, _⟩ => ⟨S1x2048x2048, .f32⟩
  | .hbm, ⟨33, _⟩ => ⟨S2048x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x1x2048, .f32⟩
  | .hbm, ⟨38, _⟩ => ⟨S16384x2048, .f32⟩
  | .hbm, ⟨39, _⟩ => ⟨S1x2048x2048, .f32⟩
  | .hbm, ⟨40, _⟩ => ⟨S2048x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Frames.lean ====
/- Each program runs to the end without a fault and leaves its arguments and the counters as they were. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Ffn.Frame
public import proofs.«01_k».proof.Proof.Gen.FfnIdeal.Frame
public import proofs.«01_k».proof.Proof.Gen.FfnRefIdeal
public import proofs.«01_k».proof.Proof.Gen.InRet.Frame
public import proofs.«01_k».proof.Proof.Gen.InRetIdeal.Frame
public import proofs.«01_k».proof.Proof.Gen.InRetRefIdeal
public import proofs.«01_k».proof.Proof.Gen.InGm.Frame
public import proofs.«01_k».proof.Proof.Gen.InGmIdeal.Frame
public import proofs.«01_k».proof.Proof.Gen.InGmRefIdeal
public import proofs.«01_k».proof.Proof.Gen.InMla.Frame
public import proofs.«01_k».proof.Proof.Gen.InMlaIdeal.Frame
public import proofs.«01_k».proof.Proof.Gen.InMlaRefIdeal
public import proofs.«01_k».proof.Proof.Gen.MlaPrep.Frame
public import proofs.«01_k».proof.Proof.Gen.MlaPrepIdeal.Frame
public import proofs.«01_k».proof.Proof.Gen.MlaPrepRefIdeal
public import proofs.«01_k».proof.Proof.Gen.Gmlp.Frame
public import proofs.«01_k».proof.Proof.Gen.GmlpIdeal.Frame
public import proofs.«01_k».proof.Proof.Gen.GmlpRefIdeal
public import proofs.«01_k».proof.Proof.Gen.Ret.Frame
public import proofs.«01_k».proof.Proof.Gen.RetIdeal.Frame
public import proofs.«01_k».proof.Proof.Gen.RetRefIdeal
public import proofs.«01_k».proof.Proof.Gen.Norm.Frame
public import proofs.«01_k».proof.Proof.Gen.NormIdeal.Frame
public import proofs.«01_k».proof.Proof.Gen.NormRefIdeal
public import proofs.«01_k».proof.Proof.Gen.Tables.Frame
public import proofs.«01_k».proof.Proof.Gen.TablesIdeal.Frame
public import proofs.«01_k».proof.Proof.Gen.TablesRefIdeal
public import proofs.«01_k».proof.Proof.Gen.Merge.Frame
public import proofs.«01_k».proof.Proof.Gen.MergeIdeal.Frame
public import proofs.«01_k».proof.Proof.Gen.MergeRefIdeal
public import proofs.«01_k».proof.Proof.Gen.OutProj.Frame
public import proofs.«01_k».proof.Proof.Gen.OutProjIdeal.Frame
public import proofs.«01_k».proof.Proof.Gen.OutProjRefIdeal
public import proofs.«01_k».proof.Proof.Gen.Pre_attn_args
public import proofs.«01_k».proof.Proof.Gen.Pre_rotary_finite
public import proofs.«01_k».proof.Proof.Gen.Pre_queries_finite
public import proofs.«01_k».proof.Proof.Gen.Pre_retained_finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- `Kernel` runs to the end and leaves its arguments and the counters as they were. -/
theorem frame_Kernel : quiescent_Kernel (hKernel := Cert.Kernel.Gen.facts) :=
  fun m ρ _ => Cert.Kernel.Gen.frame m ρ

/-- `KernelIdeal` runs to the end and leaves its arguments and the counters as they were. -/
theorem frame_KernelIdeal : quiescent_KernelIdeal (hKernelIdeal := Cert.KernelIdeal.Gen.facts) :=
  fun m ρ _ => Cert.KernelIdeal.Gen.frame m ρ

/-- `KernelIdeal` runs to the end and leaves its arguments and the counters as they were. -/
theorem frame_KernelIdeal_pre_attn_args : quiescent_KernelIdeal_pre_attn_args (hKernelIdeal := Cert.KernelIdeal.Gen.facts) (hPre_attn_args := Cert.Pre_attn_args.Gen.facts) :=
  fun m ρ _ => Cert.KernelIdeal.Gen.frame m ρ

set_option maxHeartbeats 3200000 in
/-- `ReferenceIdeal` runs to the end and leaves its arguments and the counters as they were. -/
theorem frame_ReferenceIdeal : quiescent_ReferenceIdeal (hReferenceIdeal := Cert.ReferenceIdeal.Gen.facts) := by
  intro m g _
  refine (θ_run _ _ _).mono (fun r h => ⟨h, Idealize.ShloMosaic.sem_eq_zero_of_no_sems (by decide) r.2⟩) ?_
  hlo_run

set_option maxHeartbeats 3200000 in
/-- `ReferenceIdeal` runs to the end and leaves its arguments and the counters as they were. -/
theorem frame_ReferenceIdeal_pre_attn_args : quiescent_ReferenceIdeal_pre_attn_args (hReferenceIdeal := Cert.ReferenceIdeal.Gen.facts) (hPre_attn_args := Cert.Pre_attn_args.Gen.facts) := by
  intro m g _
  refine (θ_run _ _ _).mono (fun r h => ⟨h, Idealize.ShloMosaic.sem_eq_zero_of_no_sems (by decide) r.2⟩) ?_
  hlo_run

/-- `Ffn` runs to the end and leaves its arguments and the counters as they were. -/
theorem frame_Ffn : quiescent_Ffn (hFfn := Cert.Ffn.Gen.facts) :=
  fun m ρ _ => Cert.Ffn.Gen.frame m ρ

/-- `FfnIdeal` runs to the end and leaves its arguments and the counters as they were. -/
theorem frame_FfnIdeal : quiescent_FfnIdeal (hFfnIdeal := Cert.FfnIdeal.Gen.facts) :=
  fun m ρ _ => Cert.FfnIdeal.Gen.frame m ρ

set_option maxHeartbeats 3200000 in
/-- `FfnRefIdeal` runs to the end and leaves its arguments and the counters as they were. -/
theorem frame_FfnRefIdeal : quiescent_FfnRefIdeal (hFfnRefIdeal := Cert.FfnRefIdeal.Gen.facts) := by
  intro m g _
  refine (θ_run _ _ _).mono (fun r h => ⟨h, Idealize.ShloMosaic.sem_eq_zero_of_no_sems (by decide) r.2⟩) ?_
  hlo_run

/-- `InRet` runs to the end and leaves its arguments and the counters as they were. -/
theorem frame_InRet : quiescent_InRet (hInRet := Cert.InRet.Gen.facts) :=
  fun m ρ _ => Cert.InRet.Gen.frame m ρ

/-- `InRetIdeal` runs to the end and leaves its arguments and the counters as they were. -/
theorem frame_InRetIdeal : quiescent_InRetIdeal (hInRetIdeal := Cert.InRetIdeal.Gen.facts) :=
  fun m ρ _ => Cert.InRetIdeal.Gen.frame m ρ

set_option maxHeartbeats 3200000 in
/-- `InRetRefIdeal` runs to the end and leaves its arguments and the counters as they were. -/
theorem frame_InRetRefIdeal : quiescent_InRetRefIdeal (hInRetRefIdeal := Cert.InRetRefIdeal.Gen.facts) := by
  intro m g _
  refine (θ_run _ _ _).mono (fun r h => ⟨h, Idealize.ShloMosaic.sem_eq_zero_of_no_sems (by decide) r.2⟩) ?_
  hlo_run

/-- `InGm` runs to the end and leaves its arguments and the counters as they were. -/
theorem frame_InGm : quiescent_InGm (hInGm := Cert.InGm.Gen.facts) :=
  fun m ρ _ => Cert.InGm.Gen.frame m ρ

/-- `InGmIdeal` runs to the end and leaves its arguments and the counters as they were. -/
theorem frame_InGmIdeal : quiescent_InGmIdeal (hInGmIdeal := Cert.InGmIdeal.Gen.facts) :=
  fun m ρ _ => Cert.InGmIdeal.Gen.frame m ρ

set_option maxHeartbeats 3200000 in
/-- `InGmRefIdeal` runs to the end and leaves its arguments and the counters as they were. -/
theorem frame_InGmRefIdeal : quiescent_InGmRefIdeal (hInGmRefIdeal := Cert.InGmRefIdeal.Gen.facts) := by
  intro m g _
  refine (θ_run _ _ _).mono (fun r h => ⟨h, Idealize.ShloMosaic.sem_eq_zero_of_no_sems (by decide) r.2⟩) ?_
  hlo_run

/-- `InMla` runs to the end and leaves its arguments and the counters as they were. -/
theorem frame_InMla : quiescent_InMla (hInMla := Cert.InMla.Gen.facts) :=
  fun m ρ _ => Cert.InMla.Gen.frame m ρ

/-- `InMlaIdeal` runs to the end and leaves its arguments and the counters as they were. -/
theorem frame_InMlaIdeal : quiescent_InMlaIdeal (hInMlaIdeal := Cert.InMlaIdeal.Gen.facts) :=
  fun m ρ _ => Cert.InMlaIdeal.Gen.frame m ρ

/-- `InMlaIdeal` runs to the end and leaves its arguments and the counters as they were. -/
theorem frame_InMlaIdeal_pre_rotary_finite : quiescent_InMlaIdeal_pre_rotary_finite (hInMlaIdeal := Cert.InMlaIdeal.Gen.facts) (hPre_rotary_finite := Cert.Pre_rotary_finite.Gen.facts) :=
  fun m ρ _ => Cert.InMlaIdeal.Gen.frame m ρ

set_option maxHeartbeats 3200000 in
/-- `InMlaRefIdeal` runs to the end and leaves its arguments and the counters as they were. -/
theorem frame_InMlaRefIdeal : quiescent_InMlaRefIdeal (hInMlaRefIdeal := Cert.InMlaRefIdeal.Gen.facts) := by
  intro m g _
  refine (θ_run _ _ _).mono (fun r h => ⟨h, Idealize.ShloMosaic.sem_eq_zero_of_no_sems (by decide) r.2⟩) ?_
  hlo_run

set_option maxHeartbeats 3200000 in
/-- `InMlaRefIdeal` runs to the end and leaves its arguments and the counters as they were. -/
theorem frame_InMlaRefIdeal_pre_rotary_finite : quiescent_InMlaRefIdeal_pre_rotary_finite (hInMlaRefIdeal := Cert.InMlaRefIdeal.Gen.facts) (hPre_rotary_finite := Cert.Pre_rotary_finite.Gen.facts) := by
  intro m g _
  refine (θ_run _ _ _).mono (fun r h => ⟨h, Idealize.ShloMosaic.sem_eq_zero_of_no_sems (by decide) r.2⟩) ?_
  hlo_run

/-- `MlaPrep` runs to the end and leaves its arguments and the counters as they were. -/
theorem frame_MlaPrep : quiescent_MlaPrep (hMlaPrep := Cert.MlaPrep.Gen.facts) :=
  fun m ρ _ => Cert.MlaPrep.Gen.frame m ρ

/-- `MlaPrepIdeal` runs to the end and leaves its arguments and the counters as they were. -/
theorem frame_MlaPrepIdeal : quiescent_MlaPrepIdeal (hMlaPrepIdeal := Cert.MlaPrepIdeal.Gen.facts) :=
  fun m ρ _ => Cert.MlaPrepIdeal.Gen.frame m ρ

/-- `MlaPrepIdeal` runs to the end and leaves its arguments and the counters as they were. -/
theorem frame_MlaPrepIdeal_pre_queries_finite : quiescent_MlaPrepIdeal_pre_queries_finite (hMlaPrepIdeal := Cert.MlaPrepIdeal.Gen.facts) (hPre_queries_finite := Cert.Pre_queries_finite.Gen.facts) :=
  fun m ρ _ => Cert.MlaPrepIdeal.Gen.frame m ρ

set_option maxHeartbeats 3200000 in
/-- `MlaPrepRefIdeal` runs to the end and leaves its arguments and the counters as they were. -/
theorem frame_MlaPrepRefIdeal : quiescent_MlaPrepRefIdeal (hMlaPrepRefIdeal := Cert.MlaPrepRefIdeal.Gen.facts) := by
  intro m g _
  refine (θ_run _ _ _).mono (fun r h => ⟨h, Idealize.ShloMosaic.sem_eq_zero_of_no_sems (by decide) r.2⟩) ?_
  hlo_run

set_option maxHeartbeats 3200000 in
/-- `MlaPrepRefIdeal` runs to the end and leaves its arguments and the counters as they were. -/
theorem frame_MlaPrepRefIdeal_pre_queries_finite : quiescent_MlaPrepRefIdeal_pre_queries_finite (hMlaPrepRefIdeal := Cert.MlaPrepRefIdeal.Gen.facts) (hPre_queries_finite := Cert.Pre_queries_finite.Gen.facts) := by
  intro m g _
  refine (θ_run _ _ _).mono (fun r h => ⟨h, Idealize.ShloMosaic.sem_eq_zero_of_no_sems (by decide) r.2⟩) ?_
  hlo_run

/-- `Gmlp` runs to the end and leaves its arguments and the counters as they were. -/
theorem frame_Gmlp : quiescent_Gmlp (hGmlp := Cert.Gmlp.Gen.facts) :=
  fun m ρ _ => Cert.Gmlp.Gen.frame m ρ

/-- `GmlpIdeal` runs to the end and leaves its arguments and the counters as they were. -/
theorem frame_GmlpIdeal : quiescent_GmlpIdeal (hGmlpIdeal := Cert.GmlpIdeal.Gen.facts) :=
  fun m ρ _ => Cert.GmlpIdeal.Gen.frame m ρ

set_option maxHeartbeats 3200000 in
/-- `GmlpRefIdeal` runs to the end and leaves its arguments and the counters as they were. -/
theorem frame_GmlpRefIdeal : quiescent_GmlpRefIdeal (hGmlpRefIdeal := Cert.GmlpRefIdeal.Gen.facts) := by
  intro m g _
  refine (θ_run _ _ _).mono (fun r h => ⟨h, Idealize.ShloMosaic.sem_eq_zero_of_no_sems (by decide) r.2⟩) ?_
  hlo_run

/-- `Ret` runs to the end and leaves its arguments and the counters as they were. -/
theorem frame_Ret : quiescent_Ret (hRet := Cert.Ret.Gen.facts) :=
  fun m ρ _ => Cert.Ret.Gen.frame m ρ

/-- `RetIdeal` runs to the end and leaves its arguments and the counters as they were. -/
theorem frame_RetIdeal : quiescent_RetIdeal (hRetIdeal := Cert.RetIdeal.Gen.facts) :=
  fun m ρ _ => Cert.RetIdeal.Gen.frame m ρ

/-- `RetIdeal` runs to the end and leaves its arguments and the counters as they were. -/
theorem frame_RetIdeal_pre_retained_finite : quiescent_RetIdeal_pre_retained_finite (hRetIdeal := Cert.RetIdeal.Gen.facts) (hPre_retained_finite := Cert.Pre_retained_finite.Gen.facts) :=
  fun m ρ _ => Cert.RetIdeal.Gen.frame m ρ

set_option maxHeartbeats 3200000 in
/-- `RetRefIdeal` runs to the end and leaves its arguments and the counters as they were. -/
theorem frame_RetRefIdeal : quiescent_RetRefIdeal (hRetRefIdeal := Cert.RetRefIdeal.Gen.facts) := by
  intro m g _
  refine (θ_run _ _ _).mono (fun r h => ⟨h, Idealize.ShloMosaic.sem_eq_zero_of_no_sems (by decide) r.2⟩) ?_
  hlo_run

set_option maxHeartbeats 3200000 in
/-- `RetRefIdeal` runs to the end and leaves its arguments and the counters as they were. -/
theorem frame_RetRefIdeal_pre_retained_finite : quiescent_RetRefIdeal_pre_retained_finite (hRetRefIdeal := Cert.RetRefIdeal.Gen.facts) (hPre_retained_finite := Cert.Pre_retained_finite.Gen.facts) := by
  intro m g _
  refine (θ_run _ _ _).mono (fun r h => ⟨h, Idealize.ShloMosaic.sem_eq_zero_of_no_sems (by decide) r.2⟩) ?_
  hlo_run

/-- `Norm` runs to the end and leaves its arguments and the counters as they were. -/
theorem frame_Norm : quiescent_Norm (hNorm := Cert.Norm.Gen.facts) :=
  fun m ρ _ => Cert.Norm.Gen.frame m ρ

/-- `NormIdeal` runs to the end and leaves its arguments and the counters as they were. -/
theorem frame_NormIdeal : quiescent_NormIdeal (hNormIdeal := Cert.NormIdeal.Gen.facts) :=
  fun m ρ _ => Cert.NormIdeal.Gen.frame m ρ

set_option maxHeartbeats 3200000 in
/-- `NormRefIdeal` runs to the end and leaves its arguments and the counters as they were. -/
theorem frame_NormRefIdeal : quiescent_NormRefIdeal (hNormRefIdeal := Cert.NormRefIdeal.Gen.facts) := by
  intro m g _
  refine (θ_run _ _ _).mono (fun r h => ⟨h, Idealize.ShloMosaic.sem_eq_zero_of_no_sems (by decide) r.2⟩) ?_
  hlo_run

/-- `Tables` runs to the end and leaves its arguments and the counters as they were. -/
theorem frame_Tables : quiescent_Tables (hTables := Cert.Tables.Gen.facts) :=
  fun m ρ _ => Cert.Tables.Gen.frame m ρ

/-- `TablesIdeal` runs to the end and leaves its arguments and the counters as they were. -/
theorem frame_TablesIdeal : quiescent_TablesIdeal (hTablesIdeal := Cert.TablesIdeal.Gen.facts) :=
  fun m ρ _ => Cert.TablesIdeal.Gen.frame m ρ

set_option maxHeartbeats 3200000 in
/-- `TablesRefIdeal` runs to the end and leaves its arguments and the counters as they were. -/
theorem frame_TablesRefIdeal : quiescent_TablesRefIdeal (hTablesRefIdeal := Cert.TablesRefIdeal.Gen.facts) := by
  intro m g _
  refine (θ_run _ _ _).mono (fun r h => ⟨h, Idealize.ShloMosaic.sem_eq_zero_of_no_sems (by decide) r.2⟩) ?_
  hlo_run

/-- `Merge` runs to the end and leaves its arguments and the counters as they were. -/
theorem frame_Merge : quiescent_Merge (hMerge := Cert.Merge.Gen.facts) :=
  fun m ρ _ => Cert.Merge.Gen.frame m ρ

/-- `MergeIdeal` runs to the end and leaves its arguments and the counters as they were. -/
theorem frame_MergeIdeal : quiescent_MergeIdeal (hMergeIdeal := Cert.MergeIdeal.Gen.facts) :=
  fun m ρ _ => Cert.MergeIdeal.Gen.frame m ρ

set_option maxHeartbeats 3200000 in
/-- `MergeRefIdeal` runs to the end and leaves its arguments and the counters as they were. -/
theorem frame_MergeRefIdeal : quiescent_MergeRefIdeal (hMergeRefIdeal := Cert.MergeRefIdeal.Gen.facts) := by
  intro m g _
  refine (θ_run _ _ _).mono (fun r h => ⟨h, Idealize.ShloMosaic.sem_eq_zero_of_no_sems (by decide) r.2⟩) ?_
  hlo_run

/-- `OutProj` runs to the end and leaves its arguments and the counters as they were. -/
theorem frame_OutProj : quiescent_OutProj (hOutProj := Cert.OutProj.Gen.facts) :=
  fun m ρ _ => Cert.OutProj.Gen.frame m ρ

/-- `OutProjIdeal` runs to the end and leaves its arguments and the counters as they were. -/
theorem frame_OutProjIdeal : quiescent_OutProjIdeal (hOutProjIdeal := Cert.OutProjIdeal.Gen.facts) :=
  fun m ρ _ => Cert.OutProjIdeal.Gen.frame m ρ

set_option maxHeartbeats 3200000 in
/-- `OutProjRefIdeal` runs to the end and leaves its arguments and the counters as they were. -/
theorem frame_OutProjRefIdeal : quiescent_OutProjRefIdeal (hOutProjRefIdeal := Cert.OutProjRefIdeal.Gen.facts) := by
  intro m g _
  refine (θ_run _ _ _).mono (fun r h => ⟨h, Idealize.ShloMosaic.sem_eq_zero_of_no_sems (by decide) r.2⟩) ?_
  hlo_run

end Cert.Proof

end
-- ==== Proof.FfnValue.lean ====
/- The feed-forward block: the kernel sums over 11 tiles of 512 padded columns, the padded ones giving zero, where the
   reference sums over 5504 columns at once. -/
module

public import proofs.«01_k».proof.Proof.Gen.FfnIdeal.Frame
public import proofs.«01_k».proof.Proof.Gen.FfnRefIdeal
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnIdeal.Value

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- The blocks of a grid point: rows of block `t / 11`, and of the weights column tile `t % 11` (the gate half and, 11 tiles on,
    the other half) and the same rows of the second weight. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0]
    ∧ win0_6.index t = ![t.val / 11, 0] :=
  (by decide +kernel : ∀ t : Fin grid0.N, _)

/-- One half of the first weight, its columns followed by 128 columns of zeros. -/
abbrev half (X : FVec Ideal S2048x5504 .f32) : FVec Ideal S2048x5632 .f32 :=
  pad S2048x5632 ![0, 0] ![0, 128] ![0, 0] X (sitofp .f32 (constantI S_ 32 0#32)) pads_S2048x5504_S2048x5632_000_01280 h_S_

/-- The two padded halves side by side. -/
abbrev both (A B : FVec Ideal S2048x5632 .f32) : FVec Ideal S2048x11264 .bf16 :=
  truncf .bf16 (concatenate S2048x11264 1 [⟨S2048x5632, A⟩, ⟨S2048x5632, B⟩]
    concatenates_S2048x5632_S2048x5632_S2048x11264_d1) bitsLt_bf16_f32

/-- `both` of equal halves. -/
theorem both_congr {A A' B B' : FVec Ideal S2048x5632 .f32} (hA : A = A') (hB : B = B') : both A B = both A' B' := by
  rw [hA, hB]

/-- What the launch holds in the first weight's buffer. -/
theorem V_v5 (c : Dev nD) : V m c main_v5
    = both (half (extractStridedSlice S2048x5504 ![0, 0] (m ((c : Thread nD τ).loc main_arg2)) slices_S2048x11008_S2048x5504_0_0))
        (half (extractStridedSlice S2048x5504 ![0, 5504] (m ((c : Thread nD τ).loc main_arg2)) slices_S2048x11008_S2048x5504_0_5504)) := by
  unfold V
  simp only [hostOps0, hostOps0_1, hostOps0_2, hostOps0_3, hostOps0_4, hostOps0_5, hostOps0_6, List.flatten_cons,
    List.flatten_nil, List.cons_append, List.nil_append, List.append_nil, StableHlo.TRef.binary,
    StableHlo.TRef.nullary, StableHlo.TRef.unary, StableHlo.TRef.toBuf, StableHlo.TRef.ofBuf, cast_eq]
  after_results_simp
  refine both_congr ?_ ?_ <;> after_results_simp

/-- What the launch holds in the second weight's buffer: its rows, then 128 rows of zeros. -/
theorem V_v7 (c : Dev nD) : V m c main_v7
    = (truncf .bf16 (pad S5632x2048 ![0, 0] ![128, 0] ![0, 0] (m ((c : Thread nD τ).loc main_arg3))
        (sitofp .f32 (constantI S_ 32 0#32)) pads_S5504x2048_S5632x2048_01280_000 h_S_) bitsLt_bf16_f32 : FVec Ideal S5632x2048 .bf16) := by
  unfold V
  simp only [hostOps0, hostOps0_1, hostOps0_2, hostOps0_3, hostOps0_4, hostOps0_5, hostOps0_6, List.flatten_cons,
    List.flatten_nil, List.cons_append, List.nil_append, List.append_nil, StableHlo.TRef.binary,
    StableHlo.TRef.nullary, StableHlo.TRef.unary, StableHlo.TRef.toBuf, StableHlo.TRef.ofBuf, cast_eq]
  after_results_simp

/-- The first scale as one row. -/
theorem V_v8 (c : Dev nD) : V m c main_v8
    = (shapeCast S1x2048 (m ((c : Thread nD τ).loc main_arg1)) shapeCasts_S2048_S1x2048 : FVec Ideal S1x2048 .f32) := by
  unfold V
  simp only [hostOps0, hostOps0_1, hostOps0_2, hostOps0_3, hostOps0_4, hostOps0_5, hostOps0_6, List.flatten_cons,
    List.flatten_nil, List.cons_append, List.nil_append, List.append_nil, StableHlo.TRef.binary,
    StableHlo.TRef.nullary, StableHlo.TRef.unary, StableHlo.TRef.toBuf, StableHlo.TRef.ofBuf, cast_eq]
  after_results_simp
  rfl

/-- The second scale as one row. -/
theorem V_v9 (c : Dev nD) : V m c main_v9
    = (shapeCast S1x2048 (m ((c : Thread nD τ).loc main_arg4)) shapeCasts_S2048_S1x2048 : FVec Ideal S1x2048 .f32) := by
  unfold V
  simp only [hostOps0, hostOps0_1, hostOps0_2, hostOps0_3, hostOps0_4, hostOps0_5, hostOps0_6, List.flatten_cons,
    List.flatten_nil, List.cons_append, List.nil_append, List.append_nil, StableHlo.TRef.binary,
    StableHlo.TRef.nullary, StableHlo.TRef.unary, StableHlo.TRef.toBuf, StableHlo.TRef.ofBuf, cast_eq]
  after_results_simp
  rfl

/-- The second weight, its rows followed by 128 rows of zeros. -/
abbrev rows (X : FVec Ideal S5504x2048 .f32) : FVec Ideal S5632x2048 .bf16 :=
  truncf .bf16 (pad S5632x2048 ![0, 0] ![128, 0] ![0, 0] X
        (sitofp .f32 (constantI S_ 32 0#32)) pads_S5504x2048_S5632x2048_01280_000 h_S_) bitsLt_bf16_f32

/-- The integer zero as a real number. -/
theorem zero_f32 : (FloatOps.sitofp (F := Ideal) FTy.f32 0#32 : EReal) = 0 := by
  simp [FloatOps.sitofp]

/-- A column of the two halves side by side, in the first half. -/
theorem both_lo (W : FVec Ideal S2048x11008 .f32) (l : Fin 2048) (j : Fin 11264) (hj : j.val < 5632) :
    both (half (extractStridedSlice S2048x5504 ![0, 0] W slices_S2048x11008_S2048x5504_0_0))
        (half (extractStridedSlice S2048x5504 ![0, 5504] W slices_S2048x11008_S2048x5504_0_5504)) (ix2 l j)
      = if h : j.val < 5504 then W (ix2 l ⟨j.val, by omega⟩) else (0 : EReal) := by
  pointwise [both, half]
  rw [dif_pos hj]
  by_cases h : j.val < 5504
  · simp [h]
  · simp [h, zero_f32]

/-- A column of the two halves side by side, in the second half. -/
theorem both_hi (W : FVec Ideal S2048x11008 .f32) (l : Fin 2048) (j : Fin 11264) (hj : 5632 ≤ j.val) :
    both (half (extractStridedSlice S2048x5504 ![0, 0] W slices_S2048x11008_S2048x5504_0_0))
        (half (extractStridedSlice S2048x5504 ![0, 5504] W slices_S2048x11008_S2048x5504_0_5504)) (ix2 l j)
      = if h : j.val < 11136 then W (ix2 l ⟨j.val - 128, by omega⟩) else (0 : EReal) := by
  pointwise [both, half]
  rw [dif_neg (by omega)]
  by_cases h : j.val < 11136
  · have h' : j.val - 5632 < 5504 := by omega
    have e : 5504 + (j.val - 5632) = j.val - 128 := by omega
    simp [h, h', e]
  · have h' : ¬ j.val - 5632 < 5504 := by omega
    simp [h, h', zero_f32]

/-- A row of the padded second weight. -/
theorem rows_apply (X : FVec Ideal S5504x2048 .f32) (l : Fin 2048) (j : Fin 5632) :
    rows X (ix2 j l) = if h : j.val < 5504 then X (ix2 ⟨j.val, h⟩ l) else (0 : EReal) := by
  pointwise [rows]
  by_cases h : j.val < 5504
  · simp [h]
  · simp [h, zero_f32]

/-- The normed rows kept between the grid points of one row block are those of its rows. -/
theorem hx (c : Dev nD) : ∀ (n : ℕ) (hn : n < cfg0.N),
    (outsAt0 m c n hn).2.1 = k0_pay1 (iblk m c 0 ⟨n, hn⟩) (iblk m c 1 ⟨n, hn⟩)
  | 0, hn => by
    rw [outsAt0_A m c ⟨0, hn⟩ rfl (by dsimp only; omega)]
    frame_out
  | n + 1, hn => by
    by_cases h0 : (n + 1) % 11 = 0
    · rw [outsAt0_A m c ⟨n + 1, hn⟩ h0 (by dsimp only; omega)]
      frame_out
    · have e0 : iblk m c 0 ⟨n + 1, hn⟩ = iblk m c 0 ⟨n, Nat.lt_of_succ_lt hn⟩ := by
        have hd : (n + 1) / 11 = n / 11 := by omega
        funext y
        blk_ext [iblk, idx ⟨n + 1, hn⟩, idx ⟨n, Nat.lt_of_succ_lt hn⟩, hd]
      have e1 : iblk m c 1 ⟨n + 1, hn⟩ = iblk m c 1 ⟨n, Nat.lt_of_succ_lt hn⟩ := by
        funext y
        blk_ext [iblk, idx ⟨n + 1, hn⟩, idx ⟨n, Nat.lt_of_succ_lt hn⟩]
      rw [e0, e1, ← hx c n]
      by_cases h1 : (n + 1) % 11 = 10
      · rw [outsAt0_C m c ⟨n + 1, hn⟩ h0 h1]
        rfl
      · rw [outsAt0_B m c ⟨n + 1, hn⟩ h0 h1]
        rfl

/-- The last column tile writes the sum, normed, scaled and added to the rows. -/
theorem hout (c : Dev nD) (t : Fin cfg0.N) (h1 : t.val % 11 = 10) :
    (outsAt0 m c t.val t.isLt).1 = k0_pay4 (iblk m c 0 t) (outsAt0 m c t.val t.isLt).2.2 (iblk m c 5 t) := by
  rw [outsAt0_C m c t (by omega) h1]
  frame_out

/-- The first column tile starts the sum from zero. -/
theorem hacc_A (c : Dev nD) (t : Fin cfg0.N) (h0 : t.val % 11 = 0) :
    (outsAt0 m c t.val t.isLt).2.2 = k0_pay3 (k0_pay1 (iblk m c 0 t) (iblk m c 1 t)) (iblk m c 2 t) (iblk m c 3 t)
      (k0_pay2 (F := Ideal)) (iblk m c 4 t) := by
  rw [outsAt0_A m c t h0 (by omega)]
  frame_out

/-- Every further column tile adds to the sum the tile before it left. -/
theorem hacc_BC (c : Dev nD) (t : Fin cfg0.N) (h0 : ¬ t.val % 11 = 0) :
    (outsAt0 m c t.val t.isLt).2.2 = k0_pay3 (k0_pay1 (iblk m c 0 t) (iblk m c 1 t)) (iblk m c 2 t) (iblk m c 3 t)
      (outsAt0 m c (t.val - 1) (by omega)).2.2 (iblk m c 4 t) := by
  have hp : (outsAt0 m c (t.val - 1) (by omega)).2.1 = k0_pay1 (iblk m c 0 t) (iblk m c 1 t) := by
    rw [← hx m c t.val t.isLt]
    by_cases h1 : t.val % 11 = 10
    · rw [outsAt0_C m c t h0 h1]
      rfl
    · rw [outsAt0_B m c t h0 h1]
      rfl
  rw [← hp]
  by_cases h1 : t.val % 11 = 10
  · rw [outsAt0_C m c t h0 h1]
    frame_out
    simp only [read_unread_whole]
  · rw [outsAt0_B m c t h0 h1]
    frame_out
    simp only [read_unread_whole]

/-- The reciprocal root of a row's mean square. -/
abbrev inv (x : FVec Ideal Cert.FfnRefIdeal.S16384x2048 .f32) : FVec Ideal Cert.FfnRefIdeal.S16384x1 .f32 :=
  Host.rsqrt (addf (Host.divf
      (broadcastInDim Cert.FfnRefIdeal.S16384x1 ![0] Cert.FfnRefIdeal.Gen.bcast_S16384_S16384x1_0
        (Host.reduceAdd (mulf x x) (constant Cert.FfnRefIdeal.S_ .f32 0x00000000#32)
          Cert.FfnRefIdeal.Gen.reducesTo_S16384x2048_S16384_d1 Cert.FfnRefIdeal.Gen.h_S_))
      (broadcastInDim Cert.FfnRefIdeal.S16384x1 ![] Cert.FfnRefIdeal.Gen.bcast_S_S16384x1 (constant Cert.FfnRefIdeal.S_ .f32 0x45000000#32)))
    (broadcastInDim Cert.FfnRefIdeal.S16384x1 ![] Cert.FfnRefIdeal.Gen.bcast_S_S16384x1 (constant Cert.FfnRefIdeal.S_ .f32 0x358637BD#32)))

/-- Rows divided by the root of their mean square and scaled. -/
abbrev norm (x : FVec Ideal Cert.FfnRefIdeal.S16384x2048 .f32) (g : FVec Ideal Cert.FfnRefIdeal.S2048 .f32) :
    FVec Ideal Cert.FfnRefIdeal.S16384x2048 .f32 :=
  mulf (mulf x (broadcastInDim Cert.FfnRefIdeal.S16384x2048 ![0, 1] Cert.FfnRefIdeal.Gen.bcast_S16384x1_S16384x2048_0_1 (inv x)))
    (broadcastInDim Cert.FfnRefIdeal.S16384x2048 ![0, 1] Cert.FfnRefIdeal.Gen.bcast_S1x2048_S16384x2048_0_1
      (broadcastInDim Cert.FfnRefIdeal.S1x2048 ![1] Cert.FfnRefIdeal.Gen.bcast_S2048_S1x2048_1 g))

/-- The product with the first weight. -/
abbrev ab (h : FVec Ideal Cert.FfnRefIdeal.S16384x2048 .f32) (wi : FVec Ideal Cert.FfnRefIdeal.S2048x11008 .f32) :
    FVec Ideal Cert.FfnRefIdeal.S16384x11008 .f32 :=
  Host.dotGeneral Cert.FfnRefIdeal.dot_S16384x2048_S2048x11008_S16384x11008_1_0_0_1_n_n none h wi

/-- The gated activation. -/
abbrev act (z : FVec Ideal Cert.FfnRefIdeal.S16384x11008 .f32) : FVec Ideal Cert.FfnRefIdeal.S16384x5504 .f32 :=
  mulf (mulf (extractStridedSlice Cert.FfnRefIdeal.S16384x5504 ![0, 0] z Cert.FfnRefIdeal.Gen.slices_S16384x11008_S16384x5504_0_0)
      (Host.divf (broadcastInDim Cert.FfnRefIdeal.S16384x5504 ![] Cert.FfnRefIdeal.Gen.bcast_S_S16384x5504 (constant Cert.FfnRefIdeal.S_ .f32 0x3F800000#32))
        (addf (broadcastInDim Cert.FfnRefIdeal.S16384x5504 ![] Cert.FfnRefIdeal.Gen.bcast_S_S16384x5504 (constant Cert.FfnRefIdeal.S_ .f32 0x3F800000#32))
          (Host.exp (Host.negf (extractStridedSlice Cert.FfnRefIdeal.S16384x5504 ![0, 0] z Cert.FfnRefIdeal.Gen.slices_S16384x11008_S16384x5504_0_0))))))
    (extractStridedSlice Cert.FfnRefIdeal.S16384x5504 ![0, 5504] z Cert.FfnRefIdeal.Gen.slices_S16384x11008_S16384x5504_0_5504)

/-- The feed-forward product before its norm. -/
abbrev Y (x : FVec Ideal Cert.FfnRefIdeal.S16384x2048 .f32) (g : FVec Ideal Cert.FfnRefIdeal.S2048 .f32)
    (wi : FVec Ideal Cert.FfnRefIdeal.S2048x11008 .f32) (wo : FVec Ideal Cert.FfnRefIdeal.S5504x2048 .f32) :
    FVec Ideal Cert.FfnRefIdeal.S16384x2048 .f32 :=
  Host.dotGeneral Cert.FfnRefIdeal.dot_S16384x5504_S5504x2048_S16384x2048_1_0_0_1_n_n none (act (ab (norm x g) wi)) wo

/-- The reference's result: the residual and one half of the normed product. -/
abbrev REF (x : FVec Ideal Cert.FfnRefIdeal.S16384x2048 .f32) (g : FVec Ideal Cert.FfnRefIdeal.S2048 .f32)
    (wi : FVec Ideal Cert.FfnRefIdeal.S2048x11008 .f32) (wo : FVec Ideal Cert.FfnRefIdeal.S5504x2048 .f32)
    (g' : FVec Ideal Cert.FfnRefIdeal.S2048 .f32) : FVec Ideal Cert.FfnRefIdeal.S16384x2048 .f32 :=
  addf x (mulf (broadcastInDim Cert.FfnRefIdeal.S16384x2048 ![] Cert.FfnRefIdeal.Gen.bcast_S_S16384x2048 (constant Cert.FfnRefIdeal.S_ .f32 0x3F000000#32))
    (norm (Y x g wi wo) g'))

/-- The logistic function, written out. -/
theorem div_exp_neg (x : EReal) : Ideal.div 1 (1 + Ideal.exp (-x)) = Ideal.logistic x := rfl

/-- A sum whose last 128 terms are zero. -/
theorem pad_sum (G : Fin 5504 → EReal) :
    ∑ j : Fin 5632, (if h : j.val < 5504 then G ⟨j.val, h⟩ else 0) = ∑ j : Fin 5504, G j := by
  have e := Fin.sum_univ_add (M := EReal) (a := 5504) (b := 128)
    (fun j : Fin (5504 + 128) => if h : j.val < 5504 then G ⟨j.val, h⟩ else 0)
  refine e.trans ?_
  rw [show ∑ i : Fin 128, (fun j : Fin (5504 + 128) => if h : j.val < 5504 then G ⟨j.val, h⟩ else 0) (Fin.natAdd 5504 i) = (0 : EReal) from
    Finset.sum_eq_zero fun i _ => by simp]
  rw [add_zero]
  exact Finset.sum_congr rfl fun i _ => by simp

/-- A grid point's block of rows. -/
theorem r0 (c : Dev nD) (t : Fin cfg0.N) (a : Fin 512) (l : Fin 2048) : iblk m c 0 t (ix2 a l)
    = m ((c : Thread nD τ).loc main_arg0) (ix2 ⟨t.val / 11 * 512 + a.val, by have := t.isLt; have : cfg0.N = 352 := by decide +kernel
                                                                             omega⟩ l) := by
  blk_point [iblk, V, idx t]

/-- The scales of the first norm at a grid point. -/
theorem r1 (c : Dev nD) (t : Fin cfg0.N) (z : Fin 1) (l : Fin 2048) : iblk m c 1 t (ix2 z l)
    = m ((c : Thread nD τ).loc main_arg1) (ix1 l) := by
  have e : iblk m c 1 t (ix2 z l) = V m c main_v8 (ix2 z l) := by blk_point [iblk, idx t]
  rw [e, V_v8]
  pointwise

/-- The scales of the second norm at a grid point. -/
theorem r5 (c : Dev nD) (t : Fin cfg0.N) (z : Fin 1) (l : Fin 2048) : iblk m c 5 t (ix2 z l)
    = m ((c : Thread nD τ).loc main_arg4) (ix1 l) := by
  have e : iblk m c 5 t (ix2 z l) = V m c main_v9 (ix2 z l) := by blk_point [iblk, idx t]
  rw [e, V_v9]
  pointwise

/-- A grid point's columns of the first half of the first weight. -/
theorem r2 (c : Dev nD) (t : Fin cfg0.N) (l : Fin 2048) (k : Fin 512) : iblk m c 2 t (ix2 l k)
    = V m c main_v5 (ix2 l ⟨t.val % 11 * 512 + k.val, by omega⟩) := by
  blk_point [iblk, idx t]

/-- A grid point's columns of the second half of the first weight. -/
theorem r3 (c : Dev nD) (t : Fin cfg0.N) (l : Fin 2048) (k : Fin 512) : iblk m c 3 t (ix2 l k)
    = V m c main_v5 (ix2 l ⟨(t.val % 11 + 11) * 512 + k.val, by omega⟩) := by
  blk_point [iblk, idx t]

/-- A grid point's rows of the second weight. -/
theorem r4 (c : Dev nD) (t : Fin cfg0.N) (k : Fin 512) (j : Fin 2048) : iblk m c 4 t (ix2 k j)
    = V m c main_v7 (ix2 ⟨t.val % 11 * 512 + k.val, by omega⟩ j) := by
  blk_point [iblk, idx t]

/-- The normed rows a grid point works with are the reference's. -/
theorem rh (c : Dev nD) (t : Fin cfg0.N) (a : Fin 512) (l : Fin 2048) (r : Fin 16384) (hr : r.val = t.val / 11 * 512 + a.val) :
    k0_pay1 (iblk m c 0 t) (iblk m c 1 t) (ix2 a l)
      = norm (m ((c : Thread nD τ).loc main_arg0)) (m ((c : Thread nD τ).loc main_arg1)) (ix2 r l) := by
  have hr' : (⟨t.val / 11 * 512 + a.val, hr ▸ r.isLt⟩ : Fin 16384) = r := Fin.ext hr.symm
  pointwise [k0_pay1, norm, inv]
  simp only [r0, r1, hr']

/-- One term of the feed-forward product: the activation of a column times the second weight, over variables. -/
def term (h : Fin 2048 → EReal) (wi : FVec Ideal S2048x11008 .f32) (wo : FVec Ideal S5504x2048 .f32) (col : Fin 2048)
    (j : Fin 5504) : EReal :=
  (∑ l : Fin 2048, h l * wi (ix2 l ⟨j.val, by omega⟩))
    * Ideal.logistic (∑ l : Fin 2048, h l * wi (ix2 l ⟨j.val, by omega⟩))
    * (∑ l : Fin 2048, h l * wi (ix2 l ⟨5504 + j.val, by omega⟩)) * wo (ix2 j col)

/-- The reference's product as a sum of terms. -/
theorem Y_apply (x : FVec Ideal Cert.FfnRefIdeal.S16384x2048 .f32) (g : FVec Ideal Cert.FfnRefIdeal.S2048 .f32)
    (wi : FVec Ideal Cert.FfnRefIdeal.S2048x11008 .f32) (wo : FVec Ideal Cert.FfnRefIdeal.S5504x2048 .f32)
    (r : Fin 16384) (col : Fin 2048) :
    Y x g wi wo (ix2 r col) = ∑ j : Fin 5504, term (fun l => norm x g (ix2 r l)) wi wo col j := by
  generalize hh : norm x g = h
  simp only [Y, hh]
  pointwise [ab, act, term]
  simp only [Ideal.ofBits_one_f32, div_exp_neg]

/-- One point's addition to the accumulator. -/
theorem pay3 (h : Vec Ideal S512x2048 .bf16) (a b : Vec Ideal S2048x512 .bf16) (acc : Vec Ideal S512x2048 .f32)
    (w : Vec Ideal S512x2048 .bf16) (i : Fin 512) (col : Fin 2048) :
    k0_pay3 h a b acc w (ix2 i col) = acc (ix2 i col) + ∑ k : Fin 512,
      ((∑ l : Fin 2048, h (ix2 i l) * a (ix2 l k)) * Ideal.logistic (∑ l : Fin 2048, h (ix2 i l) * a (ix2 l k))
        * (∑ l : Fin 2048, h (ix2 i l) * b (ix2 l k)) * w (ix2 k col) : EReal) := by
  pointwise [k0_pay3]

/-- The sum starts from zero. -/
theorem pay2 (y : S512x2048.Idx) : k0_pay2 (F := Ideal) y = (0 : EReal) := by
  pointwise [k0_pay2]

/-- The sum a grid point adds at a row and a column. -/
def add (c : Dev nD) (t : Fin cfg0.N) (i : Fin 512) (col : Fin 2048) : EReal :=
  ∑ k : Fin 512,
      ((∑ l : Fin 2048, k0_pay1 (iblk m c 0 t) (iblk m c 1 t) (ix2 i l) * iblk m c 2 t (ix2 l k))
        * Ideal.logistic (∑ l : Fin 2048, k0_pay1 (iblk m c 0 t) (iblk m c 1 t) (ix2 i l) * iblk m c 2 t (ix2 l k))
        * (∑ l : Fin 2048, k0_pay1 (iblk m c 0 t) (iblk m c 1 t) (ix2 i l) * iblk m c 3 t (ix2 l k)) * iblk m c 4 t (ix2 k col) : EReal)

/-- What the accumulator holds when a row of tiles is done. -/
theorem acc_sum (c : Dev nD) (t : Fin cfg0.N) (ht : t.val % 11 = 10) (i : Fin 512) (col : Fin 2048) :
    (outsAt0 m c t.val t.isLt).2.2 (ix2 i col)
      = (0 : EReal) + ∑ s : Fin 11, add m c ⟨11 * (t.val / 11) + s.val, Pipeline.run_point_lt_of_flush t ht s⟩ i col :=
  Pipeline.eq_sum_fin_of_reset_step_apply_of_flush (M := EReal) (ι := Fin 512 × Fin 2048)
    (fun n h y => (outsAt0 m c n h).2.2 (ix2 y.1 y.2)) 11 (fun _ => 0) (fun t y => add m c t y.1 y.2)
    (fun t h y => by
      show (outsAt0 m c t.val t.isLt).2.2 (ix2 y.1 y.2) = _
      rw [hacc_A m c t h, pay3, pay2]
      rfl)
    (fun t h y => by
      show (outsAt0 m c t.val t.isLt).2.2 (ix2 y.1 y.2) = _
      rw [hacc_BC m c t h, pay3]
      rfl) t ht (i, col)

/-- A tile's addition is the sum of the reference's terms of its columns; the columns past the last add zero. -/
theorem add_eq (c : Dev nD) (t : Fin cfg0.N) (i : Fin 512) (col : Fin 2048) (r : Fin 16384) (hr : r.val = t.val / 11 * 512 + i.val)  :
    add m c t i col = ∑ k : Fin 512, (if h : t.val % 11 * 512 + k.val < 5504 then
      term (fun l => norm (m ((c : Thread nD τ).loc main_arg0)) (m ((c : Thread nD τ).loc main_arg1)) (ix2 r l))
        (m ((c : Thread nD τ).loc main_arg2)) (m ((c : Thread nD τ).loc main_arg3)) col ⟨_, h⟩ else 0) := by
  refine Finset.sum_congr rfl fun k _ => ?_
  simp only [rh m c t i _ r hr, r2, r3, r4, V_v5, V_v7]
  have e4 := rows_apply (m ((c : Thread nD τ).loc main_arg3)) col ⟨t.val % 11 * 512 + k.val, by omega⟩
  by_cases h : t.val % 11 * 512 + k.val < 5504
  · have e2 := fun l => (both_lo (m ((c : Thread nD τ).loc main_arg2)) l ⟨t.val % 11 * 512 + k.val, by omega⟩ (by dsimp only; omega)).trans (dif_pos h)
    have e3 := fun l => (both_hi (m ((c : Thread nD τ).loc main_arg2)) l ⟨(t.val % 11 + 11) * 512 + k.val, by omega⟩ (by dsimp only; omega)).trans
      (dif_pos (show (t.val % 11 + 11) * 512 + k.val < 11136 by omega))
    rw [dif_pos h]
    have e4' := e4.trans (dif_pos h)
    have hi : (⟨(t.val % 11 + 11) * 512 + k.val - 128, by omega⟩ : Fin 11008) = ⟨5504 + (t.val % 11 * 512 + k.val), by omega⟩ :=
      Fin.ext (by dsimp only; omega)
    simp only [hi] at e3
    refine congrArg₂ (· * ·) (congrArg₂ (· * ·) (congrArg₂ (· * ·) ?_ (congrArg Ideal.logistic ?_)) ?_) e4'
    · exact Finset.sum_congr rfl fun l _ => congrArg _ (e2 l)
    · exact Finset.sum_congr rfl fun l _ => congrArg _ (e2 l)
    · exact Finset.sum_congr rfl fun l _ => congrArg _ (e3 l)
  · rw [dif_neg h]
    have e4' := e4.trans (dif_neg h)
    refine (congrArg _ e4').trans ?_
    exact mul_zero _

/-- The accumulator at the last tile of a row of tiles is the reference's product. -/
theorem acc_eq (c : Dev nD) (t : Fin cfg0.N) (ht : t.val % 11 = 10) (i : Fin 512) (col : Fin 2048) (r : Fin 16384)
    (hr : r.val = t.val / 11 * 512 + i.val) :
    (outsAt0 m c t.val t.isLt).2.2 (ix2 i col)
      = Y (m ((c : Thread nD τ).loc main_arg0)) (m ((c : Thread nD τ).loc main_arg1))
          (m ((c : Thread nD τ).loc main_arg2)) (m ((c : Thread nD τ).loc main_arg3)) (ix2 r col) := by
  rw [acc_sum m c t ht, Y_apply, ← pad_sum]
  refine (zero_add _).trans ?_
  refine (Finset.sum_congr rfl fun s _ => add_eq m c _ i col r ?_).trans ?_
  · dsimp only
    rw [hr]
    omega
  · refine Fin.sum_mul_add_congr fun s k hl => ?_
    have e : (11 * (t.val / 11) + s.val) % 11 = s.val := by omega
    simp only [e]

/-- One element of the block a row of tiles writes is the reference's element there. -/
theorem point (c : Dev nD) (t : Fin cfg0.N) (ht : t.val % 11 = 10) (y : S512x2048.Idx) :
    k0_pay4 (iblk m c 0 t) (outsAt0 m c t.val t.isLt).2.2 (iblk m c 5 t) y
      = REF (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 6).blk t).view.emb y) := by
  have hN : t.val < 352 := t.isLt
  obtain ⟨i, col, rfl⟩ : ∃ (i : Fin 512) (col : Fin 2048), y = ix2 i col := ⟨y 0, y 1, by funext a; fin_cases a <;> rfl⟩
  have hE : ((cfg0.win 6).blk t).view.emb (ix2 i col) = ix2 ⟨t.val / 11 * 512 + i.val, by omega⟩ col := by
    blk_ext [idx t]
  rw [hE]
  have ha := fun j => acc_eq m c t ht i j ⟨t.val / 11 * 512 + i.val, by omega⟩ rfl
  generalize (outsAt0 m c t.val t.isLt).2.2 = A at ha ⊢
  simp only [REF]
  generalize Y (m ((c : Thread nD τ).loc main_arg0)) (m ((c : Thread nD τ).loc main_arg1))
          (m ((c : Thread nD τ).loc main_arg2)) (m ((c : Thread nD τ).loc main_arg3)) = B at ha ⊢
  pointwise [k0_pay4, norm, inv]
  simp only [r0, r5, ha]

/-- The array the run leaves is the reference's. -/
theorem final (c : Dev nD) : (dats m 0 c).arrAt 6 (cfgs 0).N
    = REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := (flush0_6 t).mp hf
  blk_simp
  rw [after0_6, hout m c t ht]
  exact point m c t ht y

end Cert.FfnIdeal.Value

end
-- ==== Proof.FfnClaim.lean ====
/- The two programs of the feed-forward block leave the same array. -/
module

public import proofs.«01_k».proof.Defs
public import proofs.«01_k».proof.Proof.Gen.FfnIdeal.Value
public import proofs.«01_k».proof.Proof.Gen.FfnRefIdeal.Run
public import proofs.«01_k».proof.Proof.FfnValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's result, its lines gathered. -/
theorem ffn_result (m : (ℓ : Loc Cert.FfnRefIdeal.nD Cert.FfnRefIdeal.τ Cert.FfnRefIdeal.sig) → Buf (Elt Ideal) ℓ)
    (c : Dev Cert.FfnRefIdeal.nD) : Cert.FfnRefIdeal.Value.res_main_v34 m c
    = Cert.FfnIdeal.Value.REF (m ((c.tc : Thread Cert.FfnRefIdeal.nD Cert.FfnRefIdeal.τ).loc Cert.FfnRefIdeal.main_arg0))
        (m ((c.tc : Thread Cert.FfnRefIdeal.nD Cert.FfnRefIdeal.τ).loc Cert.FfnRefIdeal.main_arg1))
        (m ((c.tc : Thread Cert.FfnRefIdeal.nD Cert.FfnRefIdeal.τ).loc Cert.FfnRefIdeal.main_arg2))
        (m ((c.tc : Thread Cert.FfnRefIdeal.nD Cert.FfnRefIdeal.τ).loc Cert.FfnRefIdeal.main_arg3))
        (m ((c.tc : Thread Cert.FfnRefIdeal.nD Cert.FfnRefIdeal.τ).loc Cert.FfnRefIdeal.main_arg4)) := by
  with_unfolding_all rfl

set_option maxHeartbeats 3200000 in
/-- From memories that agree on the arguments, the kernel and the reference of the feed-forward block end with equal
    results. -/
theorem algebraic_Ffn : algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    obtain ⟨a0, a1, a2, a3, a4⟩ := hagree c
    refine (ffn_result m' c).trans ?_
    rw [a0, a1, a2, a3, a4]
    exact (Cert.FfnIdeal.Value.final m c).symm

end Cert.Proof

end
-- ==== Proof.InRetValue.lean ====
/- The input projection's columns for the retention: every block the kernel writes is the product of its rows of `h`
   with its columns of the weight, which is the same block of the reference's product. -/
module

public import proofs.«01_k».proof.Proof.Gen.InRetIdeal.Frame
public import proofs.«01_k».proof.Proof.Gen.InRetRefIdeal
public import Idealize.ShloMosaic.Lib.Pipeline.ValueKit
public import Idealize.ShloMosaic.Lib.Claim

@[expose] public section

set_option maxRecDepth 16384

noncomputable section

namespace Cert.InRetIdeal.Value

open Idealize.ShloMosaic Idealize.ShloMosaic.TcCoe Idealize.SL.Sem
open Idealize.ShloMosaic.Pipeline (Dat)
open Cert.InRetIdeal Cert.InRetIdeal.Gen

variable (m : (ℓ : Loc nD τ sig) → Buf (Elt Ideal) ℓ)

/-- The reference's columns: rows of `h` times columns `1088 …` of `w`, as the host program composes them. -/
abbrev REF (h : FVec Ideal Cert.InRetRefIdeal.S16384x2048 .bf16) (w : FVec Ideal Cert.InRetRefIdeal.S2048x13376 .f32) :
    FVec Ideal Cert.InRetRefIdeal.S16384x8192 .bf16 :=
  truncf .bf16 (extractStridedSlice Cert.InRetRefIdeal.S16384x8192 ![0, 1088]
    (Host.dotGeneral Cert.InRetRefIdeal.dot_S16384x2048_S2048x13376_S16384x13376_1_0_0_1_n_n none
      (extf .f32 h Cert.InRetRefIdeal.Gen.bitsLt_bf16_f32) w)
    Cert.InRetRefIdeal.Gen.slices_S16384x13376_S16384x8192_0_1088) Cert.InRetRefIdeal.Gen.bitsLt_bf16_f32

/-- Where each window's block lies at a grid point: point `t` takes the row block and the column block its own
    result block has. -/
theorem idx : ∀ t : Fin cfg0.N, win0_0.index t = ![win0_2.index t 0, 0] ∧ win0_1.index t = ![0, win0_2.index t 1] :=
  (by decide +kernel : ∀ t : Fin grid0.N, _)

/-- One element of the block a grid point writes is the reference's element there. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.InRetIdeal.Value

end
-- ==== Proof.InRetClaim.lean ====
/- The two programs of the retention projection leave the same array. -/
module

public import proofs.«01_k».proof.Defs
public import proofs.«01_k».proof.Proof.Gen.InRetIdeal.Frame
public import proofs.«01_k».proof.Proof.Gen.InRetRefIdeal
public import proofs.«01_k».proof.Proof.InRetValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the retention projection end with equal results. -/
theorem algebraic_InRet : algebraic_InRetIdeal_InRetRefIdeal (hInRetIdeal := Cert.InRetIdeal.Gen.facts) (hInRetRefIdeal := Cert.InRetRefIdeal.Gen.facts) := by
  pair_intro
  · run_from Cert.InRetIdeal.Gen.run_main m g
  · hlo_run
    exact (Cert.InRetIdeal.Value.final m c).symm

end Cert.Proof

end
-- ==== Proof.InGmValue.lean ====
/- The input projection's columns for the spatial gating: every block the kernel writes is the product of its rows of `h`
   with its columns of the weight, which is the same block of the reference's product. -/
module

public import proofs.«01_k».proof.Proof.Gen.InGmIdeal.Frame
public import proofs.«01_k».proof.Proof.Gen.InGmRefIdeal
public import Idealize.ShloMosaic.Lib.Pipeline.ValueKit
public import Idealize.ShloMosaic.Lib.Claim

@[expose] public section

set_option maxRecDepth 16384

noncomputable section

namespace Cert.InGmIdeal.Value

open Idealize.ShloMosaic Idealize.ShloMosaic.TcCoe Idealize.SL.Sem
open Idealize.ShloMosaic.Pipeline (Dat)
open Cert.InGmIdeal Cert.InGmIdeal.Gen

variable (m : (ℓ : Loc nD τ sig) → Buf (Elt Ideal) ℓ)

/-- The reference's columns: rows of `h` times columns `9280 …` of `w`, as the host program composes them. -/
abbrev REF (h : FVec Ideal Cert.InGmRefIdeal.S16384x2048 .bf16) (w : FVec Ideal Cert.InGmRefIdeal.S2048x13376 .f32) :
    FVec Ideal Cert.InGmRefIdeal.S16384x4096 .bf16 :=
  truncf .bf16 (extractStridedSlice Cert.InGmRefIdeal.S16384x4096 ![0, 9280]
    (Host.dotGeneral Cert.InGmRefIdeal.dot_S16384x2048_S2048x13376_S16384x13376_1_0_0_1_n_n none
      (extf .f32 h Cert.InGmRefIdeal.Gen.bitsLt_bf16_f32) w)
    Cert.InGmRefIdeal.Gen.slices_S16384x13376_S16384x4096_0_9280) Cert.InGmRefIdeal.Gen.bitsLt_bf16_f32

/-- Where each window's block lies at a grid point: point `t` takes the row block and the column block its own
    result block has. -/
theorem idx : ∀ t : Fin cfg0.N, win0_0.index t = ![win0_2.index t 0, 0] ∧ win0_1.index t = ![0, win0_2.index t 1] :=
  (by decide +kernel : ∀ t : Fin grid0.N, _)

/-- One element of the block a grid point writes is the reference's element there. -/
theorem point (c : Dev nD) (t : Fin cfg0.N) (y : S1024x1024.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF]
  blk_point [iblk, V, idx t]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.InGmIdeal.Value

end
-- ==== Proof.InGmClaim.lean ====
/- The two programs of the gated-unit projection leave the same array. -/
module

public import proofs.«01_k».proof.Defs
public import proofs.«01_k».proof.Proof.Gen.InGmIdeal.Frame
public import proofs.«01_k».proof.Proof.Gen.InGmRefIdeal
public import proofs.«01_k».proof.Proof.InGmValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the gated-unit projection end with equal results. -/
theorem algebraic_InGm : algebraic_InGmIdeal_InGmRefIdeal (hInGmIdeal := Cert.InGmIdeal.Gen.facts) (hInGmRefIdeal := Cert.InGmRefIdeal.Gen.facts) := by
  pair_intro
  · run_from Cert.InGmIdeal.Gen.run_main m g
  · hlo_run
    exact (Cert.InGmIdeal.Value.final m c).symm

end Cert.Proof

end
-- ==== Proof.AttnMath.lean ====
/- Attention over extended reals: a softmax taken tile by tile, with a running maximum, is the softmax taken at once. -/
module

public import proofs.«01_k».proof.Proof.Gen.KernelIdeal.Frame
public import Idealize.ShloMosaic.Lib.Pipeline.ValueKit
public import Idealize.ShloMosaic.Lib.Claim

@[expose] public section

noncomputable section

namespace Cert.Attn

open Idealize.ShloMosaic

/-- The exponential is not negative. -/
theorem exp_nonneg (x : EReal) : 0 ≤ Ideal.exp x := by
  induction x using EReal.rec with
  | bot => exact le_of_eq rfl
  | coe r => exact EReal.coe_nonneg.mpr (Real.exp_pos r).le
  | top => exact le_top

/-- The exponential of anything above minus infinity is positive. -/
theorem exp_pos (x : EReal) (h : x ≠ ⊥) : 0 < Ideal.exp x := by
  induction x using EReal.rec with
  | bot => exact absurd rfl h
  | coe r => exact EReal.coe_pos.mpr (Real.exp_pos r)
  | top => exact EReal.zero_lt_top

/-- The exponential of anything below infinity is below infinity. -/
theorem exp_ne_top (x : EReal) (h : x ≠ ⊤) : Ideal.exp x ≠ ⊤ := by
  induction x using EReal.rec with
  | bot => exact EReal.zero_ne_top
  | coe r => exact EReal.coe_ne_top _
  | top => exact absurd rfl h

/-- The exponential of minus infinity is zero. -/
theorem exp_bot : Ideal.exp ⊥ = 0 := rfl

/-- Below a bound short of plus infinity, a difference is not plus infinity. -/
theorem sub_ne_top {a b : EReal} (h : a ≤ b) (hb : b ≠ ⊤) : a - b ≠ ⊤ := by
  induction b using EReal.rec with
  | bot => rw [le_bot_iff.mp h]; exact bot_ne_top
  | coe r =>
    induction a using EReal.rec with
    | bot => exact bot_ne_top
    | coe s => exact EReal.coe_ne_top _
    | top => exact absurd (top_le_iff.mp h) hb
  | top => exact absurd rfl hb

/-- Weights rescaled from one maximum to a larger. -/
theorem exp_mul {s m m' : EReal} (hs : s ≤ m) (hm : m ≤ m') (ht : m' ≠ ⊤) :
    Ideal.exp (m - m') * Ideal.exp (s - m) = Ideal.exp (s - m') := by
  induction m using EReal.rec with
  | bot =>
    rw [le_bot_iff.mp hs, EReal.bot_sub, EReal.bot_sub, exp_bot, mul_zero]
  | top => exact absurd (top_le_iff.mp hm) ht
  | coe a =>
    induction m' using EReal.rec with
    | bot => exact absurd (le_bot_iff.mp hm) (EReal.coe_ne_bot a)
    | top => exact absurd rfl ht
    | coe b =>
      induction s using EReal.rec with
      | bot => rw [EReal.bot_sub, EReal.bot_sub, exp_bot, mul_zero]
      | top => exact absurd (top_le_iff.mp hs) (EReal.coe_ne_top a)
      | coe c =>
        show ((Real.exp (a - b) : ℝ) : EReal) * ((Real.exp (c - a) : ℝ) : EReal) = ((Real.exp (c - b) : ℝ) : EReal)
        rw [← EReal.coe_mul, ← Real.exp_add]
        congr 2
        ring

/-- A scalar that is neither negative nor plus infinity goes into a sum. -/
theorem mul_sum {ι : Type*} (S : Finset ι) (c : EReal) (h0 : 0 ≤ c) (h1 : c ≠ ⊤) (f : ι → EReal) :
    c * ∑ i ∈ S, f i = ∑ i ∈ S, c * f i := by
  classical
  induction S using Finset.induction_on with
  | empty => rw [Finset.sum_empty, Finset.sum_empty, mul_zero]
  | insert a S ha ih =>
    rw [Finset.sum_insert ha, Finset.sum_insert ha, EReal.left_distrib_of_nonneg_of_ne_top h0 h1, ih]

/-- A sum over 4096 keys whose terms are zero outside a tile of 256 is the tile's sum. -/
theorem tile_sum (j : Fin 16) (G : Fin 4096 → EReal) (h : ∀ k : Fin 4096, k.val / 256 ≠ j.val → G k = 0) :
    ∑ k : Fin 4096, G k = ∑ k : Fin 256, G ⟨j.val * 256 + k.val, by omega⟩ := by
  rw [← Fin.sum_mul_add_congr (L := 4096) (S := 16) (n := 256) (f := G)
    (F := fun s k => G ⟨s.val * 256 + k.val, by omega⟩) (fun s k hl => rfl)]
  refine Finset.sum_eq_single j (fun s _ hs => Finset.sum_eq_zero fun k _ => h _ ?_) (fun hj => absurd (Finset.mem_univ j) hj)
  dsimp only
  have : s.val ≠ j.val := fun e => hs (Fin.ext e)
  omega

/-- The maximum over all keys. -/
def top (s : Fin 4096 → EReal) : EReal := Finset.univ.sup s

/-- A score is at most the maximum. -/
theorem le_top' (s : Fin 4096 → EReal) (k : Fin 4096) : s k ≤ top s := Finset.le_sup (Finset.mem_univ k)

/-- The maximum of scores below infinity is below infinity. -/
theorem top_ne_top (s : Fin 4096 → EReal) (h : ∀ k, s k ≠ ⊤) : top s ≠ ⊤ := by
  refine ne_of_lt ((Finset.sup_lt_iff bot_lt_top).mpr fun k _ => lt_top_iff_ne_top.mpr (h k))

/-- The sum of the weights below a bound, each times a value. -/
def wsum (s : Fin 4096 → EReal) (M : EReal) (v : Fin 4096 → EReal) : EReal := ∑ k, Ideal.exp (s k - M) * v k

/-- One more tile: the scores `s'` are `s` outside tile `j`, where `s` has nothing yet. -/
structure Next (j : Fin 16) (s s' : Fin 4096 → EReal) : Prop where
  on : ∀ k : Fin 4096, k.val / 256 = j.val → s k = ⊥
  off : ∀ k : Fin 4096, k.val / 256 ≠ j.val → s' k = s k
  fin : ∀ k, s' k ≠ ⊤

/-- Taking one more tile in lowers no score. -/
theorem Next.le {j : Fin 16} {s s' : Fin 4096 → EReal} (h : Next j s s') (k : Fin 4096) : s k ≤ s' k := by
  by_cases e : k.val / 256 = j.val
  · rw [h.on k e]; exact bot_le
  · rw [h.off k e]

/-- The running maximum after a tile. -/
theorem Next.top {j : Fin 16} {s s' : Fin 4096 → EReal} (h : Next j s s') :
    max (top s) (Finset.univ.sup fun k : Fin 256 => s' ⟨j.val * 256 + k.val, by omega⟩) = Attn.top s' := by
  refine le_antisymm (max_le ?_ ?_) ?_
  · exact Finset.sup_mono_fun fun k _ => h.le k
  · exact Finset.sup_le fun k _ => le_top' s' _
  · refine Finset.sup_le fun k _ => ?_
    by_cases e : k.val / 256 = j.val
    · refine le_max_of_le_right ?_
      have hk : (⟨j.val * 256 + (⟨k.val % 256, Nat.mod_lt _ (by decide)⟩ : Fin 256).val, by dsimp only; omega⟩ : Fin 4096) = k :=
        Fin.ext (by dsimp only; omega)
      have := Finset.le_sup (f := fun k : Fin 256 => s' ⟨j.val * 256 + k.val, by omega⟩)
        (Finset.mem_univ (⟨k.val % 256, Nat.mod_lt _ (by decide)⟩ : Fin 256))
      dsimp only at this hk
      rwa [hk] at this
    · rw [h.off k e]
      exact le_max_of_le_left (le_top' s k)

/-- A weighted sum after a tile: the old one rescaled, and the tile's own. -/
theorem Next.wsum {j : Fin 16} {s s' : Fin 4096 → EReal} (h : Next j s s') (v : Fin 4096 → EReal) :
    Ideal.exp (Attn.top s - Attn.top s') * wsum s (Attn.top s) v
        + ∑ k : Fin 256, Ideal.exp (s' ⟨j.val * 256 + k.val, by omega⟩ - Attn.top s') * v ⟨j.val * 256 + k.val, by omega⟩
      = Attn.wsum s' (Attn.top s') v := by
  have hle : Attn.top s ≤ Attn.top s' := Finset.sup_mono_fun fun k _ => h.le k
  have ht := top_ne_top s' h.fin
  unfold Attn.wsum
  rw [mul_sum _ _ (exp_nonneg _) (exp_ne_top _ (sub_ne_top hle ht)),
    ← tile_sum j (fun k => if k.val / 256 = j.val then Ideal.exp (s' k - Attn.top s') * v k else 0)
      (fun k hk => if_neg hk) |>.trans (Finset.sum_congr rfl fun k _ => if_pos (by dsimp only; omega)),
    ← Finset.sum_add_distrib]
  refine Finset.sum_congr rfl fun k _ => ?_
  rw [← mul_assoc, exp_mul (le_top' s k) hle ht]
  by_cases e : k.val / 256 = j.val
  · rw [if_pos e, h.on k e, EReal.bot_sub, exp_bot, zero_mul, zero_add]
  · rw [if_neg e, h.off k e, add_zero]

/-- Dividing each weight by the weights' sum, or the weighted sum once. -/
theorem softmax_div (s : Fin 4096 → EReal) (hs : ∀ k, s k ≠ ⊤) (k₀ : Fin 4096) (h₀ : s k₀ ≠ ⊥) (v : Fin 4096 → EReal) :
    Ideal.div (wsum s (top s) v) (∑ k, Ideal.exp (s k - top s))
      = ∑ k, Ideal.div (Ideal.exp (s k - top s)) (∑ k, Ideal.exp (s k - top s)) * v k := by
  have hM := top_ne_top s hs
  have hb : s k₀ - top s ≠ ⊥ := by
    have h1 := le_top' s k₀
    generalize s k₀ = a at h₀ h1 ⊢
    generalize top s = b at hM h1 ⊢
    induction b using EReal.rec with
    | bot => exact absurd (le_bot_iff.mp h1) h₀
    | top => exact absurd rfl hM
    | coe r =>
      induction a using EReal.rec with
      | bot => exact absurd rfl h₀
      | coe q => exact EReal.coe_ne_bot _
      | top => exact absurd (top_le_iff.mp h1) hM
  have hL : 0 < ∑ k, Ideal.exp (s k - top s) :=
    lt_of_lt_of_le (exp_pos _ hb) (Finset.single_le_sum (f := fun k => Ideal.exp (s k - top s)) (fun k _ => exp_nonneg _) (Finset.mem_univ k₀))
  generalize ∑ k, Ideal.exp (s k - top s) = L at hL
  have hd : ∀ x : EReal, Ideal.div x L = L⁻¹ * x := fun x => by
    unfold Ideal.div
    rw [if_neg hL.ne', mul_comm]
  have h0 : 0 ≤ L⁻¹ := EReal.inv_nonneg_of_nonneg hL.le
  have h1 : L⁻¹ ≠ ⊤ := by
    induction L using EReal.rec with
    | bot => exact absurd hL (by simp)
    | top => rw [EReal.inv_top]; exact EReal.zero_ne_top
    | coe r => rw [← EReal.coe_inv]; exact EReal.coe_ne_top _
  rw [hd, wsum, mul_sum _ _ h0 h1]
  exact Finset.sum_congr rfl fun k _ => by rw [hd, mul_assoc]

/-- Products of finite numbers add up to a finite number. -/
theorem sum_finite {ι : Type*} (S : Finset ι) (f : ι → EReal) (h : ∀ i, f i ≠ ⊤ ∧ f i ≠ ⊥) : ∑ i ∈ S, f i ≠ ⊤ ∧ ∑ i ∈ S, f i ≠ ⊥ := by
  classical
  induction S using Finset.induction_on with
  | empty => exact ⟨EReal.zero_ne_top, EReal.zero_ne_bot⟩
  | insert a S ha ih =>
    rw [Finset.sum_insert ha]
    lift f a to ℝ using h a with x
    lift ∑ i ∈ S, f i to ℝ using ih with y
    exact ⟨EReal.coe_ne_top _, EReal.coe_ne_bot _⟩

/-- A product of finite numbers is finite. -/
theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

end Cert.Attn

end
-- ==== Proof.AttnStep.lean ====
/- One tile of the attention kernel's running softmax, row by row. -/
module

public import proofs.«01_k».proof.Proof.Gen.KernelIdeal.Frame
public import proofs.«01_k».proof.Proof.AttnMath
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen

/-- The word of minus infinity. -/
theorem ninf : Ideal.ofBits FTy.f32 0xFF800000#32 = ⊥ := by rfl

/-- The product of a query row and a key row of a tile, the key's two halves beside each other, scaled. -/
def dotted (q : FVec Ideal S256x256 .bf16) (a b : FVec Ideal S1x256x128 .bf16) (r k : Fin 256) : EReal :=
  ((∑ x : Fin 128, (q (ix2 r ⟨x.val, by omega⟩) : EReal) * a (ix3 0 k x))
      + ∑ x : Fin 128, (q (ix2 r ⟨128 + x.val, by omega⟩) : EReal) * b (ix3 0 k x)) * Ideal.ofBits FTy.f32 0x3D93CD3A#32

/-- A score of a tile before the diagonal. -/
theorem pay5_at (q : FVec Ideal S256x256 .bf16) (a b : FVec Ideal S1x256x128 .bf16) (r k : Fin 256) :
    k0_pay5 (F := Ideal) q a b (ix2 r k) = dotted q a b r k := by
  unfold dotted
  pointwise [k0_pay5]

/-- A position's chunk in its tile, as the kernel computes it. -/
theorem chunk_word : ∀ n : Fin 256, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

/-- The row's chunk in its tile. -/
theorem pay17_at (r k : Fin 256) : k0_pay17 (ix2 r k) = BitVec.ofNat 32 (r.val / 64) := by
  pointwise [k0_pay17]
  exact chunk_word r

/-- Chunks in a tile, compared as words. -/
theorem chunk_le (a b : Fin 256) :
    IntOp.cmpi CmpIPredicate.sle (BitVec.ofNat 32 (a.val / 64)) (BitVec.ofNat 32 (b.val / 64)) = if a.val / 64 ≤ b.val / 64 then 1#1 else 0#1 := by
  have h : ∀ x y : Fin 4, IntOp.cmpi CmpIPredicate.sle (BitVec.ofNat 32 x.val) (BitVec.ofNat 32 y.val) = if x.val ≤ y.val then 1#1 else 0#1 := by
    decide +kernel
  exact h ⟨a.val / 64, by omega⟩ ⟨b.val / 64, by omega⟩

/-- A score of the diagonal tile: minus infinity where the key's chunk is after the row's. -/
theorem pay18_at (q : FVec Ideal S256x256 .bf16) (a b : FVec Ideal S1x256x128 .bf16) (r k : Fin 256) :
    k0_pay18 (F := Ideal) q k0_pay17 (iota Kind.tc S256x256 32 [1] iota_S256x256_d1_w32) 64#32 a b (ix2 r k)
      = if k.val / 64 ≤ r.val / 64 then dotted q a b r k else ⊥ := by
  have hk : iota Kind.tc S256x256 32 [1] iota_S256x256_d1_w32 (ix2 r k) = BitVec.ofNat 32 k.val := by pointwise
  have hm : (Named.named κ "mask" 0xF149F2CA#32 : Ideal .f32) = (⊥ : EReal) := IdealRules.named_const.ideal_named_scalar _ _ _ _ rfl
  have hr := pay17_at r k
  unfold dotted
  generalize iota Kind.tc S256x256 32 [1] iota_S256x256_d1_w32 = kk at *
  generalize k0_pay17 = rr at *
  pointwise [k0_pay18]
  rw [hk, hr, hm, chunk_word k, chunk_le k r]
  split <;> rfl

/-- The running maximum, weight and weighted values of a row, over the scores met so far. -/
structure Good (r : Fin 256) (s : Fin 4096 → EReal) (v : Fin 128 → Fin 4096 → EReal)
    (S : FVec Ideal S256x1 .f32 × FVec Ideal S256x1 .f32 × FVec Ideal S256x128 .f32) : Prop where
  max : S.1 (ix2 r 0) = Attn.top s
  sum : S.2.1 (ix2 r 0) = Attn.wsum s (Attn.top s) fun _ => 1
  acc : ∀ x, S.2.2 (ix2 r x) = Attn.wsum s (Attn.top s) (v x)

/-- Before the first tile nothing is met. -/
theorem Good.start (r : Fin 256) (v : Fin 128 → Fin 4096 → EReal) :
    Good r (fun _ => ⊥) v (k0_pay2 (F := Ideal), k0_pay3 (F := Ideal), k0_pay4 (F := Ideal)) := by
  have ht : Attn.top (fun _ => ⊥) = ⊥ := by
    unfold Attn.top
    exact Finset.sup_bot _
  have hw : ∀ w, Attn.wsum (fun _ => ⊥) ⊥ w = 0 := by
    intro w
    unfold Attn.wsum
    exact Finset.sum_eq_zero fun k _ => by rw [EReal.bot_sub, Attn.exp_bot, zero_mul]
  refine ⟨?_, ?_, fun x => ?_⟩
  · rw [ht]; exact IdealRules.named_const.ideal_named_scalar _ _ _ _ rfl
  · rw [ht, hw]; exact Ideal.ofBits_zero_f32
  · rw [ht, hw]; exact Ideal.ofBits_zero_f32

variable {r : Fin 256} {s s' : Fin 4096 → EReal} {v : Fin 128 → Fin 4096 → EReal} {j : Fin 16}
  {S : FVec Ideal S256x1 .f32 × FVec Ideal S256x1 .f32 × FVec Ideal S256x128 .f32}

/-- A tile before the diagonal takes the row from the scores met before it to those met with it. -/
theorem Good.step (hS : Good r s v S) (hn : Attn.Next j s s') (q : FVec Ideal S256x256 .bf16) (a b w : FVec Ideal S1x256x128 .bf16)
    (hs : ∀ k : Fin 256, dotted q a b r k = s' ⟨j.val * 256 + k.val, by omega⟩)
    (hw : ∀ (k : Fin 256) (x : Fin 128), w (ix3 0 k x) = v x ⟨j.val * 256 + k.val, by omega⟩) :
    Good r s' v (k0_pay6 (F := Ideal) q S.1 a b, k0_pay9 (F := Ideal) q S.1 S.2.1 a b, k0_pay10 (F := Ideal) q S.1 S.2.2 a b w) := by
  have h5 : ∀ k : Fin 256, k0_pay5 (F := Ideal) q a b (ix2 r k) = s' ⟨j.val * 256 + k.val, by omega⟩ := fun k => (pay5_at q a b r k).trans (hs k)
  have h6 : k0_pay6 (F := Ideal) q S.1 a b (ix2 r 0) = Attn.top s' := by
    refine Eq.trans ?_ hn.top
    unfold k0_pay6
    generalize k0_pay5 (F := Ideal) q a b = sc at *
    pointwise
    rw [hS.max, ninf]
    simp only [h5]
    rfl
  refine ⟨h6, ?_, fun x => ?_⟩
  · refine Eq.trans ?_ (hn.wsum _)
    unfold k0_pay9 k0_pay7 k0_pay8
    generalize k0_pay6 (F := Ideal) q S.1 a b = M' at *
    generalize k0_pay5 (F := Ideal) q a b = sc at *
    dsimp only
    pointwise
    rw [hS.max, hS.sum, h6]
    simp only [h5, mul_one]
  · refine Eq.trans ?_ (hn.wsum _)
    unfold k0_pay10 k0_pay7 k0_pay8
    generalize k0_pay6 (F := Ideal) q S.1 a b = M' at *
    generalize k0_pay5 (F := Ideal) q a b = sc at *
    dsimp only
    pointwise
    rw [hS.max, hS.acc, h6]
    simp only [h5, hw]

/-- The diagonal tile and the division: the row's weighted values over its weight. -/
theorem Good.last (hS : Good r s v S) (hn : Attn.Next j s s') (q : FVec Ideal S256x256 .bf16) (a b w : FVec Ideal S1x256x128 .bf16)
    (hs : ∀ k : Fin 256, (if k.val / 64 ≤ r.val / 64 then dotted q a b r k else ⊥) = s' ⟨j.val * 256 + k.val, by omega⟩)
    (hw : ∀ (k : Fin 256) (x : Fin 128), w (ix3 0 k x) = v x ⟨j.val * 256 + k.val, by omega⟩) (x : Fin 128) :
    k0_pay1 (F := Ideal) S.2.2
        (k0_pay20 (F := Ideal) q S.1 k0_pay17 (iota Kind.tc S256x256 32 [1] iota_S256x256_d1_w32) 64#32 a b)
        (k0_pay21 (F := Ideal) q S.1 k0_pay17 (iota Kind.tc S256x256 32 [1] iota_S256x256_d1_w32) 64#32 a b)
        (k0_pay22 (F := Ideal) q S.1 S.2.1 k0_pay17 (iota Kind.tc S256x256 32 [1] iota_S256x256_d1_w32) 64#32 a b) w (ix2 r x)
      = Ideal.div (Attn.wsum s' (Attn.top s') (v x)) (∑ k, Ideal.exp (s' k - Attn.top s')) := by
  have h5 : ∀ k : Fin 256, k0_pay18 (F := Ideal) q k0_pay17 (iota Kind.tc S256x256 32 [1] iota_S256x256_d1_w32) 64#32 a b (ix2 r k)
      = s' ⟨j.val * 256 + k.val, by omega⟩ := fun k => (pay18_at q a b r k).trans (hs k)
  have h6 : k0_pay19 (F := Ideal) q S.1 k0_pay17 (iota Kind.tc S256x256 32 [1] iota_S256x256_d1_w32) 64#32 a b (ix2 r 0) = Attn.top s' := by
    refine Eq.trans ?_ hn.top
    unfold k0_pay19
    generalize k0_pay18 (F := Ideal) q k0_pay17 (iota Kind.tc S256x256 32 [1] iota_S256x256_d1_w32) 64#32 a b = sc at *
    pointwise
    rw [hS.max, ninf]
    simp only [h5]
    rfl
  have hl : (∑ k, Ideal.exp (s' k - Attn.top s')) = Attn.wsum s' (Attn.top s') fun _ => 1 := by
    unfold Attn.wsum
    exact Finset.sum_congr rfl fun k _ => (mul_one _).symm
  rw [hl, ← hn.wsum, ← hn.wsum]
  unfold k0_pay22 k0_pay21 k0_pay20
  generalize k0_pay19 (F := Ideal) q S.1 k0_pay17 (iota Kind.tc S256x256 32 [1] iota_S256x256_d1_w32) 64#32 a b = M' at *
  generalize k0_pay18 (F := Ideal) q k0_pay17 (iota Kind.tc S256x256 32 [1] iota_S256x256_d1_w32) 64#32 a b = sc at *
  pointwise [k0_pay1]
  rw [hS.max, hS.sum, hS.acc, h6]
  simp only [h5, hw, mul_one]

end Cert.KernelIdeal.Value

end
-- ==== Proof.AttnRef.lean ====
/- The attention's reference, entry by entry. -/
module

public import proofs.«01_k».proof.Proof.Gen.ReferenceIdeal.Run
public import proofs.«01_k».proof.Proof.AttnMath
public import Idealize.ShloMosaic.Lib.Pipeline.ValueKit
public import Idealize.ShloMosaic.Lib.Pipeline.ReadBack
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The chunk of each position: the position over 64, rounded down. -/
abbrev chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys a query may see, from the positions' chunks. -/
abbrev mask (ch : IVec S4096 32) : IVec S4x16x4096x4096 1 :=
  broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 ch)) (broadcastInDim S4096x4096 ![0, 1] bcast_S4096x1_S4096x4096_0_1 (broadcastInDim S4096x1 ![0] bcast_S4096_S4096x1_0 ch)))

/-- The scores before the mask. -/
abbrev raw (q kv : FVec Ideal S16384x4096 .bf16) (kr : FVec Ideal S16384x128 .bf16) : FVec Ideal S4x16x4096x4096 .f32 :=
  mulf (addf (Host.dotGeneral dot_S4x4096x16x128_S4x4096x16x128_S4x16x4096x4096_3_3_1_1_02_02 none (extractStridedSlice S4x4096x16x128 ![0, 0, 0, 0] (shapeCast _ (extf .f32 q bitsLt_bf16_f32) shapeCasts_S16384x4096_S4x4096x16x256) slices_S4x4096x16x256_S4x4096x16x128_0_0_0_0) (extractStridedSlice S4x4096x16x128 ![0, 0, 0, 0] (shapeCast _ (extf .f32 kv bitsLt_bf16_f32) shapeCasts_S16384x4096_S4x4096x16x256) slices_S4x4096x16x256_S4x4096x16x128_0_0_0_0)) (transpose S4x16x4096x4096 [0, 3, 2, 1] (Host.dotGeneral dot_S4x4096x64_S4x4096x16x64_S4x4096x4096x16_2_3_1_12_0_0 none (extractStridedSlice S4x4096x64 ![0, 0, 0] (shapeCast _ (extf .f32 kr bitsLt_bf16_f32) shapeCasts_S16384x128_S4x4096x128) slices_S4x4096x128_S4x4096x64_0_0_0) (extractStridedSlice S4x4096x16x64 ![0, 0, 0, 128] (shapeCast _ (extf .f32 q bitsLt_bf16_f32) shapeCasts_S16384x4096_S4x4096x16x256) slices_S4x4096x16x256_S4x4096x16x64_0_0_0_128)) transposes_S4x4096x4096x16_S4x16x4096x4096_0_3_2_1)) (broadcastInDim S4x16x4096x4096 ![] bcast_S_S4x16x4096x4096 (constant S_ .f32 0x3D93CD3A#32))

/-- The masked scores. -/
abbrev scores (ma : IVec S4x16x4096x4096 1) (r : FVec Ideal S4x16x4096x4096 .f32) : FVec Ideal S4x16x4096x4096 .f32 :=
  select ma r (broadcastInDim S4x16x4096x4096 ![] bcast_S_S4x16x4096x4096 (id (constant S_ .f32 0xFF800000#32)))

/-- The weights before they are divided by their sum. -/
abbrev expo (s : FVec Ideal S4x16x4096x4096 .f32) : FVec Ideal S4x16x4096x4096 .f32 :=
  Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) (Host.reduce FloatOps.maximumf s (constant S_ .f32 0xFF800000#32) reducesTo_S4x16x4096x4096_S4x16x4096_d3 h_S_)))))

/-- The weighted values, from the weights before the division. -/
abbrev weighted (kv : FVec Ideal S16384x4096 .bf16) (e : FVec Ideal S4x16x4096x4096 .f32) : FVec Ideal S16384x2048 .bf16 :=
  truncf .bf16 (shapeCast _ (transpose S4x4096x16x128 [0, 3, 1, 2] (Host.dotGeneral dot_S4x4096x16x128_S4x16x4096x4096_S4x16x128x4096_1_3_3_2_02_01 none (extractStridedSlice S4x4096x16x128 ![0, 0, 0, 128] (shapeCast _ (extf .f32 kv bitsLt_bf16_f32) shapeCasts_S16384x4096_S4x4096x16x256) slices_S4x4096x16x256_S4x4096x16x128_0_0_0_128) (Host.divf e (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd e (constant S_ .f32 0x00000000#32) reducesTo_S4x16x4096x4096_S4x16x4096_d3 h_S_))))) transposes_S4x16x128x4096_S4x4096x16x128_0_3_1_2) shapeCasts_S4x4096x16x128_S16384x2048) bitsLt_bf16_f32

/-- The reference's result. -/
abbrev REF (q kv : FVec Ideal S16384x4096 .bf16) (kr : FVec Ideal S16384x128 .bf16) : FVec Ideal S16384x2048 .bf16 :=
  weighted kv (expo (scores (mask chunk) (raw q kv kr)))

/-- The reference's result, its lines gathered. -/
theorem result (m : (ℓ : Loc nD τ sig) → Buf (Elt Ideal) ℓ) (c : Dev nD) : res_main_v39 m c
    = REF (m ((c.tc : Thread nD τ).loc main_arg0)) (m ((c.tc : Thread nD τ).loc main_arg1)) (m ((c.tc : Thread nD τ).loc main_arg2)) := by
  with_unfolding_all rfl

/-- A maximum along the last of four axes. -/
theorem rowmax {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (j : (⟨3, ![n0, n1, n2]⟩ : Shape).Idx) :
    Host.reduce max x init h hu j = Finset.univ.fold max (init (Shape.Idx.first hu)) fun k : Fin n3 => x (ix4 (j 0) (j 1) (j 2) k) :=
  (Host.reduce_eq_fold max x init h hu j).trans (h.fold_fiber_r4_a3 j max _ x)

/-- The mask's word is minus infinity. -/
theorem ofBits_ninf : Ideal.ofBits FTy.f32 0xFF800000#32 = ⊥ := by
  rfl

set_option maxHeartbeats 1600000 in
/-- The operations on words that round a position over 64 down. -/
theorem chunk_word : ∀ n : Fin 4096, Scalar.select
      (IntOp.andi
        (IntOp.cmpi CmpIPredicate.ne
          (if BitVec.ofNat 32 n.val = 0 then (0 : BitVec 32) else if (BitVec.ofNat 32 n.val).msb = true then -1 else 1)
          (if 64#32 = 0 then (0 : BitVec 32) else if (64#32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by
  decide +kernel

/-- A position's chunk. -/
theorem chunk_at (n : S4096.Idx) : chunk n = BitVec.ofNat 32 ((n 0).val / 64) := by
  pointwise [chunk]
  exact chunk_word (n 0)

/-- The chunks, compared as words. -/
theorem chunk_le (a b : Fin 4096) :
    IntOp.cmpi CmpIPredicate.sle (BitVec.ofNat 32 (a.val / 64)) (BitVec.ofNat 32 (b.val / 64)) = if a.val / 64 ≤ b.val / 64 then 1#1 else 0#1 := by
  have h : ∀ x y : Fin 64, IntOp.cmpi CmpIPredicate.sle (BitVec.ofNat 32 x.val) (BitVec.ofNat 32 y.val) = if x.val ≤ y.val then 1#1 else 0#1 := by
    decide +kernel
  exact h ⟨a.val / 64, by omega⟩ ⟨b.val / 64, by omega⟩

/-- A query sees the keys of its own chunk and of those before. -/
theorem mask_at (y : S4x16x4096x4096.Idx) :
    mask chunk y = if (y 3).val / 64 ≤ (y 2).val / 64 then 1#1 else 0#1 := by
  have h : ∀ ch : IVec S4096 32, mask ch y = IntOp.cmpi CmpIPredicate.sle (ch (ix1 (y 3))) (ch (ix1 (y 2))) := by
    intro ch; pointwise [mask]
  rw [h, chunk_at, chunk_at]
  exact chunk_le (y 3) (y 2)

/-- A query's score with a key: their products over the first 128 lanes and over the rotary lanes, scaled. -/
def score (q kv : FVec Ideal S16384x4096 .bf16) (kr : FVec Ideal S16384x128 .bf16) (b : Fin 4) (h : Fin 16) (n k : Fin 4096) : EReal :=
  ((∑ x : Fin 128, (q (ix2 ⟨b.val * 4096 + n.val, by omega⟩ ⟨h.val * 256 + x.val, by omega⟩) : EReal)
        * kv (ix2 ⟨b.val * 4096 + k.val, by omega⟩ ⟨h.val * 256 + x.val, by omega⟩))
      + ∑ x : Fin 64, (kr (ix2 ⟨b.val * 4096 + k.val, by omega⟩ ⟨x.val, by omega⟩) : EReal)
        * q (ix2 ⟨b.val * 4096 + n.val, by omega⟩ ⟨h.val * 256 + (128 + x.val), by omega⟩))
    * Ideal.ofBits FTy.f32 0x3D93CD3A#32

/-- The masked score. -/
def masked (q kv : FVec Ideal S16384x4096 .bf16) (kr : FVec Ideal S16384x128 .bf16) (b : Fin 4) (h : Fin 16) (n k : Fin 4096) : EReal :=
  if k.val / 64 ≤ n.val / 64 then score q kv kr b h n k else ⊥

/-- An entry of the masked scores. -/
theorem scores_at (q kv : FVec Ideal S16384x4096 .bf16) (kr : FVec Ideal S16384x128 .bf16) (y : S4x16x4096x4096.Idx) :
    scores (mask chunk) (raw q kv kr) y = masked q kv kr (y 0) (y 1) (y 2) (y 3) := by
  have h0 : raw q kv kr y = score q kv kr (y 0) (y 1) (y 2) (y 3) := by pointwise [raw]; rfl
  have h : ∀ (ma : IVec S4x16x4096x4096 1) (r : FVec Ideal S4x16x4096x4096 .f32), scores ma r y = Scalar.select (ma y) (r y) (⊥ : EReal) := by
    intro ma r; pointwise [scores]; rw [← ofBits_ninf]; rfl
  rw [h, mask_at, h0]
  unfold masked
  split
  · rfl
  · rfl

/-- An entry of the weights before they are divided by their sum. -/
theorem expo_at (s : FVec Ideal S4x16x4096x4096 .f32) (y : S4x16x4096x4096.Idx) :
    expo s y = Ideal.exp (s y - Attn.top fun k => s (ix4 (y 0) (y 1) (y 2) k)) := by
  have h : ∀ M : FVec Ideal S4x16x4096 .f32, Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) M)))) y
      = Ideal.exp (s y - max (Ideal.ofBits FTy.f32 0xFF800000#32) (M (ix3 (y 0) (y 1) (y 2)))) := by
    intro M; pointwise
  refine (h _).trans ?_
  rw [ofBits_ninf, max_eq_right bot_le]
  refine congrArg (fun M => Ideal.exp (s y - M)) ?_
  refine (rowmax s _ reducesTo_S4x16x4096x4096_S4x16x4096_d3 h_S_ _).trans ?_
  exact congrArg (fun z => Finset.univ.fold max z fun k : Fin 4096 => s (ix4 (y 0) (y 1) (y 2) k)) ofBits_ninf

/-- The reference's result, entry by entry: the weights divided by their sum, times the values. -/
theorem REF_at (q kv : FVec Ideal S16384x4096 .bf16) (kr : FVec Ideal S16384x128 .bf16) (b : Fin 4) (h : Fin 16) (n : Fin 4096) (x : Fin 128)
    (y : S16384x2048.Idx) (h0 : (y 0).val = b.val * 4096 + n.val) (h1 : (y 1).val = h.val * 128 + x.val) :
    REF q kv kr y = ∑ k, Ideal.div (Ideal.exp (masked q kv kr b h n k - Attn.top (masked q kv kr b h n)))
        (∑ k, Ideal.exp (masked q kv kr b h n k - Attn.top (masked q kv kr b h n)))
      * kv (ix2 ⟨b.val * 4096 + k.val, by omega⟩ ⟨h.val * 256 + (128 + x.val), by omega⟩) := by
  have hw : ∀ e : FVec Ideal S4x16x4096x4096 .f32, weighted kv e y
      = ∑ k : Fin 4096, (kv (ix2 ⟨b.val * 4096 + k.val, by omega⟩ ⟨h.val * 256 + (128 + x.val), by omega⟩) : EReal)
          * Ideal.div (e (ix4 b h n k)) (∑ k, e (ix4 b h n k)) := by
    intro e
    have e0 : (y 0).val / 4096 = b.val := by omega
    have e1 : (y 1).val / 128 = h.val := by omega
    have e2 : (y 0).val % 4096 = n.val := by omega
    have e3 : (y 1).val % 128 = x.val := by omega
    pointwise [weighted]
    simp only [e0, e1, e2, e3]
  have hs : (fun k => scores (mask chunk) (raw q kv kr) (ix4 b h n k)) = masked q kv kr b h n :=
    funext fun k => scores_at q kv kr _
  have he : ∀ k, expo (scores (mask chunk) (raw q kv kr)) (ix4 b h n k)
      = Ideal.exp (masked q kv kr b h n k - Attn.top (masked q kv kr b h n)) := fun k => by
    rw [expo_at, scores_at]
    exact congrArg (fun s => Ideal.exp (masked q kv kr b h n k - Attn.top s)) hs
  refine (hw _).trans (Finset.sum_congr rfl fun k _ => ?_)
  simp only [he]
  exact mul_comm _ _

end Cert.ReferenceIdeal.Value

end
-- ==== Proof.AttnValue.lean ====
/- The array the attention kernel leaves. -/
module

public import proofs.«01_k».proof.Proof.AttnStep
public import proofs.«01_k».proof.Proof.AttnRef

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The tile's number along the sequence at a grid point. -/
abbrev tile (t : Fin cfg0.N) : ℕ := (grid0.coords t 2).val

/-- The blocks of a grid point, from the block of the result it leaves. -/
theorem idx : ∀ t : Fin cfg0.N, win0_0.index t = win0_3.index t ∧ win0_1.index t = ![win0_3.index t 0 / 16, 0, win0_3.index t 1]
    ∧ win0_2.index t = ![win0_3.index t 0 / 16, 0, 0] ∧ win0_3.index t 0 % 16 = tile t ∧ win0_3.index t 0 < 64 ∧ win0_3.index t 1 < 16 :=
  (by decide +kernel : ∀ t : Fin grid0.N, _)

/-- The state of the running softmax before tile `j`. -/
abbrev state (c : Dev nD) (t : Fin cfg0.N) (j : ℕ) : FVec Ideal S256x1 .f32 × FVec Ideal S256x1 .f32 × FVec Ideal S256x128 .f32 :=
  st_k0_t1 (F := Ideal) Variants.none c none (grid0.coords t) (ms0_0 t) (hs0_0 t) (ms0_1 t) (hs0_1 t) (ms0_2 t) (hs0_2 t) (ms0_3 t) (hs0_3 t)
    (iblk m c 0 t) ((hs0_1 t).unread (iblk m c 1 t)) ((hs0_2 t).unread (iblk m c 2 t)) (k0_pay2 (F := Ideal), k0_pay3 (F := Ideal), k0_pay4 (F := Ideal)) j

/-- The loops' trips: the tiles before the diagonal, and none after. -/
theorem trips : ∀ i : Fin 16, Scf.trips (0#32) (Scalar.addi (0#32) (Scalar.muli (Scalar.divsi (Scalar.subi (BitVec.ofNat 32 i.val) 0#32) 1#32) 1#32)) 1#32 = i.val
    ∧ Scf.trips (Scalar.addi (0#32) (Scalar.muli (Scalar.divsi (Scalar.subi (BitVec.ofNat 32 i.val) 0#32) 1#32) 1#32))
        (Scalar.addi (0#32) (Scalar.subi (BitVec.ofNat 32 i.val) 0#32)) 1#32 = 0 := by
  decide +kernel

/-- What a grid point leaves: the diagonal tile taken into the state the loop over the tiles before it leaves. -/
theorem outs (c : Dev nD) (t : Fin cfg0.N) : outsAt0 m c t = k0_pay1 (F := Ideal) (state m c t (tile t)).2.2
      (k0_pay20 (F := Ideal) (iblk m c 0 t) (state m c t (tile t)).1 k0_pay17 (iota Kind.tc S256x256 32 [1] iota_S256x256_d1_w32) 64#32
        (View.ld (iblk m c 1 t) (Rect.unit (k0_off7 (grid0.coords t)) ![1, 256, 128] (k0_off7_inb _)))
        (View.ld (iblk m c 2 t) (Rect.unit (k0_off8 (grid0.coords t)) ![1, 256, 128] (k0_off8_inb _))))
      (k0_pay21 (F := Ideal) (iblk m c 0 t) (state m c t (tile t)).1 k0_pay17 (iota Kind.tc S256x256 32 [1] iota_S256x256_d1_w32) 64#32
        (View.ld (iblk m c 1 t) (Rect.unit (k0_off7 (grid0.coords t)) ![1, 256, 128] (k0_off7_inb _)))
        (View.ld (iblk m c 2 t) (Rect.unit (k0_off8 (grid0.coords t)) ![1, 256, 128] (k0_off8_inb _))))
      (k0_pay22 (F := Ideal) (iblk m c 0 t) (state m c t (tile t)).1 (state m c t (tile t)).2.1 k0_pay17 (iota Kind.tc S256x256 32 [1] iota_S256x256_d1_w32) 64#32
        (View.ld (iblk m c 1 t) (Rect.unit (k0_off7 (grid0.coords t)) ![1, 256, 128] (k0_off7_inb _)))
        (View.ld (iblk m c 2 t) (Rect.unit (k0_off8 (grid0.coords t)) ![1, 256, 128] (k0_off8_inb _))))
      (View.ld (iblk m c 1 t) (Rect.unit (k0_off9 (grid0.coords t)) ![1, 256, 128] (k0_off9_inb _))) := by
  unfold outsAt0
  frame_out
  rw [(trips (grid0.coords t 2)).1, (trips (grid0.coords t 2)).2]
  rfl

/-- One trip of the loop: a tile taken into the state. -/
theorem tripR (c : Dev nD) (t : Fin cfg0.N) (j : Fin (k0_t1_loop (grid0.coords t)).trips) :
    state m c t (j.val + 1) = (k0_pay6 (F := Ideal) (iblk m c 0 t) (state m c t j.val).1
        (View.ld (iblk m c 1 t) (Rect.unit (k0_off1 (grid0.coords t) j) ![1, 256, 128] (k0_off1_inb _ _)))
        (View.ld (iblk m c 2 t) (Rect.unit (k0_off2 (grid0.coords t) j) ![1, 256, 128] (k0_off2_inb _ _))),
      k0_pay9 (F := Ideal) (iblk m c 0 t) (state m c t j.val).1 (state m c t j.val).2.1
        (View.ld (iblk m c 1 t) (Rect.unit (k0_off1 (grid0.coords t) j) ![1, 256, 128] (k0_off1_inb _ _)))
        (View.ld (iblk m c 2 t) (Rect.unit (k0_off2 (grid0.coords t) j) ![1, 256, 128] (k0_off2_inb _ _))),
      k0_pay10 (F := Ideal) (iblk m c 0 t) (state m c t j.val).1 (state m c t j.val).2.2
        (View.ld (iblk m c 1 t) (Rect.unit (k0_off1 (grid0.coords t) j) ![1, 256, 128] (k0_off1_inb _ _)))
        (View.ld (iblk m c 2 t) (Rect.unit (k0_off2 (grid0.coords t) j) ![1, 256, 128] (k0_off2_inb _ _)))
        (View.ld (iblk m c 1 t) (Rect.unit (k0_off3 (grid0.coords t) j) ![1, 256, 128] (k0_off3_inb _ _)))) := by
  rw [state, st_k0_t1_succ]
  unfold tripR_k0_t1 trip_k0_t1
  dsimp only
  simp only [View.readAt_eq_ld, Memref.IsWhole.read_unread]
  rfl

/-- A query block, read. -/
theorem rd0 (c : Dev nD) (t : Fin cfg0.N) (r x : Fin 256) : iblk m c 0 t (ix2 r x)
    = m ((c : Thread nD τ).loc main_arg0) (ix2 ⟨win0_3.index t 0 * 256 + r.val, by have := idx t; omega⟩ ⟨win0_3.index t 1 * 256 + x.val, by have := idx t; omega⟩) := by
  blk_point [iblk, V, idx t]

/-- A block of keys and values, read. -/
theorem rd1 (c : Dev nD) (t : Fin cfg0.N) (k : Fin 4096) (x : Fin 256) : iblk m c 1 t (ix3 0 k x)
    = m ((c : Thread nD τ).loc main_arg1) (ix2 ⟨win0_3.index t 0 / 16 * 4096 + k.val, by have := idx t; omega⟩ ⟨win0_3.index t 1 * 256 + x.val, by have := idx t; omega⟩) := by
  blk_point [iblk, V, idx t]

/-- The rotary key's rows of a grid point: those of its batch entry. -/
theorem rd2 (c : Dev nD) (t : Fin cfg0.N) (k : Fin 4096) (x : Fin 128) : iblk m c 2 t (ix3 0 k x)
    = m ((c : Thread nD τ).loc main_arg2) (ix2 ⟨win0_3.index t 0 / 16 * 4096 + k.val, by have := idx t; omega⟩ x) := by
  blk_point [iblk, V, idx t]

/-- The offsets of a tile's loads, as words. -/
theorem offs : ∀ j : Fin 16, (Scalar.indexCast (Scalar.muli (Scf.iv 0#32 1#32 j.val) 256#32)).toNat = j.val * 256
    ∧ (Scalar.indexCast (Scalar.muli (BitVec.ofNat 32 j.val) 256#32)).toNat = j.val * 256 := by
  decide +kernel

/-- The trips are the tile's number. -/
theorem trips_eq (t : Fin cfg0.N) : (k0_t1_loop (grid0.coords t)).trips = tile t := (trips (grid0.coords t 2)).1

/-- A tile's 128 lanes of the keys and values, from lane `e` on. -/
theorem ld1 (c : Dev nD) (t : Fin cfg0.N) (o : Fin 3 → ℕ) (j : Fin 16) (e : ℕ) (he : e + 128 ≤ 256) (inb) (h0 : o 0 = 0) (h1 : o 1 = j.val * 256) (h2 : o 2 = e) (k : Fin 256) (x : Fin 128) :
    View.ld (iblk m c 1 t) (Rect.unit o ![1, 256, 128] inb) (ix3 0 k x)
      = m ((c : Thread nD τ).loc main_arg1) (ix2 ⟨win0_3.index t 0 / 16 * 4096 + (j.val * 256 + k.val), by have := idx t; omega⟩ ⟨win0_3.index t 1 * 256 + (e + x.val), by have := idx t; omega⟩) := by
  refine Eq.trans ?_ (rd1 m c t ⟨j.val * 256 + k.val, by omega⟩ ⟨e + x.val, by omega⟩)
  refine View.ld_unit_apply_of _ _ _ _ _ _ fun a => ?_
  fin_cases a
  · show 0 = o 0 + 0
    rw [h0]
  · show j.val * 256 + k.val = o 1 + k.val
    rw [h1]
  · show e + x.val = o 2 + x.val
    rw [h2]

/-- A tile's rotary keys. -/
theorem ld2 (c : Dev nD) (t : Fin cfg0.N) (o : Fin 3 → ℕ) (j : Fin 16) (inb) (h0 : o 0 = 0) (h1 : o 1 = j.val * 256) (h2 : o 2 = 0) (k : Fin 256) (x : Fin 128) :
    View.ld (iblk m c 2 t) (Rect.unit o ![1, 256, 128] inb) (ix3 0 k x)
      = m ((c : Thread nD τ).loc main_arg2) (ix2 ⟨win0_3.index t 0 / 16 * 4096 + (j.val * 256 + k.val), by have := idx t; omega⟩ x) := by
  refine Eq.trans ?_ (rd2 m c t ⟨j.val * 256 + k.val, by omega⟩ x)
  refine View.ld_unit_apply_of _ _ _ _ _ _ fun a => ?_
  fin_cases a
  · show 0 = o 0 + 0
    rw [h0]
  · show j.val * 256 + k.val = o 1 + k.val
    rw [h1]
  · show x.val = o 2 + x.val
    rw [h2, zero_add]

open Cert.ReferenceIdeal.Value (score masked REF REF_at)

/-- What the statement asks of the arguments, in the form the proof uses: every score is a number, and the rotary keys'
    last 64 lanes are zero. -/
structure Args (q kv : FVec Ideal S16384x4096 .bf16) (kr : FVec Ideal S16384x128 .bf16) : Prop where
  fin : ∀ b h n k, score q kv kr b h n k ≠ ⊤ ∧ score q kv kr b h n k ≠ ⊥
  pad : ∀ (n : Fin 16384) (x : Fin 64), kr (ix2 n ⟨64 + x.val, by omega⟩) = (0 : EReal)

/-- A sum over 128 lanes whose last 64 terms are zero. -/
theorem half_sum (f : Fin 128 → EReal) (h : ∀ x : Fin 64, f ⟨64 + x.val, by omega⟩ = 0) :
    ∑ x, f x = ∑ x : Fin 64, f ⟨x.val, by omega⟩ := by
  refine (Fin.sum_univ_add (a := 64) (b := 64) f).trans ?_
  rw [Finset.sum_eq_zero (s := Finset.univ) (f := fun i : Fin 64 => f (Fin.natAdd 64 i)) (fun x _ => h x), add_zero]
  rfl

/-- The batch entry, the head and the row of a grid point's result. -/
abbrev bOf (t : Fin cfg0.N) : Fin 4 := ⟨win0_3.index t 0 / 16, by have := idx t; omega⟩
/-- The head of a grid point's result. -/
abbrev hOf (t : Fin cfg0.N) : Fin 16 := ⟨win0_3.index t 1, (idx t).2.2.2.2.2⟩
/-- The row of the sequence of a row of a grid point's result. -/
abbrev nOf (t : Fin cfg0.N) (r : Fin 256) : Fin 4096 := ⟨tile t * 256 + r.val, by have : tile t < 16 := (grid0.coords t 2).isLt; omega⟩

/-- The product of a tile's rows is the score, the rotary key's last 64 lanes zero. -/
theorem dotted_score (Q KV : FVec Ideal S16384x4096 .bf16) (KR : FVec Ideal S16384x128 .bf16) (q : FVec Ideal S256x256 .bf16)
    (a b : FVec Ideal S1x256x128 .bf16) (e : Fin 4) (h : Fin 16) (n l : Fin 4096) (r k : Fin 256)
    (hq : ∀ x : Fin 256, q (ix2 r x) = Q (ix2 ⟨e.val * 4096 + n.val, by omega⟩ ⟨h.val * 256 + x.val, by omega⟩))
    (h1 : ∀ x : Fin 128, a (ix3 0 k x) = KV (ix2 ⟨e.val * 4096 + l.val, by omega⟩ ⟨h.val * 256 + x.val, by omega⟩))
    (h2 : ∀ x : Fin 128, b (ix3 0 k x) = KR (ix2 ⟨e.val * 4096 + l.val, by omega⟩ x))
    (h3 : ∀ x : Fin 64, KR (ix2 ⟨e.val * 4096 + l.val, by omega⟩ ⟨64 + x.val, by omega⟩) = (0 : EReal)) :
    dotted q a b r k = score Q KV KR e h n l := by
  unfold dotted score
  rw [half_sum (fun x => (q (ix2 r ⟨128 + x.val, by omega⟩) : EReal) * b (ix3 0 k x)) fun x => by
    dsimp only
    rw [h2, h3]
    exact mul_zero _]
  simp only [hq, h1, h2]
  exact congrArg (fun z => (_ + z) * _) (Finset.sum_congr rfl fun x _ => mul_comm _ _)

/-- The tile's products of queries and keys are the scores. -/
theorem dotted_eq (c : Dev nD) (t : Fin cfg0.N) (ha : Args (m ((c : Thread nD τ).loc main_arg0)) (m ((c : Thread nD τ).loc main_arg1)) (m ((c : Thread nD τ).loc main_arg2)))
    (j : Fin 16) (a b : FVec Ideal S1x256x128 .bf16)
    (h1 : ∀ k x, a (ix3 0 k x) = m ((c : Thread nD τ).loc main_arg1) (ix2 ⟨win0_3.index t 0 / 16 * 4096 + (j.val * 256 + k.val), by have := idx t; omega⟩ ⟨win0_3.index t 1 * 256 + (0 + x.val), by have := idx t; omega⟩))
    (h2 : ∀ k x, b (ix3 0 k x) = m ((c : Thread nD τ).loc main_arg2) (ix2 ⟨win0_3.index t 0 / 16 * 4096 + (j.val * 256 + k.val), by have := idx t; omega⟩ x)) (r k : Fin 256) :
    dotted (iblk m c 0 t) a b r k
      = score (m ((c : Thread nD τ).loc main_arg0)) (m ((c : Thread nD τ).loc main_arg1)) (m ((c : Thread nD τ).loc main_arg2)) (bOf t) (hOf t) (nOf t r)
          ⟨j.val * 256 + k.val, by omega⟩ := by
  have hi := idx t
  have hrow : ∀ x : Fin 256, iblk m c 0 t (ix2 r x) = m ((c : Thread nD τ).loc main_arg0) (ix2 ⟨win0_3.index t 0 / 16 * 4096 + (tile t * 256 + r.val), by omega⟩ ⟨win0_3.index t 1 * 256 + x.val, by omega⟩) := by
    intro x
    rw [rd0]
    have e : win0_3.index t 0 * 256 + r.val = win0_3.index t 0 / 16 * 4096 + (tile t * 256 + r.val) := by omega
    simp only [e]
  exact dotted_score _ _ _ _ _ _ (bOf t) (hOf t) (nOf t r) ⟨j.val * 256 + k.val, by omega⟩ r k hrow
    (fun x => (h1 k x).trans (by simp only [zero_add])) (h2 k) fun x => ha.pad _ x

/-- The scores met before tile `j`. -/
def part (s : Fin 4096 → EReal) (j : ℕ) (k : Fin 4096) : EReal := if k.val / 256 < j then s k else ⊥

/-- The running softmax before tile `j` holds the keys before it. -/
theorem good (c : Dev nD) (t : Fin cfg0.N) (ha : Args (m ((c : Thread nD τ).loc main_arg0)) (m ((c : Thread nD τ).loc main_arg1)) (m ((c : Thread nD τ).loc main_arg2))) (r : Fin 256) :
    ∀ j, j ≤ tile t → Good r (part (score (m ((c : Thread nD τ).loc main_arg0)) (m ((c : Thread nD τ).loc main_arg1)) (m ((c : Thread nD τ).loc main_arg2)) (bOf t) (hOf t) (nOf t r)) j)
      (fun x k => m ((c : Thread nD τ).loc main_arg1) (ix2 ⟨win0_3.index t 0 / 16 * 4096 + k.val, by have := idx t; omega⟩ ⟨win0_3.index t 1 * 256 + (128 + x.val), by have := idx t; omega⟩))
      (state m c t j)
  | 0, _ => by
    have e : ∀ s, part s 0 = fun _ => ⊥ := fun s => funext fun k => if_neg (Nat.not_lt_zero _)
    rw [e]
    exact Good.start r _
  | j + 1, hj => by
    have hg := good c t ha r j (by omega)
    have ht : tile t < 16 := (grid0.coords t 2).isLt
    have hl : j < (k0_t1_loop (grid0.coords t)).trips := by rw [trips_eq]; omega
    have e := tripR m c t ⟨j, hl⟩
    dsimp only at e
    rw [e]
    have ho := (offs ⟨j, by omega⟩).1
    refine Good.step (j := ⟨j, by omega⟩) hg ⟨fun k hk => ?_, fun k hk => ?_, fun k => ?_⟩ _ _ _ _ (fun k => ?_) fun k x => ?_
    · exact if_neg (by dsimp only at hk; omega)
    · unfold part
      dsimp only at hk
      by_cases h : k.val / 256 < j
      · rw [if_pos h, if_pos (by omega)]
      · rw [if_neg h, if_neg (by omega)]
    · unfold part
      split
      · exact (ha.fin _ _ _ _).1
      · exact bot_ne_top
    · refine (dotted_eq m c t ha ⟨j, by omega⟩ _ _ (fun k x => ?_) (fun k x => ?_) r k).trans ?_
      · exact ld1 m c t _ ⟨j, by omega⟩ 0 (by omega) _ rfl ho rfl k x
      · exact ld2 m c t _ ⟨j, by omega⟩ _ rfl ho rfl k x
      · exact (if_pos (by dsimp only; omega)).symm
    · exact ld1 m c t _ ⟨j, by omega⟩ 128 (by omega) _ rfl ho rfl k x

/-- An entry of the block a grid point leaves. -/
theorem point (c : Dev nD) (t : Fin cfg0.N) (ha : Args (m ((c : Thread nD τ).loc main_arg0)) (m ((c : Thread nD τ).loc main_arg1)) (m ((c : Thread nD τ).loc main_arg2)))
    (r : Fin 256) (x : Fin 128) (y : S16384x2048.Idx) (h0 : (y 0).val = win0_3.index t 0 * 256 + r.val) (h1 : (y 1).val = win0_3.index t 1 * 128 + x.val) :
    outsAt0 m c t (ix2 r x) = REF (m ((c : Thread nD τ).loc main_arg0)) (m ((c : Thread nD τ).loc main_arg1)) (m ((c : Thread nD τ).loc main_arg2)) y := by
  have hi := idx t
  have ht : tile t < 16 := (grid0.coords t 2).isLt
  have ho := (offs ⟨tile t, ht⟩).2
  rw [outs, REF_at _ _ _ (bOf t) (hOf t) (nOf t r) x y (by dsimp only [bOf, nOf]; omega) (by dsimp only [hOf]; omega)]
  refine (Good.last (j := ⟨tile t, ht⟩) (s' := masked (m ((c : Thread nD τ).loc main_arg0)) (m ((c : Thread nD τ).loc main_arg1)) (m ((c : Thread nD τ).loc main_arg2)) (bOf t) (hOf t) (nOf t r))
    (good m c t ha r (tile t) le_rfl) ⟨fun k hk => ?_, fun k hk => ?_, fun k => ?_⟩ _ _ _ _ (fun k => ?_) (fun k x => ?_) x).trans ?_
  · exact if_neg (by dsimp only at hk; omega)
  · unfold part masked
    dsimp only [nOf] at hk ⊢
    by_cases h : k.val / 256 < tile t
    · rw [if_pos h, if_pos (by omega)]
    · rw [if_neg h, if_neg (by omega)]
  · unfold masked
    split
    · exact (ha.fin _ _ _ _).1
    · exact bot_ne_top
  · rw [dotted_eq m c t ha ⟨tile t, ht⟩ _ _ (fun k x => ?_) (fun k x => ?_) r k]
    · unfold masked
      dsimp only [nOf]
      refine if_congr ?_ rfl rfl
      omega
    · exact ld1 m c t _ ⟨tile t, ht⟩ 0 (by omega) _ rfl ho rfl k x
    · exact ld2 m c t _ ⟨tile t, ht⟩ _ rfl ho rfl k x
  · exact ld1 m c t _ ⟨tile t, ht⟩ 128 (by omega) _ rfl ho rfl k x
  · refine (Attn.softmax_div _ (fun k => ?_) (nOf t r) ?_ _).trans rfl
    · unfold masked
      split
      · exact (ha.fin _ _ _ _).1
      · exact bot_ne_top
    · unfold masked
      rw [if_pos le_rfl]
      exact (ha.fin _ _ _ _).2

/-- The array the run leaves is the reference's. -/
theorem final (c : Dev nD) (ha : Args (m ((c : Thread nD τ).loc main_arg0)) (m ((c : Thread nD τ).loc main_arg1)) (m ((c : Thread nD τ).loc main_arg2))) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, x, rfl⟩ : ∃ (r : Fin 256) (x : Fin 128), y = ix2 r x := ⟨y 0, y 1, by funext a; fin_cases a <;> rfl⟩
  have hi := idx t
  have hE : ((cfg0.win 3).blk t).view.emb (ix2 r x) = ix2 ⟨win0_3.index t 0 * 256 + r.val, by omega⟩ ⟨win0_3.index t 1 * 128 + x.val, by omega⟩ := by
    blk_ext
  rw [hE]
  exact point m c t ha r x _ rfl rfl

end Cert.KernelIdeal.Value

end
-- ==== Proof.AttnPre.lean ====
/- What the attention's precondition says, entry by entry. -/
module

public import proofs.«01_k».proof.Defs
public import proofs.«01_k».proof.Proof.Gen.Pre_attn_args
public import proofs.«01_k».proof.Proof.AttnValue

@[expose] public section

set_option maxRecDepth 16384

noncomputable section

namespace Cert.Pre_attn_args

open Idealize.ShloMosaic Idealize.ShloMosaic.TcCoe Idealize.SL.Sem
open Cert.Pre_attn_args Cert.Pre_attn_args.Gen

/-- An extended real whose absolute value is below infinity is a real number. -/
theorem fin_of_abs {f : FTy} (x : Ideal f) (h : BitVec.ofBool (decide ((FloatOps.absf x : Ideal f) < (Ideal.ofBits FTy.f32 2139095040#32 : EReal))) = 1#1) :
    (x : EReal) ≠ ⊤ ∧ (x : EReal) ≠ ⊥ := by
  have h' : (max (x : EReal) (-x) : EReal) < (⊤ : EReal) := by
    by_contra hn
    have e : (Ideal.ofBits FTy.f32 2139095040#32 : EReal) = ⊤ := by rfl
    rw [e] at h
    have : decide ((FloatOps.absf x : Ideal f) < (⊤ : EReal)) = false := decide_eq_false hn
    rw [this] at h
    exact absurd h (by decide)
  constructor
  · intro e
    rw [e] at h'
    exact absurd h' (by simp)
  · intro e
    rw [e] at h'
    exact absurd h' (by simp)

/-- The scale of the scores is a real number. -/
theorem scale_fin : (Ideal.ofBits FTy.f32 0x3D93CD3A#32 : EReal) ≠ ⊤ ∧ (Ideal.ofBits FTy.f32 0x3D93CD3A#32 : EReal) ≠ ⊥ := by
  constructor
  · exact EReal.coe_ne_top _
  · exact EReal.coe_ne_bot _

/-- The function's entries: what it says of the lanes of the queries, of the keys, and of both halves of the rotary key. -/
theorem fn_at (q kv : FVec Ideal S16384x4096 .bf16) (kr : FVec Ideal S16384x128 .bf16) (n : Fin 16384) (j : Fin 5248) :
    Cert.Pre_attn_args.fn (F := Ideal) q kv kr (ix2 n j) = if h : j.val < 3072 then
      BitVec.ofBool (decide ((FloatOps.absf (q (ix2 n ⟨j.val / 192 * 256 + j.val % 192, by omega⟩)) : Ideal .bf16) < (Ideal.ofBits FTy.f32 2139095040#32 : EReal)))
    else if h : j.val - 3072 < 2048 then
      BitVec.ofBool (decide ((FloatOps.absf (kv (ix2 n ⟨(j.val - 3072) / 128 * 256 + (j.val - 3072) % 128, by omega⟩)) : Ideal .bf16) < (Ideal.ofBits FTy.f32 2139095040#32 : EReal)))
    else if h : j.val - 3072 - 2048 < 64 then
      BitVec.ofBool (decide ((FloatOps.absf (kr (ix2 n ⟨j.val - 3072 - 2048, by omega⟩)) : Ideal .bf16) < (Ideal.ofBits FTy.f32 2139095040#32 : EReal)))
    else BitVec.ofBool (decide ((kr (ix2 n ⟨64 + (j.val - 3072 - 2048 - 64), by omega⟩) : EReal) = 0)) := by
  pointwise [Cert.Pre_attn_args.fn, Cert.Pre_attn_args.fn_part1]
  first | rfl | congr!

/-- Where the function is all ones, the scores are real numbers and the rotary key's upper lanes are zero. -/
theorem args (q kv : FVec Ideal S16384x4096 .bf16) (kr : FVec Ideal S16384x128 .bf16)
    (h : Cert.Pre_attn_args.fn (F := Ideal) q kv kr = fun _ => 1#1) : Cert.KernelIdeal.Value.Args q kv kr := by
  have hq : ∀ (n : Fin 16384) (g : Fin 16) (x : Fin 192), (q (ix2 n ⟨g.val * 256 + x.val, by omega⟩) : EReal) ≠ ⊤ ∧ (q (ix2 n ⟨g.val * 256 + x.val, by omega⟩) : EReal) ≠ ⊥ := by
    intro n g x
    have e := (fn_at q kv kr n ⟨g.val * 192 + x.val, by omega⟩).symm.trans (congrFun h _)
    rw [dif_pos (by dsimp only; omega)] at e
    have e1 : (g.val * 192 + x.val) / 192 * 256 + (g.val * 192 + x.val) % 192 = g.val * 256 + x.val := by omega
    simp only [e1] at e
    exact fin_of_abs _ e
  have hk : ∀ (n : Fin 16384) (g : Fin 16) (x : Fin 128), (kv (ix2 n ⟨g.val * 256 + x.val, by omega⟩) : EReal) ≠ ⊤ ∧ (kv (ix2 n ⟨g.val * 256 + x.val, by omega⟩) : EReal) ≠ ⊥ := by
    intro n g x
    have e := (fn_at q kv kr n ⟨3072 + (g.val * 128 + x.val), by omega⟩).symm.trans (congrFun h _)
    rw [dif_neg (by dsimp only; omega), dif_pos (by dsimp only; omega)] at e
    have e1 : (3072 + (g.val * 128 + x.val) - 3072) / 128 * 256 + (3072 + (g.val * 128 + x.val) - 3072) % 128 = g.val * 256 + x.val := by omega
    simp only [e1] at e
    exact fin_of_abs _ e
  have hr : ∀ (n : Fin 16384) (x : Fin 64), (kr (ix2 n ⟨x.val, by omega⟩) : EReal) ≠ ⊤ ∧ (kr (ix2 n ⟨x.val, by omega⟩) : EReal) ≠ ⊥ := by
    intro n x
    have e := (fn_at q kv kr n ⟨5120 + x.val, by omega⟩).symm.trans (congrFun h _)
    rw [dif_neg (by dsimp only; omega), dif_neg (by dsimp only; omega), dif_pos (by dsimp only; omega)] at e
    have e1 : 5120 + x.val - 3072 - 2048 = x.val := by omega
    simp only [e1] at e
    exact fin_of_abs _ e
  refine ⟨fun b g n k => ?_, fun n x => ?_⟩
  · have hs : (∑ x : Fin 128, (q (ix2 ⟨b.val * 4096 + n.val, by omega⟩ ⟨g.val * 256 + x.val, by omega⟩) : EReal) * kv (ix2 ⟨b.val * 4096 + k.val, by omega⟩ ⟨g.val * 256 + x.val, by omega⟩)) ≠ ⊤
        ∧ (∑ x : Fin 128, (q (ix2 ⟨b.val * 4096 + n.val, by omega⟩ ⟨g.val * 256 + x.val, by omega⟩) : EReal) * kv (ix2 ⟨b.val * 4096 + k.val, by omega⟩ ⟨g.val * 256 + x.val, by omega⟩)) ≠ ⊥ :=
      Attn.sum_finite _ _ fun x => Attn.mul_finite (hq _ g ⟨x.val, by omega⟩) (hk _ g x)
    have ht : (∑ x : Fin 64, (kr (ix2 ⟨b.val * 4096 + k.val, by omega⟩ ⟨x.val, by omega⟩) : EReal) * q (ix2 ⟨b.val * 4096 + n.val, by omega⟩ ⟨g.val * 256 + (128 + x.val), by omega⟩)) ≠ ⊤
        ∧ (∑ x : Fin 64, (kr (ix2 ⟨b.val * 4096 + k.val, by omega⟩ ⟨x.val, by omega⟩) : EReal) * q (ix2 ⟨b.val * 4096 + n.val, by omega⟩ ⟨g.val * 256 + (128 + x.val), by omega⟩)) ≠ ⊥ :=
      Attn.sum_finite _ _ fun x => Attn.mul_finite (hr _ x) (hq _ g ⟨128 + x.val, by omega⟩)
    refine Attn.mul_finite ?_ scale_fin
    have := Attn.sum_finite (Finset.univ : Finset (Fin 2)) ![_, _] (fun i => by fin_cases i; exacts [hs, ht])
    rwa [Fin.sum_univ_two] at this
  · have e := (fn_at q kv kr n ⟨5184 + x.val, by omega⟩).symm.trans (congrFun h _)
    rw [dif_neg (by dsimp only; omega), dif_neg (by dsimp only; omega), dif_neg (by dsimp only; omega)] at e
    have e1 : 64 + (5184 + x.val - 3072 - 2048 - 64) = 64 + x.val := by omega
    simp only [e1] at e
    by_contra hn
    rw [decide_eq_false hn] at e
    exact absurd e (by decide)

end Cert.Pre_attn_args

end
-- ==== Proof.InMlaValue.lean ====
/- The columns of the input projection for the attention: the kernel multiplies by a weight whose last 64 columns are the
   rotary key's with their halves exchanged, the second negated, where the reference exchanges and negates the product. -/
module

public import proofs.«01_k».proof.Proof.Gen.InMlaIdeal.Frame
public import proofs.«01_k».proof.Proof.Gen.InMlaRefIdeal
public import proofs.«01_k».proof.Proof.Gen.Pre_rotary_finite
public import Idealize.ShloMosaic.Lib.Pipeline.ValueKit
public import Idealize.ShloMosaic.Lib.Claim
public import proofs.«01_k».proof.Proof.AttnPre

@[expose] public section

set_option maxRecDepth 16384

noncomputable section

namespace Cert.InMlaIdeal.Value

open Idealize.ShloMosaic Idealize.ShloMosaic.TcCoe Idealize.SL.Sem
open Idealize.ShloMosaic.Pipeline (Dat)
open Cert.InMlaIdeal Cert.InMlaIdeal.Gen

variable (m : (ℓ : Loc nD τ sig) → Buf (Elt Ideal) ℓ)

/-- All columns of the projection. -/
abbrev z (h : FVec Ideal Cert.InMlaRefIdeal.S16384x2048 .bf16) (w : FVec Ideal Cert.InMlaRefIdeal.S2048x13376 .f32) :
    FVec Ideal Cert.InMlaRefIdeal.S16384x13376 .f32 :=
  Host.dotGeneral Cert.InMlaRefIdeal.dot_S16384x2048_S2048x13376_S16384x13376_1_0_0_1_n_n none
    (extf .f32 h Cert.InMlaRefIdeal.Gen.bitsLt_bf16_f32) w

/-- The rotary key's 64 columns of the projection `v`. -/
abbrev kr (v : FVec Ideal Cert.InMlaRefIdeal.S16384x13376 .f32) : FVec Ideal Cert.InMlaRefIdeal.S16384x64 .f32 :=
  extractStridedSlice Cert.InMlaRefIdeal.S16384x64 ![0, 1024] v Cert.InMlaRefIdeal.Gen.slices_S16384x13376_S16384x64_0_1024

/-- The reference's result: the queries' columns, the keys' and values', the rotary key's, and the rotary key's halves
    exchanged, the second negated. -/
abbrev REF (h : FVec Ideal Cert.InMlaRefIdeal.S16384x2048 .bf16) (w : FVec Ideal Cert.InMlaRefIdeal.S2048x13376 .f32) :
    FVec Ideal Cert.InMlaRefIdeal.S16384x1152 .bf16 :=
  truncf .bf16 (concatenate Cert.InMlaRefIdeal.S16384x1152 1
    [⟨Cert.InMlaRefIdeal.S16384x512, extractStridedSlice Cert.InMlaRefIdeal.S16384x512 ![0, 0] (z h w)
        Cert.InMlaRefIdeal.Gen.slices_S16384x13376_S16384x512_0_0⟩,
     ⟨Cert.InMlaRefIdeal.S16384x512, extractStridedSlice Cert.InMlaRefIdeal.S16384x512 ![0, 512] (z h w)
        Cert.InMlaRefIdeal.Gen.slices_S16384x13376_S16384x512_0_512⟩,
     ⟨Cert.InMlaRefIdeal.S16384x64, kr (z h w)⟩,
     ⟨Cert.InMlaRefIdeal.S16384x32, Host.negf (extractStridedSlice Cert.InMlaRefIdeal.S16384x32 ![0, 32] (kr (z h w))
        Cert.InMlaRefIdeal.Gen.slices_S16384x64_S16384x32_0_32)⟩,
     ⟨Cert.InMlaRefIdeal.S16384x32, extractStridedSlice Cert.InMlaRefIdeal.S16384x32 ![0, 0] (kr (z h w))
        Cert.InMlaRefIdeal.Gen.slices_S16384x64_S16384x32_0_0⟩]
    Cert.InMlaRefIdeal.Gen.concatenates_S16384x512_S16384x512_S16384x64_S16384x32_S16384x32_S16384x1152_d1) Cert.InMlaRefIdeal.Gen.bitsLt_bf16_f32

/-- The blocks of a grid point: the rows of its own result block, and all of the weight. -/
theorem idx : ∀ t : Fin cfg0.N, win0_0.index t = ![win0_2.index t 0, 0] ∧ win0_1.index t = ![0, 0] ∧ win0_2.index t 1 = 0 ∧ win0_2.index t 0 < 16 :=
  (by decide +kernel : ∀ t : Fin grid0.N, _)

/-- The weight the kernel multiplies by, by columns. -/
abbrev col (w : FVec Ideal S2048x13376 .f32) (k : Fin 2048) (j : Fin 1152) : EReal :=
  if h : j.val < 1088 then w (ix2 k ⟨j.val, by omega⟩)
  else if h : j.val - 1088 < 32 then -(w (ix2 k ⟨1024 + (32 + (j.val - 1088)), by omega⟩) : EReal)
  else w (ix2 k ⟨1024 + (j.val - 1088 - 32), by omega⟩)

/-- The host lines' weight is `col`. -/
theorem weight (c : Dev nD) (k : Fin 2048) (j : Fin 1152) :
    V m c main_v7 (ix2 k j) = col (m ((c : Thread nD τ).loc main_arg1)) k j := by
  entry_read
  generalize m ((c : Thread nD τ).loc main_arg1) = w
  pointwise [col]

/-- The rows of a grid point. -/
theorem rd0 (c : Dev nD) (t : Fin cfg0.N) (r : Fin 1024) (k : Fin 2048) :
    iblk m c 0 t (ix2 r k) = m ((c : Thread nD τ).loc main_arg0) (ix2 ⟨win0_2.index t 0 * 1024 + r.val, by have := idx t; omega⟩ k) := by
  blk_point [iblk, V, idx t]

/-- The weight of a grid point. -/
theorem rd1 (c : Dev nD) (t : Fin cfg0.N) (k : Fin 2048) (j : Fin 1152) :
    iblk m c 1 t (ix2 k j) = V m c main_v7 (ix2 k j) := by
  blk_point [iblk, idx t]

/-- A sum of products with negated second factors is the negated sum, for finite factors. -/
theorem sum_neg {n : ℕ} (a b : Fin n → EReal) (ha : ∀ k, a k ≠ ⊤ ∧ a k ≠ ⊥) (hb : ∀ k, b k ≠ ⊤ ∧ b k ≠ ⊥) :
    ∑ k, a k * -b k = -∑ k, a k * b k := by
  lift a to Fin n → ℝ using ha
  lift b to Fin n → ℝ using hb
  simp only [← EReal.coe_neg, ← EReal.coe_mul]
  have e : ∀ f : Fin n → ℝ, ∑ k, (f k : EReal) = ((∑ k, f k : ℝ) : EReal) := fun f => (map_sum (⟨⟨Real.toEReal, EReal.coe_zero⟩, EReal.coe_add⟩ : ℝ →+ EReal) f Finset.univ).symm
  rw [e, e, ← EReal.coe_neg, ← Finset.sum_neg_distrib]
  simp only [mul_neg]

/-- The rows and the rotary key's columns of the weight are finite. -/
structure Args (h : FVec Ideal S16384x2048 .bf16) (w : FVec Ideal S2048x13376 .f32) : Prop where
  row : ∀ n k, (h (ix2 n k) : EReal) ≠ ⊤ ∧ (h (ix2 n k) : EReal) ≠ ⊥
  key : ∀ k (j : Fin 64), (w (ix2 k ⟨1024 + j.val, by omega⟩) : EReal) ≠ ⊤ ∧ (w (ix2 k ⟨1024 + j.val, by omega⟩) : EReal) ≠ ⊥

/-- The reference's entries. -/
theorem REF_at (h : FVec Ideal S16384x2048 .bf16) (w : FVec Ideal S2048x13376 .f32) (ha : Args h w) (n : Fin 16384) (j : Fin 1152) :
    REF h w (ix2 n j) = ∑ k : Fin 2048, (h (ix2 n k) : EReal) * col w k j := by
  pointwise [REF, z, kr]
  by_cases h1 : j.val < 1088
  · have e : ∀ k, col w k j = w (ix2 k ⟨j.val, by omega⟩) := fun k => dif_pos h1
    simp only [e]
    by_cases h2 : j.val < 512
    · rw [dif_pos h2]
    · rw [dif_neg h2]
      by_cases h3 : j.val - 512 < 512
      · rw [dif_pos h3]
        have e : 512 + (j.val - 512) = j.val := by clear ha; omega
        simp only [e]
      · have h4 : j.val - 512 - 512 < 64 := by clear ha; omega
        rw [dif_neg h3, dif_pos h4]
        have e : 1024 + (j.val - 512 - 512) = j.val := by clear ha; omega
        simp only [e]
  · have h2 : ¬ j.val < 512 := by omega
    have h3 : ¬ j.val - 512 < 512 := by omega
    have h4 : ¬ j.val - 512 - 512 < 64 := by omega
    rw [dif_neg h2, dif_neg h3, dif_neg h4]
    have s : j.val - 512 - 512 - 64 = j.val - 1088 := by omega
    simp only [s]
    by_cases h5 : j.val - 1088 < 32
    · rw [dif_pos h5]
      have e : ∀ k, col w k j = -(w (ix2 k ⟨1024 + (32 + (j.val - 1088)), by omega⟩) : EReal) := fun k => (dif_neg h1).trans (dif_pos h5)
      simp only [e]
      exact (sum_neg (fun k => (h (ix2 n k) : EReal)) (fun k => (w (ix2 k ⟨1024 + (32 + (j.val - 1088)), by omega⟩) : EReal)) (ha.row n)
        (fun k => ha.key k ⟨32 + (j.val - 1088), by omega⟩)).symm
    · rw [dif_neg h5]
      have e : ∀ k, col w k j = (w (ix2 k ⟨1024 + (j.val - 1088 - 32), by omega⟩) : EReal) := fun k => (dif_neg h1).trans (dif_neg h5)
      simp only [e]

/-- Where the precondition's function is all ones, the arguments are finite. -/
theorem args (h : FVec Ideal S16384x2048 .bf16) (w : FVec Ideal S2048x13376 .f32)
    (hp : Cert.Pre_rotary_finite.fn (F := Ideal) h w = fun _ => 1#1) : Args h w := by
  have at_row : ∀ (n : Fin 16448) (k : Fin 2048), Cert.Pre_rotary_finite.fn (F := Ideal) h w (ix2 n k) = 1#1 := fun n k => congrFun hp _
  refine ⟨fun n k => ?_, fun k j => ?_⟩
  · have e := at_row ⟨n.val, by omega⟩ k
    revert e
    pointwise [Cert.Pre_rotary_finite.fn]
    exact Cert.Pre_attn_args.fin_of_abs _
  · have e := at_row ⟨16384 + j.val, by omega⟩ k
    revert e
    pointwise [Cert.Pre_rotary_finite.fn]
    exact Cert.Pre_attn_args.fin_of_abs _

/-- The kernel's block: the rows' products with the weight's columns. -/
theorem pay (a : FVec Ideal S1024x2048 .bf16) (b : FVec Ideal S2048x1152 .bf16) (r : Fin 1024) (x : Fin 1152) :
    k0_pay1 (F := Ideal) a b (ix2 r x) = ∑ k : Fin 2048, (a (ix2 r k) : EReal) * b (ix2 k x) := by
  pointwise [k0_pay1]

/-- The array the run leaves is the reference's, for finite rows and columns of the rotary key. -/
theorem final (c : Dev nD) (ha : Args (m ((c : Thread nD τ).loc main_arg0)) (m ((c : Thread nD τ).loc main_arg1))) :
    (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  have hi := idx t
  obtain ⟨r, x, rfl⟩ : ∃ (r : Fin 1024) (x : Fin 1152), y = ix2 r x := ⟨y 0, y 1, by funext i; fin_cases i <;> rfl⟩
  have hE : ((cfg0.win 2).blk t).view.emb (ix2 r x) = (ix2 ⟨win0_2.index t 0 * 1024 + r.val, by omega⟩ x : S16384x1152.Idx) := by
    blk_ext [hi]
  blk_simp
  rw [after0_2]
  frame_out
  refine Eq.trans ?_ (congrArg (REF _ _) hE.symm)
  refine (pay _ _ r x).trans (Eq.trans ?_ (REF_at _ _ ha _ x).symm)
  refine Finset.sum_congr rfl fun k _ => ?_
  exact congrArg₂ (fun a b : EReal => a * b) (rd0 m c t r k) ((rd1 m c t k x).trans (weight m c k x))

end Cert.InMlaIdeal.Value

end
-- ==== Proof.InMlaClaim.lean ====
/- The two programs of the attention's columns of the input projection leave the same array. -/
module

public import proofs.«01_k».proof.Defs
public import proofs.«01_k».proof.Proof.Gen.InMlaIdeal.Value
public import proofs.«01_k».proof.Proof.Gen.InMlaRefIdeal.Run
public import proofs.«01_k».proof.Proof.InMlaValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the attention's columns of the input
    projection end with equal results, given finite rows and finite columns for the rotary key. -/
theorem algebraic_InMla : algebraic_InMlaIdeal_InMlaRefIdeal_pre_rotary_finite (hInMlaIdeal := Cert.InMlaIdeal.Gen.facts)
    (hInMlaRefIdeal := Cert.InMlaRefIdeal.Gen.facts) (hPre_rotary_finite := Cert.Pre_rotary_finite.Gen.facts) := by
  pair_intro
  · run_from Cert.InMlaIdeal.Value.run_blocks m g
  · run_from Cert.InMlaRefIdeal.Value.run m' g'
    have hf := Cert.InMlaIdeal.Value.final m c (Cert.InMlaIdeal.Value.args _ _ (hpre c))
    exact (rfl : _ = Cert.InMlaIdeal.Value.REF _ _).trans hf.symm

end Cert.Proof

end
-- ==== Proof.MlaPrepBlock.lean ====
/- The blocks one grid point of the attention's preparation writes, by entries: the queries, the keys and values, the rotary
   key. -/
module

public import proofs.«01_k».proof.Proof.Gen.MlaPrepIdeal.Frame
public import proofs.«01_k».proof.Proof.Gen.MlaPrepRefIdeal
public import proofs.«01_k».proof.Proof.Gen.Pre_queries_finite
public import Idealize.ShloMosaic.Lib.Pipeline.ValueKit
public import Idealize.ShloMosaic.Lib.Claim
public import proofs.«01_k».proof.Proof.AttnPre
public import proofs.«01_k».proof.Proof.InMlaValue

@[expose] public section

set_option maxRecDepth 16384

noncomputable section

namespace Cert.MlaPrepIdeal.Value

open Idealize.ShloMosaic Idealize.ShloMosaic.TcCoe Idealize.SL.Sem
open Idealize.ShloMosaic.Pipeline (Dat)
open Cert.MlaPrepIdeal Cert.MlaPrepIdeal.Gen

variable (m : (ℓ : Loc nD τ sig) → Buf (Elt Ideal) ℓ)

/-- One entry of a normed and scaled row. -/
def nrm (x g : Fin 512 → EReal) (k : Fin 512) : EReal :=
  x k * Ideal.rsqrt (Ideal.div (∑ l, x l * x l) (Ideal.ofBits FTy.f32 0x44000000#32) + Ideal.ofBits FTy.f32 0x358637BD#32) * g k

/-- The queries' rows of a block, normed and scaled. -/
theorem pay4_at (a : Vec Ideal S256x512 .bf16) (g : Vec Ideal S1x512 .f32) (r : Fin 256) (k : Fin 512) :
    k0_pay4 (F := Ideal) a g (ix2 r k) = nrm (fun k => a (ix2 r k)) (fun k => g (ix2 0 k)) k := by
  pointwise [k0_pay4, nrm]

/-- The keys' and values' rows of a block, normed and scaled. -/
theorem pay62_at (a : Vec Ideal S256x512 .bf16) (g : Vec Ideal S1x512 .f32) (r : Fin 256) (k : Fin 512) :
    k0_pay62 (F := Ideal) (k0_pay58 a) (k0_pay59 g) (k0_pay60 a) (k0_pay61) (ix2 r k) = nrm (fun k => a (ix2 r k)) (fun k => g (ix2 0 k)) k := by
  pointwise [k0_pay62, k0_pay58, k0_pay59, k0_pay60, k0_pay61, nrm]

/-- A product of a row `h` of the normed rows with a column of a block's weight. -/
abbrev dot (h : FVec Ideal S256x512 .bf16) (w : Vec Ideal S512x4096 .bf16) (r : Fin 256) (j : Fin 4096) : EReal :=
  ∑ k : Fin 512, (h (ix2 r k) : EReal) * w (ix2 k j)

/-- A load of columns of a weight's block. -/
theorem ld_at {n : ℕ} (w : Vec Ideal S512x4096 .bf16) (o : ℕ) (inb : ∀ a, (![0, o] : Fin 2 → ℕ) a + (![512, n] : Fin 2 → ℕ) a ≤ S512x4096.size a)
    (k : Fin 512) (x : Fin n) (j : Fin 4096) (hj : j.val = o + x.val) :
    View.ld w (Rect.unit (s := S512x4096) ![0, o] ![512, n] inb) (ix2 k x) = w (ix2 k j) := by
  refine View.ld_unit_apply_of _ _ _ _ _ _ fun a => ?_
  fin_cases a
  · exact (Nat.zero_add _).symm
  · exact hj

/-- A head's columns without rotation: products with the weight's columns. -/
theorem nope (h : FVec Ideal S256x512 .bf16) (w : Vec Ideal S512x4096 .bf16) (o : ℕ)
    (inb : ∀ a, (![0, o] : Fin 2 → ℕ) a + (![512, 256] : Fin 2 → ℕ) a ≤ S512x4096.size a) (x : S256x128.Idx)
    (r : Fin 256) (j : Fin 4096) (hr : r.val = (x 0).val) (hj : j.val = o + (x 1).val) :
    k0_pay9 (F := Ideal) h (View.ld w (Rect.unit (s := S512x4096) ![0, o] ![512, 256] inb)) x = dot h w r j := by
  obtain ⟨x0, x1, rfl⟩ : ∃ (x0 : Fin 256) (x1 : Fin 128), x = ix2 x0 x1 := ⟨x 0, x 1, by funext i; fin_cases i <;> rfl⟩
  obtain rfl : r = x0 := Fin.ext hr
  have hj' : j.val = o + x1.val := hj
  have e : k0_pay9 (F := Ideal) h (View.ld w (Rect.unit (s := S512x4096) ![0, o] ![512, 256] inb)) (ix2 r x1)
      = ∑ k : Fin 512, (h (ix2 r k) : EReal) * View.ld w (Rect.unit (s := S512x4096) ![0, o] ![512, 256] inb) (ix2 k (⟨x1.val, by omega⟩ : Fin 256)) := by
    generalize View.ld w (Rect.unit (s := S512x4096) ![0, o] ![512, 256] inb) = v
    revert v
    intro (v : Vec Ideal S512x256 .bf16)
    pointwise [k0_pay9, k0_pay8]
  rw [e]
  refine Finset.sum_congr rfl fun k _ => ?_
  rw [ld_at w o inb k _ j hj']

/-- A head's rotary columns: the products times the cosines, and the products 64 columns further on times the sines. -/
theorem rope (c s : FVec Ideal S256x128 .f32) (h : FVec Ideal S256x512 .bf16) (w : Vec Ideal S512x4096 .bf16) (o : ℕ)
    (inb : ∀ a, (![0, o] : Fin 2 → ℕ) a + (![512, 256] : Fin 2 → ℕ) a ≤ S512x4096.size a) (x : S256x128.Idx)
    (r : Fin 256) (l : Fin 128) (j j' : Fin 4096) (hr : r.val = (x 0).val) (hl : l.val = (x 1).val) (hj : j.val = o + (128 + (x 1).val))
    (hj' : j'.val = o + (128 + ((x 1).val + 64) % 128)) :
    k0_pay10 (F := Ideal) c s h (View.ld w (Rect.unit (s := S512x4096) ![0, o] ![512, 256] inb)) x
      = dot h w r j * c (ix2 r l) + dot h w r j' * s (ix2 r l) := by
  obtain ⟨x0, x1, rfl⟩ : ∃ (x0 : Fin 256) (x1 : Fin 128), x = ix2 x0 x1 := ⟨x 0, x 1, by funext i; fin_cases i <;> rfl⟩
  obtain rfl : r = x0 := Fin.ext hr
  obtain rfl : l = x1 := Fin.ext hl
  have a1 : j.val = o + (128 + l.val) := hj
  have a2 : j'.val = o + (128 + (l.val + 64) % 128) := hj'
  have e : k0_pay10 (F := Ideal) c s h (View.ld w (Rect.unit (s := S512x4096) ![0, o] ![512, 256] inb)) (ix2 r l)
      = (∑ k : Fin 512, (h (ix2 r k) : EReal) * View.ld w (Rect.unit (s := S512x4096) ![0, o] ![512, 256] inb) (ix2 k (⟨128 + l.val, by omega⟩ : Fin 256))) * c (ix2 r l)
       + (∑ k : Fin 512, (h (ix2 r k) : EReal) * View.ld w (Rect.unit (s := S512x4096) ![0, o] ![512, 256] inb) (ix2 k (⟨128 + (l.val + 64) % 128, by omega⟩ : Fin 256))) * s (ix2 r l) := by
    generalize View.ld w (Rect.unit (s := S512x4096) ![0, o] ![512, 256] inb) = v
    revert v
    intro (v : Vec Ideal S512x256 .bf16)
    have q : (l.val + 64) % 128 = (l.val + 128 - 64) % 128 := by omega
    simp only [q]
    pointwise [k0_pay10, k0_pay8]
  rw [e]
  refine congrArg₂ (fun a b : EReal => a * c (ix2 r l) + b * s (ix2 r l)) ?_ ?_ <;> refine Finset.sum_congr rfl fun k _ => ?_
  · rw [ld_at w o inb k _ j a1]
  · rw [ld_at w o inb k _ j' a2]

/-- The queries' block, by columns: in each head's 256, the first 128 are products with the weight's columns and the last
    128 are turned by the tables. -/
def qblk (h : FVec Ideal S256x512 .bf16) (w : Vec Ideal S512x4096 .bf16) (c s : FVec Ideal S256x128 .f32) (r : Fin 256) (j : Fin 4096) : EReal :=
  if h0 : j.val % 256 < 128 then dot h w r j
  else dot h w r j * c (ix2 r ⟨j.val % 256 - 128, by omega⟩)
    + dot h w r ⟨j.val / 256 * 256 + (128 + (j.val % 256 - 128 + 64) % 128), by omega⟩ * s (ix2 r ⟨j.val % 256 - 128, by omega⟩)

/-- The first 128 columns of a head. -/
theorem qblk_lo (h : FVec Ideal S256x512 .bf16) (w : Vec Ideal S512x4096 .bf16) (c s : FVec Ideal S256x128 .f32) (r : Fin 256) (j : Fin 4096)
    (v : EReal) (hj : j.val % 256 < 128) (e : v = dot h w r j) : v = qblk h w c s r j := by
  unfold qblk
  rw [dif_pos hj, e]

/-- The last 128 columns of a head. -/
theorem qblk_hi (h : FVec Ideal S256x512 .bf16) (w : Vec Ideal S512x4096 .bf16) (c s : FVec Ideal S256x128 .f32) (r : Fin 256) (j : Fin 4096)
    (v : EReal) (hj : ¬ j.val % 256 < 128) (e : v = dot h w r j * c (ix2 r ⟨j.val % 256 - 128, by omega⟩)
    + dot h w r ⟨j.val / 256 * 256 + (128 + (j.val % 256 - 128 + 64) % 128), by omega⟩ * s (ix2 r ⟨j.val % 256 - 128, by omega⟩)) :
    v = qblk h w c s r j := by
  unfold qblk
  rw [dif_neg hj, e]

set_option maxHeartbeats 4000000 in
/-- The queries' block after the body's 32 stores. -/
theorem q_out (x0 : Vec Ideal S256x1152 .bf16) (x1 : Vec Ideal S1x512 .f32) (x2 : Vec Ideal S1x512 .f32) (x3 : Vec Ideal S512x4096 .bf16) (x4 : Vec Ideal S512x4096 .bf16) (x5 : Vec Ideal S256x128 .f32) (x6 : Vec Ideal S256x128 .f32)
    (r : Fin 256) (j : Fin 4096) :
    out0_7 x0 x1 x2 x3 x4 x5 x6 (ix2 r j)
      = qblk (k0_pay4 (F := Ideal) (View.ld x0 r0_1) (View.ld x1 r0_2)) x3 (k0_pay2 (F := Ideal) (View.ld x5 r0_0)) (k0_pay3 (F := Ideal) (View.ld x6 r0_0)) r j := by
  canon_tiles x h
  all_goals
    replace h0 : r.val = (x 0).val := h0
    first
    | exact qblk_lo _ _ _ _ _ _ _ (by replace h1 : j.val = _ := h1; omega) (nope _ _ _ _ x _ _ h0 (by replace h1 : j.val = _ := h1; omega))
    | exact qblk_hi _ _ _ _ _ _ _ (by replace h1 : j.val = _ := h1; omega) (rope _ _ _ _ _ _ x _ _ _ _ h0 (by replace h1 : j.val = _ := h1; dsimp only; omega) (by replace h1 : j.val = _ := h1; dsimp only; omega) (by replace h1 : j.val = _ := h1; dsimp only; omega))

/-- A block of the keys' and values' columns: products of the normed rows with the weight's columns. -/
theorem up (a : FVec Ideal S256x512 .f32) (g : FVec Ideal S1x512 .f32) (s e : FVec Ideal S256x1 .f32) (w : Vec Ideal S512x4096 .bf16) (o : ℕ)
    (inb : ∀ a, (![0, o] : Fin 2 → ℕ) a + (![512, 1024] : Fin 2 → ℕ) a ≤ S512x4096.size a) (x : S256x1024.Idx)
    (r : Fin 256) (j : Fin 4096) (hr : r.val = (x 0).val) (hj : j.val = o + (x 1).val) :
    k0_pay63 (F := Ideal) a g s e (View.ld w (Rect.unit (s := S512x4096) ![0, o] ![512, 1024] inb)) x
      = dot (k0_pay62 (F := Ideal) a g s e) w r j := by
  obtain ⟨x0, x1, rfl⟩ : ∃ (x0 : Fin 256) (x1 : Fin 1024), x = ix2 x0 x1 := ⟨x 0, x 1, by funext i; fin_cases i <;> rfl⟩
  obtain rfl : r = x0 := Fin.ext hr
  have hj' : j.val = o + x1.val := hj
  have e : k0_pay63 (F := Ideal) a g s e (View.ld w (Rect.unit (s := S512x4096) ![0, o] ![512, 1024] inb)) (ix2 r x1)
      = ∑ k : Fin 512, (k0_pay62 (F := Ideal) a g s e (ix2 r k) : EReal) * View.ld w (Rect.unit (s := S512x4096) ![0, o] ![512, 1024] inb) (ix2 k x1) := by
    generalize View.ld w (Rect.unit (s := S512x4096) ![0, o] ![512, 1024] inb) = v
    revert v
    intro (v : Vec Ideal S512x1024 .bf16)
    unfold k0_pay63
    generalize k0_pay62 (F := Ideal) a g s e = h
    pointwise
  rw [e]
  refine Finset.sum_congr rfl fun k _ => ?_
  rw [ld_at w o inb k _ j hj']

set_option maxHeartbeats 4000000 in
/-- The keys' and values' block after the body's four stores. -/
theorem kv_out (x0 : Vec Ideal S256x1152 .bf16) (x1 : Vec Ideal S1x512 .f32) (x2 : Vec Ideal S1x512 .f32) (x3 : Vec Ideal S512x4096 .bf16) (x4 : Vec Ideal S512x4096 .bf16) (x5 : Vec Ideal S256x128 .f32) (x6 : Vec Ideal S256x128 .f32)
    (r : Fin 256) (j : Fin 4096) :
    out0_8 x0 x1 x2 x3 x4 x5 x6 (ix2 r j)
      = dot (k0_pay62 (F := Ideal) (k0_pay58 (View.ld x0 r0_51)) (k0_pay59 (View.ld x2 r0_2)) (k0_pay60 (View.ld x0 r0_51)) (k0_pay61)) x4 r j := by
  canon_tiles x h
  all_goals
    replace h0 : r.val = (x 0).val := h0
    exact up _ _ _ _ _ _ _ x _ _ h0 (by replace h1 : j.val = _ := h1; omega)

/-- The rotary key's block: the rows' columns times the cosines, and the columns 64 further on times the sines. -/
theorem kr_pay (a : Vec Ideal S256x128 .bf16) (c s : Vec Ideal S256x128 .f32) (r : Fin 256) (x : Fin 128) :
    k0_pay1 (F := Ideal) (k0_pay68 (k0_pay2 c) a) (k0_pay69 (k0_pay3 s) a) (ix2 r x)
      = (a (ix2 r x) : EReal) * c (ix2 r x) + a (ix2 r ⟨(x.val + 64) % 128, by omega⟩) * s (ix2 r x) := by
  have q : (x.val + 64) % 128 = (x.val + 128 - 64) % 128 := by omega
  simp only [q]
  pointwise [k0_pay1, k0_pay68, k0_pay69, k0_pay67, k0_pay2, k0_pay3]

/-- The tables' load. -/
theorem pay2_at (c : Vec Ideal S256x128 .f32) (r : Fin 256) (x : Fin 128) : k0_pay2 (F := Ideal) c (ix2 r x) = c (ix2 r x) := by
  pointwise [k0_pay2]

/-- The tables' load. -/
theorem pay3_at (c : Vec Ideal S256x128 .f32) (r : Fin 256) (x : Fin 128) : k0_pay3 (F := Ideal) c (ix2 r x) = c (ix2 r x) := by
  pointwise [k0_pay3]

/-- A load of 512 columns of the rows' block. -/
theorem ldx {n : ℕ} (w : Vec Ideal S256x1152 .bf16) (o : ℕ) (inb : ∀ a, (![0, o] : Fin 2 → ℕ) a + (![256, n] : Fin 2 → ℕ) a ≤ S256x1152.size a)
    (k : Fin 256) (x : Fin n) (j : Fin 1152) (hj : j.val = o + x.val) :
    View.ld w (Rect.unit (s := S256x1152) ![0, o] ![256, n] inb) (ix2 k x) = w (ix2 k j) := by
  refine View.ld_unit_apply_of _ _ _ _ _ _ fun a => ?_
  fin_cases a
  · exact (Nat.zero_add _).symm
  · exact hj

/-- A load of a whole row of factors. -/
theorem ldg (w : Vec Ideal S1x512 .f32) (z : Fin 1) (k : Fin 512) : View.ld w r0_2 (ix2 z k) = w (ix2 z k) := by
  refine View.ld_unit_apply_of _ _ _ _ _ _ fun a => ?_
  fin_cases a <;> exact (Nat.zero_add _).symm

/-- A load of a whole table's block. -/
theorem ldt (w : Vec Ideal S256x128 .f32) (r : Fin 256) (x : Fin 128) : View.ld w r0_0 (ix2 r x) = w (ix2 r x) := by
  refine View.ld_unit_apply_of _ _ _ _ _ _ fun a => ?_
  fin_cases a <;> exact (Nat.zero_add _).symm

/-- The rotary key's block after the body's one store. -/
theorem kr_out (x0 : Vec Ideal S256x1152 .bf16) (x1 : Vec Ideal S1x512 .f32) (x2 : Vec Ideal S1x512 .f32) (x3 : Vec Ideal S512x4096 .bf16) (x4 : Vec Ideal S512x4096 .bf16) (x5 : Vec Ideal S256x128 .f32) (x6 : Vec Ideal S256x128 .f32)
    (r : Fin 256) (x : Fin 128) :
    out0_9 x0 x1 x2 x3 x4 x5 x6 (ix2 r x)
      = (x0 (ix2 r ⟨1024 + x.val, by omega⟩) : EReal) * x5 (ix2 r x) + x0 (ix2 r ⟨1024 + (x.val + 64) % 128, by omega⟩) * x6 (ix2 r x) := by
  have e : out0_9 x0 x1 x2 x3 x4 x5 x6 (ix2 r x)
      = k0_pay1 (F := Ideal) (k0_pay68 (k0_pay2 (View.ld x5 r0_0)) (View.ld x0 r0_60)) (k0_pay69 (k0_pay3 (View.ld x6 r0_0)) (View.ld x0 r0_60)) (ix2 r x) := by
    canon_tiles y h
    have h0' : r.val = (y 0).val := h0
    have h1' : x.val = (y 1).val := h1
    have hy : y = ix2 r x := by
      funext i
      fin_cases i
      · exact Fin.ext h0'.symm
      · exact Fin.ext h1'.symm
    rw [hy]
    rfl
  rw [e, kr_pay, ldx x0 1024 _ r x ⟨1024 + x.val, by omega⟩ rfl, ldx x0 1024 _ r ⟨(x.val + 64) % 128, by omega⟩ ⟨1024 + (x.val + 64) % 128, by omega⟩ rfl, ldt, ldt]

end Cert.MlaPrepIdeal.Value

end
-- ==== Proof.MlaPrepHost.lean ====
/- What one grid point of the attention's preparation reads: the blocks of the arguments, and the arrays the lines before
   the kernel make of them. -/
module

public import proofs.«01_k».proof.Proof.Gen.MlaPrepIdeal.Frame
public import proofs.«01_k».proof.Proof.Gen.MlaPrepRefIdeal
public import proofs.«01_k».proof.Proof.Gen.Pre_queries_finite
public import Idealize.ShloMosaic.Lib.Pipeline.ValueKit
public import Idealize.ShloMosaic.Lib.Claim
public import proofs.«01_k».proof.Proof.AttnPre
public import proofs.«01_k».proof.Proof.InMlaValue

@[expose] public section

set_option maxRecDepth 16384

noncomputable section

namespace Cert.MlaPrepIdeal.Value

open Idealize.ShloMosaic Idealize.ShloMosaic.TcCoe Idealize.SL.Sem
open Idealize.ShloMosaic.Pipeline (Dat)
open Cert.MlaPrepIdeal Cert.MlaPrepIdeal.Gen

variable (m : (ℓ : Loc nD τ sig) → Buf (Elt Ideal) ℓ)

/-- The blocks of a grid point. -/
theorem idx : ∀ t : Fin cfg0.N, win0_0.index t = ![win0_7.index t 0, 0] ∧ win0_1.index t = ![0, 0] ∧ win0_2.index t = ![0, 0] ∧ win0_3.index t = ![0, 0]
    ∧ win0_4.index t = ![0, 0] ∧ win0_5.index t = ![win0_7.index t 0, 0] ∧ win0_6.index t = ![win0_7.index t 0, 0] ∧ win0_7.index t 1 = 0
    ∧ win0_8.index t = ![win0_7.index t 0, 0] ∧ win0_9.index t = ![win0_7.index t 0, 0] ∧ win0_7.index t 0 < 64 :=
  (by decide +kernel : ∀ t : Fin grid0.N, _)

/-- Row `r` of a grid point's blocks, as a row of the arrays. -/
abbrev row (t : Fin cfg0.N) (r : Fin 256) : Fin 16384 := ⟨win0_7.index t 0 * 256 + r.val, by have := idx t; omega⟩

abbrev Z : Type := FVec Ideal S16384x1088 .bf16

theorem rd0 (c : Dev nD) (t : Fin cfg0.N) (r : Fin 256) (k : Fin 1152) :
    iblk m c 0 t (ix2 r k) = V m c main_v5 (ix2 (row t r) k) := by
  blk_point [iblk, idx t]

theorem rd1 (c : Dev nD) (t : Fin cfg0.N) (z : Fin 1) (k : Fin 512) :
    iblk m c 1 t (ix2 z k) = m ((c : Thread nD τ).loc main_arg1) (ix1 k) := by
  have e : iblk m c 1 t (ix2 z k) = V m c main_v6 (ix2 z k) := by blk_point [iblk, idx t]
  rw [e]
  entry_read
  generalize m ((c : Thread nD τ).loc main_arg1) = w
  pointwise

theorem rd2 (c : Dev nD) (t : Fin cfg0.N) (z : Fin 1) (k : Fin 512) :
    iblk m c 2 t (ix2 z k) = m ((c : Thread nD τ).loc main_arg3) (ix1 k) := by
  have e : iblk m c 2 t (ix2 z k) = V m c main_v7 (ix2 z k) := by blk_point [iblk, idx t]
  rw [e]
  entry_read
  generalize m ((c : Thread nD τ).loc main_arg3) = w
  pointwise

theorem rd3 (c : Dev nD) (t : Fin cfg0.N) (k : Fin 512) (j : Fin 4096) :
    iblk m c 3 t (ix2 k j) = V m c main_v16 (ix2 k j) := by
  blk_point [iblk, idx t]

theorem rd4 (c : Dev nD) (t : Fin cfg0.N) (k : Fin 512) (j : Fin 4096) :
    iblk m c 4 t (ix2 k j) = m ((c : Thread nD τ).loc main_arg4) (ix2 k j) := by
  have e : iblk m c 4 t (ix2 k j) = V m c main_v17 (ix2 k j) := by blk_point [iblk, idx t]
  rw [e]
  entry_read
  generalize m ((c : Thread nD τ).loc main_arg4) = w
  pointwise

/-- Two column groups side by side: the first 1088 and the last 64. -/
abbrev cat (A : FVec Ideal S16384x1088 .bf16) (B : FVec Ideal S16384x64 .bf16) : FVec Ideal S16384x1152 .bf16 :=
  concatenate S16384x1152 1 [⟨S16384x1088, A⟩, ⟨S16384x64, B⟩] concatenates_S16384x1088_S16384x64_S16384x1152_d1

theorem cat_congr {A A' : FVec Ideal S16384x1088 .bf16} {B B' : FVec Ideal S16384x64 .bf16} (hA : A = A') (hB : B = B') : cat A B = cat A' B' := by
  rw [hA, hB]

abbrev halves (A B : FVec Ideal S16384x32 .bf16) : FVec Ideal S16384x64 .bf16 :=
  concatenate S16384x64 1 [⟨S16384x32, A⟩, ⟨S16384x32, B⟩] concatenates_S16384x32_S16384x32_S16384x64_d1

theorem halves_congr {A A' B B' : FVec Ideal S16384x32 .bf16} (hA : A = A') (hB : B = B') : halves A B = halves A' B' := by
  rw [hA, hB]

abbrev zkr (z : FVec Ideal S16384x1088 .bf16) : FVec Ideal S16384x64 .bf16 :=
  extractStridedSlice S16384x64 ![0, 1024] z slices_S16384x1088_S16384x64_0_1024

theorem V_v5 (c : Dev nD) : V m c main_v5
    = cat (m ((c : Thread nD τ).loc main_arg0)) (halves
        (Host.negf (extractStridedSlice S16384x32 ![0, 32] (zkr (m ((c : Thread nD τ).loc main_arg0))) slices_S16384x64_S16384x32_0_32))
        (extractStridedSlice S16384x32 ![0, 0] (zkr (m ((c : Thread nD τ).loc main_arg0))) slices_S16384x64_S16384x32_0_0)) := by
  entry_read
  refine cat_congr rfl (halves_congr ?_ ?_) <;> after_results_simp

/-- The rows the kernel reads, by columns: the rows, and the rotary key with its halves exchanged, the second negated. -/
abbrev zcol (w : FVec Ideal S16384x1088 .bf16) (n : Fin 16384) (k : Fin 1152) : EReal :=
  if h : k.val < 1088 then w (ix2 n ⟨k.val, h⟩)
  else if h : k.val - 1088 < 32 then -(w (ix2 n ⟨1024 + (32 + (k.val - 1088)), by omega⟩) : EReal)
  else w (ix2 n ⟨1024 + (k.val - 1088 - 32), by omega⟩)

/-- The host lines' rows are `zcol`. -/
theorem zm_at (c : Dev nD) (n : Fin 16384) (k : Fin 1152) :
    V m c main_v5 (ix2 n k) = zcol (m ((c : Thread nD τ).loc main_arg0)) n k := by
  rw [V_v5]
  generalize m ((c : Thread nD τ).loc main_arg0) = w
  pointwise [zcol]

/-- The queries' weight the kernel multiplies by, by columns: a head's 192 columns, and its rotary columns with their halves
    exchanged, the second negated. -/
abbrev qcol (w : FVec Ideal S512x3072 .f32) (k : Fin 512) (j : Fin 4096) : EReal :=
  if h : j.val % 256 < 192 then w (ix2 k ⟨j.val / 256 * 192 + j.val % 256, by omega⟩)
  else if h : j.val % 256 - 192 < 32 then -(w (ix2 k ⟨j.val / 256 * 192 + (128 + (32 + (j.val % 256 - 192))), by omega⟩) : EReal)
  else w (ix2 k ⟨j.val / 256 * 192 + (128 + (j.val % 256 - 192 - 32)), by omega⟩)

/-- The host lines' weight of the queries is `qcol`. -/
theorem wq_at (c : Dev nD) (k : Fin 512) (j : Fin 4096) :
    V m c main_v16 (ix2 k j) = qcol (m ((c : Thread nD τ).loc main_arg2)) k j := by
  entry_read
  generalize m ((c : Thread nD τ).loc main_arg2) = w
  pointwise [qcol]

theorem rd5 (c : Dev nD) (t : Fin cfg0.N) (r : Fin 256) (x : Fin 128) :
    iblk m c 5 t (ix2 r x) = V m c main_v19 (ix2 (row t r) x) := by
  blk_point [iblk, idx t]

theorem rd6 (c : Dev nD) (t : Fin cfg0.N) (r : Fin 256) (x : Fin 128) :
    iblk m c 6 t (ix2 r x) = V m c main_v21 (ix2 (row t r) x) := by
  blk_point [iblk, idx t]

/-- A rotary table's 32 columns twice, then 64 columns of zeros. -/
abbrev table (A B : FVec Ideal S16384x32 .f32) (Z : FVec Ideal S16384x64 .f32) : FVec Ideal S16384x128 .f32 :=
  concatenate S16384x128 1 [⟨S16384x32, A⟩, ⟨S16384x32, B⟩, ⟨S16384x64, Z⟩] concatenates_S16384x32_S16384x32_S16384x64_S16384x128_d1

theorem table_congr {A A' B B' : FVec Ideal S16384x32 .f32} {Z Z' : FVec Ideal S16384x64 .f32} (hA : A = A') (hB : B = B') (hZ : Z = Z') :
    table A B Z = table A' B' Z' := by rw [hA, hB, hZ]

theorem v21_result (hxs hy) (F : Valuation τ sig (Elt Ideal)) :
    (StableHlo.nary (τ := τ) ![main_arg6, main_arg6, main_v20] main_v21 (fun u => (concatenate S16384x128 1 [⟨S16384x32, (u 0 : (⟨S16384x32, .f32⟩ : BufTy).Contents (Elt Ideal))⟩, ⟨S16384x32, (u 1 : (⟨S16384x32, .f32⟩ : BufTy).Contents (Elt Ideal))⟩, ⟨S16384x64, (u 2 : (⟨S16384x64, .f32⟩ : BufTy).Contents (Elt Ideal))⟩] concatenates_S16384x32_S16384x32_S16384x64_S16384x128_d1 : (⟨S16384x128, .f32⟩ : BufTy).Contents (Elt Ideal))) hxs hy).result F (Proc.devRef .tc main_v21)
      = table (F (Proc.devRef .tc main_arg6)) (F (Proc.devRef .tc main_arg6)) (F (Proc.devRef .tc main_v20)) :=
  StableHlo.nary_result ..

theorem v19_result (hxs hy) (F : Valuation τ sig (Elt Ideal)) :
    (StableHlo.nary (τ := τ) ![main_arg5, main_arg5, main_v18] main_v19 (fun u => (concatenate S16384x128 1 [⟨S16384x32, (u 0 : (⟨S16384x32, .f32⟩ : BufTy).Contents (Elt Ideal))⟩, ⟨S16384x32, (u 1 : (⟨S16384x32, .f32⟩ : BufTy).Contents (Elt Ideal))⟩, ⟨S16384x64, (u 2 : (⟨S16384x64, .f32⟩ : BufTy).Contents (Elt Ideal))⟩] concatenates_S16384x32_S16384x32_S16384x64_S16384x128_d1 : (⟨S16384x128, .f32⟩ : BufTy).Contents (Elt Ideal))) hxs hy).result F (Proc.devRef .tc main_v19)
      = table (F (Proc.devRef .tc main_arg5)) (F (Proc.devRef .tc main_arg5)) (F (Proc.devRef .tc main_v18)) :=
  StableHlo.nary_result ..

set_option maxHeartbeats 4000000 in
set_option maxRecDepth 100000 in
theorem V_v19 (c : Dev nD) : V m c main_v19
    = table (m ((c : Thread nD τ).loc main_arg5)) (m ((c : Thread nD τ).loc main_arg5))
      (broadcastInDim S16384x64 ![] bcast_S_S16384x64 (constant S_ .f32 0x00000000#32)) := by
  unfold V
  simp only [hostOps0, StableHlo.after_cons, StableHlo.after_nil]
  refine Eq.trans (StableHlo.nary_result_ne (h := by decide) ..) ?_
  refine Eq.trans (StableHlo.unary_result_ne (h := by decide) ..) ?_
  refine Eq.trans (StableHlo.nullary_result_ne (h := by decide) ..) ?_
  refine Eq.trans (v19_result ..) ?_
  refine table_congr ?_ ?_ ?_ <;> after_results_simp

set_option maxHeartbeats 4000000 in
set_option maxRecDepth 100000 in
theorem V_v21 (c : Dev nD) : V m c main_v21
    = table (m ((c : Thread nD τ).loc main_arg6)) (m ((c : Thread nD τ).loc main_arg6))
      (broadcastInDim S16384x64 ![] bcast_S_S16384x64 (constant S_ .f32 0x00000000#32)) := by
  unfold V
  simp only [hostOps0, StableHlo.after_cons, StableHlo.after_nil]
  refine Eq.trans (v21_result ..) ?_
  refine table_congr ?_ ?_ ?_ <;> after_results_simp

theorem table_at (w : FVec Ideal S16384x32 .f32) (n : Fin 16384) (x : Fin 128) :
    table w w (broadcastInDim S16384x64 ![] bcast_S_S16384x64 (constant S_ .f32 0x00000000#32)) (ix2 n x)
     = if h : x.val < 32 then (w (ix2 n ⟨x.val, h⟩) : EReal) else if h : x.val - 32 < 32 then (w (ix2 n ⟨x.val - 32, h⟩) : EReal) else 0 := by
  pointwise

end Cert.MlaPrepIdeal.Value

end
-- ==== Proof.MlaPrepRefValue.lean ====
/- The entries of the reference's three results of the attention's preparation. -/
module

public import proofs.«01_k».proof.Proof.Gen.MlaPrepRefIdeal
public import Idealize.ShloMosaic.Lib.Pipeline.ValueKit
public import Idealize.ShloMosaic.Lib.Claim
public import proofs.«01_k».proof.Proof.MlaPrepBlock

@[expose] public section

set_option maxRecDepth 16384

noncomputable section

namespace Cert.MlaPrepRefIdeal.Entries

open Idealize.ShloMosaic
open Cert.MlaPrepRefIdeal Cert.MlaPrepRefIdeal.Gen
open Cert.MlaPrepIdeal.Value (nrm)

/-- Rows normed by the root of their mean square, times a row of factors. -/
abbrev rms (x : FVec Ideal S16384x512 .f32) (g : FVec Ideal S512 .f32) : FVec Ideal S16384x512 .f32 :=
  mulf (mulf x (broadcastInDim S16384x512 ![0, 1] bcast_S16384x1_S16384x512_0_1 (Host.rsqrt (addf (Host.divf
    (broadcastInDim S16384x1 ![0] bcast_S16384_S16384x1_0 (Host.reduceAdd (mulf x x) (constant S_ .f32 0x00000000#32) reducesTo_S16384x512_S16384_d1 h_S_))
    (broadcastInDim S16384x1 ![] bcast_S_S16384x1 (constant S_ .f32 0x44000000#32)))
    (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- The entries of `rms`. -/
theorem rms_at (x : FVec Ideal S16384x512 .f32) (g : FVec Ideal S512 .f32) (n : Fin 16384) (k : Fin 512) :
    rms x g (ix2 n k) = nrm (fun k => x (ix2 n k)) (fun k => g (ix1 k)) k := by
  pointwise [rms, nrm]

/-- The queries' columns of the rows. -/
abbrev zq (z : FVec Ideal S16384x1088 .bf16) : FVec Ideal S16384x512 .f32 :=
  extractStridedSlice S16384x512 ![0, 0] (extf .f32 z bitsLt_bf16_f32) slices_S16384x1088_S16384x512_0_0

/-- The keys' and values' columns of the rows. -/
abbrev zkv (z : FVec Ideal S16384x1088 .bf16) : FVec Ideal S16384x512 .f32 :=
  extractStridedSlice S16384x512 ![0, 512] (extf .f32 z bitsLt_bf16_f32) slices_S16384x1088_S16384x512_0_512

/-- The rotary key's columns of the rows. -/
abbrev zkr (z : FVec Ideal S16384x1088 .bf16) : FVec Ideal S16384x64 .f32 :=
  extractStridedSlice S16384x64 ![0, 1024] (extf .f32 z bitsLt_bf16_f32) slices_S16384x1088_S16384x64_0_1024

/-- The queries, by heads. -/
abbrev heads (h : FVec Ideal S16384x512 .f32) (w : FVec Ideal S512x3072 .f32) : FVec Ideal S16384x16x192 .f32 :=
  shapeCast S16384x16x192 (Host.dotGeneral dot_S16384x512_S512x3072_S16384x3072_1_0_0_1_n_n none h w) shapeCasts_S16384x3072_S16384x16x192

/-- The entries of `heads`. -/
theorem heads_at (h : FVec Ideal S16384x512 .f32) (w : FVec Ideal S512x3072 .f32) (n : Fin 16384) (a : Fin 16) (x : Fin 192) :
    heads h w (ix3 n a x) = ∑ k : Fin 512, (h (ix2 n k) : EReal) * w (ix2 k ⟨a.val * 192 + x.val, by omega⟩) := by
  pointwise [heads]

/-- A table's columns, the same for every head. -/
abbrev tab (c : FVec Ideal S16384x32 .f32) : FVec Ideal S16384x16x32 .f32 :=
  broadcastInDim S16384x16x32 ![0, 1, 2] bcast_S16384x1x32_S16384x16x32_0_1_2 (broadcastInDim S16384x1x32 ![0, 2] bcast_S16384x32_S16384x1x32_0_2 c)

/-- The rotary columns of the heads. -/
abbrev rot (s : FVec Ideal S16384x16x192 .f32) : FVec Ideal S16384x16x64 .f32 :=
  extractStridedSlice S16384x16x64 ![0, 0, 128] s slices_S16384x16x192_S16384x16x64_0_0_128

/-- Their first half. -/
abbrev lo (s : FVec Ideal S16384x16x192 .f32) : FVec Ideal S16384x16x32 .f32 :=
  extractStridedSlice S16384x16x32 ![0, 0, 0] (rot s) slices_S16384x16x64_S16384x16x32_0_0_0

/-- Their second half. -/
abbrev hi (s : FVec Ideal S16384x16x192 .f32) : FVec Ideal S16384x16x32 .f32 :=
  extractStridedSlice S16384x16x32 ![0, 0, 32] (rot s) slices_S16384x16x64_S16384x16x32_0_0_32

/-- The queries of the reference: each head's columns without rotation, its rotary columns turned, and 64 zeros. -/
abbrev turned (s : FVec Ideal S16384x16x192 .f32) (c d : FVec Ideal S16384x32 .f32) : FVec Ideal S16384x4096 .bf16 :=
  truncf .bf16 (shapeCast S16384x4096 (concatenate S16384x16x256 2
    [⟨S16384x16x128, extractStridedSlice S16384x16x128 ![0, 0, 0] s slices_S16384x16x192_S16384x16x128_0_0_0⟩,
     ⟨S16384x16x64, concatenate S16384x16x64 2 [⟨S16384x16x32, subf (mulf (lo s) (tab c)) (mulf (hi s) (tab d))⟩,
       ⟨S16384x16x32, addf (mulf (hi s) (tab c)) (mulf (lo s) (tab d))⟩] concatenates_S16384x16x32_S16384x16x32_S16384x16x64_d2⟩,
     ⟨S16384x16x64, broadcastInDim S16384x16x64 ![] bcast_S_S16384x16x64 (constant S_ .f32 0x00000000#32)⟩]
    concatenates_S16384x16x128_S16384x16x64_S16384x16x64_S16384x16x256_d2) shapeCasts_S16384x16x256_S16384x4096) bitsLt_bf16_f32

/-- The entries of `turned`. -/
theorem turned_at (s : FVec Ideal S16384x16x192 .f32) (c d : FVec Ideal S16384x32 .f32) (n : Fin 16384) (j : Fin 4096) :
    turned s c d (ix2 n j)
      = if h1 : j.val % 256 < 128 then (s (ix3 n ⟨j.val / 256, by omega⟩ ⟨j.val % 256, by omega⟩) : EReal)
        else if h2 : j.val % 256 - 128 < 64 then
          if h3 : j.val % 256 - 128 < 32 then
            (s (ix3 n ⟨j.val / 256, by omega⟩ ⟨128 + (j.val % 256 - 128), by omega⟩) : EReal) * c (ix2 n ⟨j.val % 256 - 128, h3⟩)
              - s (ix3 n ⟨j.val / 256, by omega⟩ ⟨128 + (32 + (j.val % 256 - 128)), by omega⟩) * d (ix2 n ⟨j.val % 256 - 128, h3⟩)
          else
            (s (ix3 n ⟨j.val / 256, by omega⟩ ⟨128 + (32 + (j.val % 256 - 128 - 32)), by omega⟩) : EReal) * c (ix2 n ⟨j.val % 256 - 128 - 32, by omega⟩)
              + s (ix3 n ⟨j.val / 256, by omega⟩ ⟨128 + (j.val % 256 - 128 - 32), by omega⟩) * d (ix2 n ⟨j.val % 256 - 128 - 32, by omega⟩)
        else 0 := by
  pointwise [turned, lo, hi, rot, tab]

/-- The reference's queries. -/
abbrev REFQ (z : FVec Ideal S16384x1088 .bf16) (g : FVec Ideal S512 .f32) (w : FVec Ideal S512x3072 .f32) (c d : FVec Ideal S16384x32 .f32) :
    FVec Ideal S16384x4096 .bf16 := turned (heads (rms (zq z) g) w) c d

/-- The reference's keys and values. -/
abbrev REFKV (z : FVec Ideal S16384x1088 .bf16) (g : FVec Ideal S512 .f32) (w : FVec Ideal S512x4096 .f32) : FVec Ideal S16384x4096 .bf16 :=
  truncf .bf16 (Host.dotGeneral dot_S16384x512_S512x4096_S16384x4096_1_0_0_1_n_n none (rms (zkv z) g) w) bitsLt_bf16_f32

/-- The entries of the reference's keys and values. -/
theorem REFKV_at (z : FVec Ideal S16384x1088 .bf16) (g : FVec Ideal S512 .f32) (w : FVec Ideal S512x4096 .f32) (n : Fin 16384) (j : Fin 4096) :
    REFKV z g w (ix2 n j) = ∑ k : Fin 512, nrm (fun k => z (ix2 n ⟨512 + k.val, by omega⟩)) (fun k => g (ix1 k)) k * (w (ix2 k j) : EReal) := by
  have e : ∀ h : FVec Ideal S16384x512 .f32, truncf .bf16 (Host.dotGeneral dot_S16384x512_S512x4096_S16384x4096_1_0_0_1_n_n none h w) bitsLt_bf16_f32 (ix2 n j)
      = ∑ k : Fin 512, (h (ix2 n k) : EReal) * w (ix2 k j) := fun h => by pointwise
  rw [REFKV, e]
  refine Finset.sum_congr rfl fun k _ => ?_
  rw [rms_at]
  refine congrArg (fun f : Fin 512 → EReal => nrm f (fun k => g (ix1 k)) k * (w (ix2 k j) : EReal)) ?_
  funext k
  pointwise

/-- The rotary key's columns as one head. -/
abbrev key1 (x : FVec Ideal S16384x64 .f32) : FVec Ideal S16384x1x64 .f32 :=
  broadcastInDim S16384x1x64 ![0, 2] bcast_S16384x64_S16384x1x64_0_2 x

/-- The rotary key's first half. -/
abbrev klo (x : FVec Ideal S16384x64 .f32) : FVec Ideal S16384x1x32 .f32 :=
  extractStridedSlice S16384x1x32 ![0, 0, 0] (key1 x) slices_S16384x1x64_S16384x1x32_0_0_0

/-- The rotary key's second half. -/
abbrev khi (x : FVec Ideal S16384x64 .f32) : FVec Ideal S16384x1x32 .f32 :=
  extractStridedSlice S16384x1x32 ![0, 0, 32] (key1 x) slices_S16384x1x64_S16384x1x32_0_0_32

/-- A table's columns for one head. -/
abbrev tab1 (c : FVec Ideal S16384x32 .f32) : FVec Ideal S16384x1x32 .f32 :=
  broadcastInDim S16384x1x32 ![0, 2] bcast_S16384x32_S16384x1x32_0_2 c

/-- The reference's rotary key: turned, and 64 zeros. -/
abbrev REFKR (z : FVec Ideal S16384x1088 .bf16) (c d : FVec Ideal S16384x32 .f32) : FVec Ideal S16384x128 .bf16 :=
  truncf .bf16 (concatenate S16384x128 1 [⟨S16384x64, shapeCast S16384x64 (concatenate S16384x1x64 2
    [⟨S16384x1x32, subf (mulf (klo (zkr z)) (tab1 c)) (mulf (khi (zkr z)) (tab1 d))⟩,
     ⟨S16384x1x32, addf (mulf (khi (zkr z)) (tab1 c)) (mulf (klo (zkr z)) (tab1 d))⟩] concatenates_S16384x1x32_S16384x1x32_S16384x1x64_d2)
      shapeCasts_S16384x1x64_S16384x64⟩,
    ⟨S16384x64, broadcastInDim S16384x64 ![] bcast_S_S16384x64 (constant S_ .f32 0x00000000#32)⟩] concatenates_S16384x64_S16384x64_S16384x128_d1) bitsLt_bf16_f32

/-- The entries of the reference's rotary key. -/
theorem REFKR_at (z : FVec Ideal S16384x1088 .bf16) (c d : FVec Ideal S16384x32 .f32) (n : Fin 16384) (x : Fin 128) :
    REFKR z c d (ix2 n x)
      = if h2 : x.val < 64 then
          if h3 : x.val < 32 then
            (z (ix2 n ⟨1024 + x.val, by omega⟩) : EReal) * c (ix2 n ⟨x.val, h3⟩) - z (ix2 n ⟨1024 + (32 + x.val), by omega⟩) * d (ix2 n ⟨x.val, h3⟩)
          else
            (z (ix2 n ⟨1024 + (32 + (x.val - 32)), by omega⟩) : EReal) * c (ix2 n ⟨x.val - 32, by omega⟩)
              + z (ix2 n ⟨1024 + (x.val - 32), by omega⟩) * d (ix2 n ⟨x.val - 32, by omega⟩)
        else 0 := by
  pointwise [REFKR, klo, khi, key1, tab1, zkr]

end Cert.MlaPrepRefIdeal.Entries

end
-- ==== Proof.MlaPrepValue.lean ====
/- The attention's preparation: the kernel turns a head's rotary columns by adding products with a second copy of the
   weight's columns, their halves exchanged and the second negated, where the reference exchanges and negates the
   products; the arrays both leave are equal. -/
module

public import proofs.«01_k».proof.Proof.Gen.Pre_queries_finite
public import proofs.«01_k».proof.Proof.AttnMath
public import proofs.«01_k».proof.Proof.MlaPrepBlock
public import proofs.«01_k».proof.Proof.MlaPrepHost
public import proofs.«01_k».proof.Proof.MlaPrepRefValue

@[expose] public section

set_option maxRecDepth 16384

noncomputable section

namespace Cert.MlaPrepIdeal.Value

open Idealize.ShloMosaic Idealize.ShloMosaic.TcCoe Idealize.SL.Sem
open Idealize.ShloMosaic.Pipeline (Dat)
open Cert.MlaPrepIdeal Cert.MlaPrepIdeal.Gen
open Cert.MlaPrepRefIdeal.Entries (REFQ REFKV REFKR)

variable (m : (ℓ : Loc nD τ sig) → Buf (Elt Ideal) ℓ)

/-- A square is not negative. -/
theorem sq_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- The norm's constants: the number of columns, and the number added to the mean square. -/
theorem consts : (∃ a : ℝ, 0 < a ∧ Ideal.ofBits FTy.f32 0x44000000#32 = (a : EReal)) ∧ ∃ b : ℝ, 0 < b ∧ Ideal.ofBits FTy.f32 0x358637BD#32 = (b : EReal) := by
  refine ⟨⟨_, ?_, rfl⟩, ⟨_, ?_, rfl⟩⟩ <;> (rw [if_neg (by decide)]; positivity)

/-- The root the norm divides by, inverted, is a real number where the sum of squares is one. -/
theorem rsqrt_fin (s : ℝ) (hs : 0 ≤ s) : ∃ r : ℝ,
    Ideal.rsqrt (Ideal.div (s : EReal) (Ideal.ofBits FTy.f32 0x44000000#32) + Ideal.ofBits FTy.f32 0x358637BD#32) = (r : EReal) := by
  obtain ⟨⟨a, ha, ea⟩, ⟨b, hb, eb⟩⟩ := consts
  rw [ea, eb]
  have e : Ideal.div (s : EReal) (a : EReal) + (b : EReal) = ((s * a⁻¹ + b : ℝ) : EReal) := by
    unfold Ideal.div
    rw [if_neg (by exact_mod_cast ha.ne'), ← EReal.coe_inv, ← EReal.coe_mul, ← EReal.coe_add]
  have hp : 0 < s * a⁻¹ + b := by positivity
  refine ⟨(Real.sqrt (s * a⁻¹ + b))⁻¹, ?_⟩
  rw [e]
  show (if s * a⁻¹ + b < 0 then (⊥ : EReal) else if s * a⁻¹ + b = 0 then ⊤ else _) = _
  rw [if_neg hp.not_gt, if_neg hp.ne']

/-- Where the sum of squares is infinite the inverted root is zero. -/
theorem rsqrt_top :
    Ideal.rsqrt (Ideal.div ⊤ (Ideal.ofBits FTy.f32 0x44000000#32) + Ideal.ofBits FTy.f32 0x358637BD#32) = 0 := by
  obtain ⟨⟨a, ha, ea⟩, ⟨b, hb, eb⟩⟩ := consts
  rw [ea, eb]
  have e : Ideal.div ⊤ (a : EReal) + (b : EReal) = ⊤ := by
    unfold Ideal.div
    rw [if_neg (by exact_mod_cast ha.ne'), ← EReal.coe_inv, EReal.top_mul_coe_of_pos (by positivity), EReal.top_add_coe]
  rw [e]
  rfl

/-- A normed row's entries are finite where the factors are. -/
theorem nrm_fin (x g : Fin 512 → EReal) (hg : ∀ k, g k ≠ ⊤ ∧ g k ≠ ⊥) (k : Fin 512) : nrm x g k ≠ ⊤ ∧ nrm x g k ≠ ⊥ := by
  unfold nrm
  by_cases h : ∑ l, x l * x l = ⊤
  · rw [h, rsqrt_top, mul_zero, zero_mul]
    exact ⟨EReal.zero_ne_top, EReal.zero_ne_bot⟩
  · have h0 : 0 ≤ ∑ l, x l * x l := Finset.sum_nonneg fun l _ => sq_nonneg' (x l)
    have hb : ∑ l, x l * x l ≠ ⊥ := fun e => by rw [e] at h0; exact absurd h0 (by simp)
    have hx : x k ≠ ⊤ ∧ x k ≠ ⊥ := by
      have hle : x k * x k ≤ ∑ l, x l * x l := Finset.single_le_sum (f := fun l => x l * x l) (fun l _ => sq_nonneg' (x l)) (Finset.mem_univ k)
      constructor <;> intro e <;> rw [e] at hle
      · rw [EReal.top_mul_top] at hle
        exact h (top_le_iff.mp hle)
      · rw [EReal.bot_mul_bot] at hle
        exact h (top_le_iff.mp hle)
    lift (∑ l, x l * x l) to ℝ using ⟨h, hb⟩ with s
    obtain ⟨r, er⟩ := rsqrt_fin s (by exact_mod_cast h0)
    rw [er]
    exact Attn.mul_finite (Attn.mul_finite hx ⟨EReal.coe_ne_top _, EReal.coe_ne_bot _⟩) (hg k)

/-- The columns of `qcol` in a head's first 192. -/
theorem qcol_lo (w : FVec Ideal S512x3072 .f32) (k : Fin 512) (j : Fin 4096) (i : Fin 3072) (h : j.val % 256 < 192)
    (hi : i.val = j.val / 256 * 192 + j.val % 256) : qcol w k j = w (ix2 k i) := by
  rw [qcol, dif_pos h]
  exact congrArg (fun i => (w (ix2 k i) : EReal)) (Fin.ext hi.symm)

/-- The next 32 columns. -/
theorem qcol_mid (w : FVec Ideal S512x3072 .f32) (k : Fin 512) (j : Fin 4096) (i : Fin 3072) (h : ¬ j.val % 256 < 192) (h' : j.val % 256 - 192 < 32)
    (hi : i.val = j.val / 256 * 192 + (128 + (32 + (j.val % 256 - 192)))) : qcol w k j = -(w (ix2 k i) : EReal) := by
  rw [qcol, dif_neg h, dif_pos h']
  exact congrArg (fun i => -(w (ix2 k i) : EReal)) (Fin.ext hi.symm)

/-- The last 32 columns. -/
theorem qcol_hi (w : FVec Ideal S512x3072 .f32) (k : Fin 512) (j : Fin 4096) (i : Fin 3072) (h : ¬ j.val % 256 < 192) (h' : ¬ j.val % 256 - 192 < 32)
    (hi : i.val = j.val / 256 * 192 + (128 + (j.val % 256 - 192 - 32))) : qcol w k j = w (ix2 k i) := by
  rw [qcol, dif_neg h, dif_neg h']
  exact congrArg (fun i => (w (ix2 k i) : EReal)) (Fin.ext hi.symm)

/-- The columns of `zcol` for the rotary key's second half, negated. -/
theorem zcol_mid (z : FVec Ideal S16384x1088 .bf16) (n : Fin 16384) (k : Fin 1152) (i : Fin 1088) (h : ¬ k.val < 1088) (h' : k.val - 1088 < 32)
    (hi : i.val = 1024 + (32 + (k.val - 1088))) : zcol z n k = -(z (ix2 n i) : EReal) := by
  rw [zcol, dif_neg h, dif_pos h']
  exact congrArg (fun i => -(z (ix2 n i) : EReal)) (Fin.ext hi.symm)

/-- The columns of `zcol` for the rotary key's first half, after the second. -/
theorem zcol_hi (z : FVec Ideal S16384x1088 .bf16) (n : Fin 16384) (k : Fin 1152) (i : Fin 1088) (h : ¬ k.val < 1088) (h' : ¬ k.val - 1088 < 32)
    (hi : i.val = 1024 + (k.val - 1088 - 32)) : zcol z n k = z (ix2 n i) := by
  rw [zcol, dif_neg h, dif_neg h']
  exact congrArg (fun i => (z (ix2 n i) : EReal)) (Fin.ext hi.symm)

/-- A rotary table's columns as the kernel reads them: the 32 twice, then zeros. -/
abbrev tcol (w : FVec Ideal S16384x32 .f32) (n : Fin 16384) (x : Fin 128) : EReal :=
  if h : x.val < 32 then (w (ix2 n ⟨x.val, h⟩) : EReal) else if h : x.val - 32 < 32 then (w (ix2 n ⟨x.val - 32, h⟩) : EReal) else 0

/-- The norm's factors and the weight's rotary columns are finite. -/
structure Args (g : FVec Ideal S512 .f32) (w : FVec Ideal S512x3072 .f32) : Prop where
  scale : ∀ k, (g (ix1 k) : EReal) ≠ ⊤ ∧ (g (ix1 k) : EReal) ≠ ⊥
  key : ∀ k (a : Fin 16) (x : Fin 64), (w (ix2 k ⟨a.val * 192 + (128 + x.val), by omega⟩) : EReal) ≠ ⊤ ∧ (w (ix2 k ⟨a.val * 192 + (128 + x.val), by omega⟩) : EReal) ≠ ⊥

/-- A row's product with a column of the kernel's weight. -/
abbrev S (h : Fin 512 → EReal) (w : FVec Ideal S512x3072 .f32) (j : Fin 4096) : EReal := ∑ k, h k * qcol w k j

/-- A row's product with a column of the weight. -/
abbrev R (h : Fin 512 → EReal) (w : FVec Ideal S512x3072 .f32) (i : Fin 3072) : EReal := ∑ k, h k * (w (ix2 k i) : EReal)

/-- The kernel's queries by entries. -/
def qk (h : Fin 512 → EReal) (w : FVec Ideal S512x3072 .f32) (c d : FVec Ideal S16384x32 .f32) (n : Fin 16384) (j : Fin 4096) : EReal :=
  if h0 : j.val % 256 < 128 then S h w j
  else S h w j * tcol c n ⟨j.val % 256 - 128, by omega⟩
    + S h w ⟨j.val / 256 * 256 + (128 + (j.val % 256 - 128 + 64) % 128), by omega⟩ * tcol d n ⟨j.val % 256 - 128, by omega⟩

/-- The normed row the queries are made of. -/
abbrev qrow (z : FVec Ideal S16384x1088 .bf16) (g : FVec Ideal S512 .f32) (n : Fin 16384) : Fin 512 → EReal :=
  nrm (fun k => z (ix2 n ⟨k.val, by omega⟩)) (fun k => g (ix1 k))

/-- The reference's queries' products by entries. -/
theorem heads_eq (z : FVec Ideal S16384x1088 .bf16) (g : FVec Ideal S512 .f32) (w : FVec Ideal S512x3072 .f32) (n : Fin 16384) (a : Fin 16) (x : Fin 192) :
    Cert.MlaPrepRefIdeal.Entries.heads (Cert.MlaPrepRefIdeal.Entries.rms (Cert.MlaPrepRefIdeal.Entries.zq z) g) w (ix3 n a x)
      = R (qrow z g n) w ⟨a.val * 192 + x.val, by omega⟩ := by
  rw [Cert.MlaPrepRefIdeal.Entries.heads_at]
  refine Finset.sum_congr rfl fun k _ => ?_
  rw [Cert.MlaPrepRefIdeal.Entries.rms_at]
  refine congrArg (fun f : Fin 512 → EReal => nrm f (fun k => g (ix1 k)) k * (w (ix2 k ⟨a.val * 192 + x.val, by omega⟩) : EReal)) ?_
  funext k
  pointwise [Cert.MlaPrepRefIdeal.Entries.zq]

set_option maxHeartbeats 1600000 in
/-- The kernel's queries are the reference's. -/
theorem q_eq (z : FVec Ideal S16384x1088 .bf16) (g : FVec Ideal S512 .f32) (w : FVec Ideal S512x3072 .f32) (c d : FVec Ideal S16384x32 .f32)
    (ha : Args g w) (n : Fin 16384) (j : Fin 4096) : qk (qrow z g n) w c d n j = REFQ z g w c d (ix2 n j) := by
  rw [REFQ, Cert.MlaPrepRefIdeal.Entries.turned_at]
  simp only [heads_eq]
  have hf : ∀ k, qrow z g n k ≠ ⊤ ∧ qrow z g n k ≠ ⊥ := nrm_fin _ _ ha.scale
  generalize qrow z g n = h at hf
  unfold qk
  have lo : ∀ (j : Fin 4096) (i : Fin 3072), j.val % 256 < 192 → i.val = j.val / 256 * 192 + j.val % 256 → S h w j = R h w i := fun j i h1 h2 =>
    Finset.sum_congr rfl fun k _ => by rw [qcol_lo w k j i h1 h2]
  by_cases h1 : j.val % 256 < 128
  · rw [dif_pos h1, dif_pos h1]
    exact lo _ _ (by clear ha; omega) rfl
  rw [dif_neg h1, dif_neg h1]
  by_cases h2 : j.val % 256 - 128 < 64
  · rw [dif_pos h2]
    by_cases h3 : j.val % 256 - 128 < 32
    · rw [dif_pos h3]
      have ec : ∀ v : FVec Ideal S16384x32 .f32, tcol v n ⟨j.val % 256 - 128, by omega⟩ = v (ix2 n ⟨j.val % 256 - 128, h3⟩) := fun v => dif_pos h3
      have e1 := lo j ⟨j.val / 256 * 192 + (128 + (j.val % 256 - 128)), by omega⟩ (by omega) (by dsimp only; omega)
      have e2 : S h w ⟨j.val / 256 * 256 + (128 + (j.val % 256 - 128 + 64) % 128), by omega⟩
          = -R h w ⟨j.val / 256 * 192 + (128 + (32 + (j.val % 256 - 128))), by omega⟩ := by
        have e : ∀ k, qcol w k ⟨j.val / 256 * 256 + (128 + (j.val % 256 - 128 + 64) % 128), by omega⟩
            = -(w (ix2 k ⟨j.val / 256 * 192 + (128 + (32 + (j.val % 256 - 128))), by omega⟩) : EReal) := fun k =>
          qcol_mid w k _ _ (by dsimp only; omega) (by dsimp only; omega) (by dsimp only; omega)
        simp only [S, e]
        exact Cert.InMlaIdeal.Value.sum_neg h _ hf fun k => ha.key k ⟨j.val / 256, by omega⟩ ⟨32 + (j.val % 256 - 128), by omega⟩
      rw [ec, ec, e1, e2, EReal.neg_mul, ← sub_eq_add_neg]
    · rw [dif_neg h3]
      have ec : ∀ v : FVec Ideal S16384x32 .f32, tcol v n ⟨j.val % 256 - 128, by omega⟩ = v (ix2 n ⟨j.val % 256 - 128 - 32, by omega⟩) := fun v =>
        (dif_neg h3).trans (dif_pos (by dsimp only; omega))
      have e1 := lo j ⟨j.val / 256 * 192 + (128 + (32 + (j.val % 256 - 128 - 32))), by omega⟩ (by omega) (by dsimp only; omega)
      have e2 : S h w ⟨j.val / 256 * 256 + (128 + (j.val % 256 - 128 + 64) % 128), by omega⟩
          = R h w ⟨j.val / 256 * 192 + (128 + (j.val % 256 - 128 - 32)), by omega⟩ :=
        Finset.sum_congr rfl fun k _ => congrArg (fun v : EReal => h k * v)
          (qcol_hi w k _ _ (by dsimp only; omega) (by dsimp only; omega) (by dsimp only; omega))
      rw [ec, ec, e1, e2]
  · rw [dif_neg h2]
    have ec : ∀ v : FVec Ideal S16384x32 .f32, tcol v n ⟨j.val % 256 - 128, by omega⟩ = 0 := fun v =>
      (dif_neg (by dsimp only; omega)).trans (dif_neg (by dsimp only; omega))
    rw [ec, ec, mul_zero, mul_zero, add_zero]

/-- The kernel's rotary key by entries. -/
def kk (z : FVec Ideal S16384x1088 .bf16) (c d : FVec Ideal S16384x32 .f32) (n : Fin 16384) (x : Fin 128) : EReal :=
  zcol z n ⟨1024 + x.val, by omega⟩ * tcol c n x + zcol z n ⟨1024 + (x.val + 64) % 128, by omega⟩ * tcol d n x

/-- The kernel's rotary key is the reference's. -/
theorem k_eq (z : FVec Ideal S16384x1088 .bf16) (c d : FVec Ideal S16384x32 .f32) (n : Fin 16384) (x : Fin 128) :
    kk z c d n x = REFKR z c d (ix2 n x) := by
  rw [Cert.MlaPrepRefIdeal.Entries.REFKR_at]
  unfold kk
  by_cases h2 : x.val < 64
  · rw [dif_pos h2]
    have e1 : ∀ i : Fin 1088, i.val = 1024 + x.val → zcol z n ⟨1024 + x.val, by omega⟩ = z (ix2 n i) := fun i hi =>
      (dif_pos (show 1024 + x.val < 1088 by omega)).trans (congrArg (fun i => (z (ix2 n i) : EReal)) (Fin.ext hi.symm))
    by_cases h3 : x.val < 32
    · rw [dif_pos h3]
      have ec : ∀ v : FVec Ideal S16384x32 .f32, tcol v n x = v (ix2 n ⟨x.val, h3⟩) := fun v => dif_pos h3
      have e2 : zcol z n ⟨1024 + (x.val + 64) % 128, by omega⟩ = -(z (ix2 n ⟨1024 + (32 + x.val), by omega⟩) : EReal) :=
        zcol_mid z n _ _ (by dsimp only; omega) (by dsimp only; omega) (by dsimp only; omega)
      rw [ec, ec, e1 ⟨1024 + x.val, by omega⟩ rfl, e2, EReal.neg_mul, ← sub_eq_add_neg]
    · rw [dif_neg h3]
      have ec : ∀ v : FVec Ideal S16384x32 .f32, tcol v n x = v (ix2 n ⟨x.val - 32, by omega⟩) := fun v =>
        (dif_neg h3).trans (dif_pos (by omega))
      have e2 : zcol z n ⟨1024 + (x.val + 64) % 128, by omega⟩ = z (ix2 n ⟨1024 + (x.val - 32), by omega⟩) :=
        zcol_hi z n _ _ (by dsimp only; omega) (by dsimp only; omega) (by dsimp only; omega)
      rw [ec, ec, e1 ⟨1024 + (32 + (x.val - 32)), by omega⟩ (by dsimp only; omega), e2]
  · rw [dif_neg h2]
    have ec : ∀ v : FVec Ideal S16384x32 .f32, tcol v n x = 0 := fun v => (dif_neg (by omega)).trans (dif_neg (by omega))
    rw [ec, ec, mul_zero, mul_zero, add_zero]

/-- The queries' block of a grid point is a block of the kernel's queries. -/
theorem q_block (x0 : Vec Ideal S256x1152 .bf16) (x1 : Vec Ideal S1x512 .f32) (x2 : Vec Ideal S1x512 .f32) (x3 : Vec Ideal S512x4096 .bf16) (x4 : Vec Ideal S512x4096 .bf16) (x5 : Vec Ideal S256x128 .f32) (x6 : Vec Ideal S256x128 .f32)
    (z : FVec Ideal S16384x1088 .bf16) (g : FVec Ideal S512 .f32) (w : FVec Ideal S512x3072 .f32) (c d : FVec Ideal S16384x32 .f32)
    (r : Fin 256) (n : Fin 16384) (h0 : ∀ k, (x0 (ix2 r k) : EReal) = zcol z n k) (h1 : ∀ k, (x1 (ix2 0 k) : EReal) = g (ix1 k))
    (h3 : ∀ k j, (x3 (ix2 k j) : EReal) = qcol w k j) (h5 : ∀ x, (x5 (ix2 r x) : EReal) = tcol c n x) (h6 : ∀ x, (x6 (ix2 r x) : EReal) = tcol d n x)
    (j : Fin 4096) : out0_7 x0 x1 x2 x3 x4 x5 x6 (ix2 r j) = qk (qrow z g n) w c d n j := by
  rw [q_out]
  have hrow : ∀ k : Fin 512, (k0_pay4 (F := Ideal) (View.ld x0 r0_1) (View.ld x1 r0_2) (ix2 r k) : EReal) = qrow z g n k := by
    intro k
    rw [pay4_at]
    refine congrArg₂ (fun a b : Fin 512 → EReal => nrm a b k) ?_ ?_ <;> funext l
    · refine ((ldx x0 0 _ r l ⟨l.val, by omega⟩ (Nat.zero_add _).symm).trans (h0 _)).trans ?_
      exact dif_pos (show l.val < 1088 by omega)
    · exact (ldg x1 0 l).trans (h1 l)
  have hdot : ∀ j, dot (k0_pay4 (F := Ideal) (View.ld x0 r0_1) (View.ld x1 r0_2)) x3 r j = S (qrow z g n) w j := fun j =>
    Finset.sum_congr rfl fun k _ => congrArg₂ (fun a b : EReal => a * b) (hrow k) (h3 k j)
  have hc : ∀ x, (k0_pay2 (F := Ideal) (View.ld x5 r0_0) (ix2 r x) : EReal) = tcol c n x := fun x =>
    (pay2_at _ r x).trans ((ldt x5 r x).trans (h5 x))
  have hd : ∀ x, (k0_pay3 (F := Ideal) (View.ld x6 r0_0) (ix2 r x) : EReal) = tcol d n x := fun x =>
    (pay3_at _ r x).trans ((ldt x6 r x).trans (h6 x))
  unfold qblk qk
  by_cases hj : j.val % 256 < 128
  · rw [dif_pos hj, dif_pos hj, hdot]
  · rw [dif_neg hj, dif_neg hj, hdot, hdot, hc, hd]

/-- The keys' and values' block of a grid point, by entries. -/
theorem kv_block (x0 : Vec Ideal S256x1152 .bf16) (x1 : Vec Ideal S1x512 .f32) (x2 : Vec Ideal S1x512 .f32) (x3 : Vec Ideal S512x4096 .bf16) (x4 : Vec Ideal S512x4096 .bf16) (x5 : Vec Ideal S256x128 .f32) (x6 : Vec Ideal S256x128 .f32)
    (z : FVec Ideal S16384x1088 .bf16) (g : FVec Ideal S512 .f32) (w : FVec Ideal S512x4096 .f32)
    (r : Fin 256) (n : Fin 16384) (h0 : ∀ k, (x0 (ix2 r k) : EReal) = zcol z n k) (h2 : ∀ k, (x2 (ix2 0 k) : EReal) = g (ix1 k))
    (h4 : ∀ k j, (x4 (ix2 k j) : EReal) = w (ix2 k j))
    (j : Fin 4096) : out0_8 x0 x1 x2 x3 x4 x5 x6 (ix2 r j) = REFKV z g w (ix2 n j) := by
  rw [kv_out, Cert.MlaPrepRefIdeal.Entries.REFKV_at]
  refine Finset.sum_congr rfl fun k _ => congrArg₂ (fun a b : EReal => a * b) ?_ (h4 k j)
  rw [pay62_at]
  refine congrArg₂ (fun a b : Fin 512 → EReal => nrm a b k) ?_ ?_ <;> funext l
  · refine ((ldx x0 512 _ r l ⟨512 + l.val, by omega⟩ rfl).trans (h0 _)).trans ?_
    exact dif_pos (show 512 + l.val < 1088 by omega)
  · exact (ldg x2 0 l).trans (h2 l)

/-- The rows a grid point reads. -/
theorem in0 (c : Dev nD) (t : Fin cfg0.N) (r : Fin 256) (k : Fin 1152) :
    (iblk m c 0 t (ix2 r k) : EReal) = zcol (m ((c : Thread nD τ).loc main_arg0)) (row t r) k :=
  (rd0 m c t r k).trans (zm_at m c _ k)

/-- The cosines a grid point reads. -/
theorem in5 (c : Dev nD) (t : Fin cfg0.N) (r : Fin 256) (x : Fin 128) :
    (iblk m c 5 t (ix2 r x) : EReal) = tcol (m ((c : Thread nD τ).loc main_arg5)) (row t r) x :=
  (rd5 m c t r x).trans ((congrFun (V_v19 m c) _).trans (table_at _ _ x))

/-- The sines a grid point reads. -/
theorem in6 (c : Dev nD) (t : Fin cfg0.N) (r : Fin 256) (x : Fin 128) :
    (iblk m c 6 t (ix2 r x) : EReal) = tcol (m ((c : Thread nD τ).loc main_arg6)) (row t r) x :=
  (rd6 m c t r x).trans ((congrFun (V_v21 m c) _).trans (table_at _ _ x))

/-- The queries the run leaves are the reference's, for finite factors and finite rotary columns of the weight. -/
theorem final7 (c : Dev nD) (ha : Args (m ((c : Thread nD τ).loc main_arg1)) (m ((c : Thread nD τ).loc main_arg2))) :
    (dats m 0 c).arrAt 7 (cfgs 0).N = REFQ (m ((c : Thread nD τ).loc main_arg0)) (m ((c : Thread nD τ).loc main_arg1)) (m ((c : Thread nD τ).loc main_arg2))
      (m ((c : Thread nD τ).loc main_arg5)) (m ((c : Thread nD τ).loc main_arg6)) := by
  refine (dats m 0 c).arrAt_eq_of_covers 7 _ (by decide +kernel) fun t _ y => ?_
  have hi := idx t
  obtain ⟨r, j, rfl⟩ : ∃ (r : Fin 256) (j : Fin 4096), y = ix2 r j := ⟨y 0, y 1, by funext i; fin_cases i <;> rfl⟩
  have hE : ((cfg0.win 7).blk t).view.emb (ix2 r j) = (ix2 (row t r) j : S16384x4096.Idx) := by
    blk_ext [hi]
  blk_simp
  rw [after0_7]
  refine Eq.trans ?_ (congrArg (REFQ _ _ _ _ _) hE.symm)
  exact (q_block _ _ _ _ _ _ _ _ _ _ _ _ r (row t r) (in0 m c t r) (rd1 m c t 0) (fun k j => (rd3 m c t k j).trans (wq_at m c k j))
    (in5 m c t r) (in6 m c t r) j).trans (q_eq _ _ _ _ _ ha _ j)

/-- The keys and values the run leaves are the reference's. -/
theorem final8 (c : Dev nD) :
    (dats m 0 c).arrAt 8 (cfgs 0).N = REFKV (m ((c : Thread nD τ).loc main_arg0)) (m ((c : Thread nD τ).loc main_arg3)) (m ((c : Thread nD τ).loc main_arg4)) := by
  refine (dats m 0 c).arrAt_eq_of_covers 8 _ (by decide +kernel) fun t _ y => ?_
  have hi := idx t
  obtain ⟨r, j, rfl⟩ : ∃ (r : Fin 256) (j : Fin 4096), y = ix2 r j := ⟨y 0, y 1, by funext i; fin_cases i <;> rfl⟩
  have hE : ((cfg0.win 8).blk t).view.emb (ix2 r j) = (ix2 (row t r) j : S16384x4096.Idx) := by
    blk_ext [hi]
  blk_simp
  rw [after0_8]
  refine Eq.trans ?_ (congrArg (REFKV _ _ _) hE.symm)
  exact kv_block _ _ _ _ _ _ _ _ _ _ r (row t r) (in0 m c t r) (rd2 m c t 0) (rd4 m c t) j

/-- The rotary key the run leaves is the reference's. -/
theorem final9 (c : Dev nD) :
    (dats m 0 c).arrAt 9 (cfgs 0).N = REFKR (m ((c : Thread nD τ).loc main_arg0)) (m ((c : Thread nD τ).loc main_arg5)) (m ((c : Thread nD τ).loc main_arg6)) := by
  refine (dats m 0 c).arrAt_eq_of_covers 9 _ (by decide +kernel) fun t _ y => ?_
  have hi := idx t
  obtain ⟨r, x, rfl⟩ : ∃ (r : Fin 256) (x : Fin 128), y = ix2 r x := ⟨y 0, y 1, by funext i; fin_cases i <;> rfl⟩
  have hE : ((cfg0.win 9).blk t).view.emb (ix2 r x) = (ix2 (row t r) x : S16384x128.Idx) := by
    blk_ext [hi]
  blk_simp
  rw [after0_9]
  refine Eq.trans ?_ (congrArg (REFKR _ _ _) hE.symm)
  refine (kr_out _ _ _ _ _ _ _ r x).trans (Eq.trans ?_ (k_eq _ _ _ (row t r) x))
  exact congrArg₂ (fun a b : EReal => a + b) (congrArg₂ (fun a b : EReal => a * b) (in0 m c t r _) (in5 m c t r x))
    (congrArg₂ (fun a b : EReal => a * b) (in0 m c t r _) (in6 m c t r x))

/-- Where the precondition's function is all ones, the factors and the weight's rotary columns are finite. -/
theorem args (z : FVec Ideal S16384x1088 .bf16) (g : FVec Ideal S512 .f32) (w : FVec Ideal S512x3072 .f32) (g' : FVec Ideal S512 .f32)
    (w' : FVec Ideal S512x4096 .f32) (c d : FVec Ideal S16384x32 .f32)
    (hp : Cert.Pre_queries_finite.fn (F := Ideal) z g w g' w' c d = fun _ => 1#1) : Args g w := by
  have at_row : ∀ (n : Fin 1025) (k : Fin 512), Cert.Pre_queries_finite.fn (F := Ideal) z g w g' w' c d (ix2 n k) = 1#1 := fun n k => congrFun hp _
  refine ⟨fun k => ?_, fun k a x => ?_⟩
  · have e := at_row ⟨0, by omega⟩ k
    revert e
    pointwise [Cert.Pre_queries_finite.fn]
    exact Cert.Pre_attn_args.fin_of_abs _
  · have e := at_row ⟨1 + (a.val * 64 + x.val), by omega⟩ k
    revert e
    pointwise [Cert.Pre_queries_finite.fn]
    exact Cert.Pre_attn_args.fin_of_abs _

end Cert.MlaPrepIdeal.Value

end
-- ==== Proof.MlaPrepClaim.lean ====
/- The two programs of the attention's preparation leave the same queries, keys and values, and rotary key. -/
module

public import proofs.«01_k».proof.Defs
public import proofs.«01_k».proof.Proof.Gen.MlaPrepIdeal.Value
public import proofs.«01_k».proof.Proof.Gen.MlaPrepRefIdeal.Run
public import proofs.«01_k».proof.Proof.MlaPrepValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the attention's preparation end with equal
    results, given finite factors of the queries' norm and finite rotary columns of the queries' weight. -/
theorem algebraic_MlaPrep : algebraic_MlaPrepIdeal_MlaPrepRefIdeal_pre_queries_finite (hMlaPrepIdeal := Cert.MlaPrepIdeal.Gen.facts)
    (hMlaPrepRefIdeal := Cert.MlaPrepRefIdeal.Gen.facts) (hPre_queries_finite := Cert.Pre_queries_finite.Gen.facts) := by
  pair_intro
  · run_from Cert.MlaPrepIdeal.Value.run_blocks m g
  · run_from Cert.MlaPrepRefIdeal.Value.run m' g'
    · obtain ⟨a0, a1, a2, a3, a4, a5, a6⟩ := hagree c
      have e : Cert.MlaPrepRefIdeal.Value.res_main_v68 m' c = Cert.MlaPrepRefIdeal.Entries.REFQ
          (m' ((c.tc : Thread Cert.MlaPrepRefIdeal.nD Cert.MlaPrepRefIdeal.τ).loc Cert.MlaPrepRefIdeal.main_arg0))
          (m' ((c.tc : Thread Cert.MlaPrepRefIdeal.nD Cert.MlaPrepRefIdeal.τ).loc Cert.MlaPrepRefIdeal.main_arg1))
          (m' ((c.tc : Thread Cert.MlaPrepRefIdeal.nD Cert.MlaPrepRefIdeal.τ).loc Cert.MlaPrepRefIdeal.main_arg2))
          (m' ((c.tc : Thread Cert.MlaPrepRefIdeal.nD Cert.MlaPrepRefIdeal.τ).loc Cert.MlaPrepRefIdeal.main_arg5))
          (m' ((c.tc : Thread Cert.MlaPrepRefIdeal.nD Cert.MlaPrepRefIdeal.τ).loc Cert.MlaPrepRefIdeal.main_arg6)) := rfl
      rw [a0, a1, a2, a5, a6] at e
      exact e.trans (Cert.MlaPrepIdeal.Value.final7 m c (Cert.MlaPrepIdeal.Value.args _ _ _ _ _ _ _ (hpre c))).symm
    · exact (rfl : _ = Cert.MlaPrepRefIdeal.Entries.REFKV _ _ _).trans (Cert.MlaPrepIdeal.Value.final8 m c).symm
    · obtain ⟨a0, a1, a2, a3, a4, a5, a6⟩ := hagree c
      exact (congrArg₂ (fun u v => Cert.MlaPrepRefIdeal.Entries.REFKR (m ((c.tc : Thread Cert.MlaPrepIdeal.nD Cert.MlaPrepIdeal.τ).loc
        Cert.MlaPrepIdeal.main_arg0)) u v) a5 a6).trans (Cert.MlaPrepIdeal.Value.final9 m c).symm

end Cert.Proof

end
-- ==== Proof.GmlpBlock.lean ====
/- One block of the spatial gating, entry by entry: each of the body's eight stores holds 128 rows of one group's 512
   columns. -/
module

public import proofs.«01_k».proof.Proof.Gen.GmlpIdeal.Frame
public import proofs.«01_k».proof.Proof.Gen.GmlpRefIdeal
public import Idealize.ShloMosaic.Lib.Pipeline.ValueKit
public import Idealize.ShloMosaic.Lib.Claim

@[expose] public section

set_option maxRecDepth 16384

noncomputable section

namespace Cert.GmlpIdeal.Value

open Idealize.ShloMosaic Idealize.ShloMosaic.TcCoe Idealize.SL.Sem
open Idealize.ShloMosaic.Pipeline (Dat)
open Cert.GmlpIdeal Cert.GmlpIdeal.Gen

/-- The unit's activation: the tanh form of the Gaussian error linear unit. -/
abbrev gl (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * (x * x))))))

/-- The mean of a row. -/
abbrev mean (v : Fin 2048 → EReal) : EReal := Ideal.div (∑ l, v l) (Ideal.ofBits FTy.f32 0x45000000#32)

/-- A row less its mean, over its deviation, scaled and shifted. -/
abbrev ln (v g b : Fin 2048 → EReal) (k : Fin 2048) : EReal :=
  (v k - mean v) * Ideal.rsqrt (Ideal.div (∑ l, (v l - mean v) * (v l - mean v)) (Ideal.ofBits FTy.f32 0x45000000#32)
    + Ideal.ofBits FTy.f32 0x358637BD#32) * g k + b k

set_option maxHeartbeats 2000000 in
/-- The normed rows of a block. -/
theorem pay2_at (v : Vec Ideal S256x2048 .bf16) (g b : Vec Ideal S1x2048 .f32) (r : Fin 256) (k : Fin 2048) :
    k0_pay2 (F := Ideal) v g b (ix2 r k) = ln (fun l => gl (v (ix2 r l))) (fun l => g (ix2 0 l)) (fun l => b (ix2 0 l)) k := by
  pointwise [k0_pay2, ln, mean, gl]

/-- A product's entry with its bias, times the activated gate. -/
abbrev pc (VN : FVec Ideal S256x2048 .bf16) (W : FVec Ideal S128x128 .bf16) (b : Vec Ideal S128x1 .f32) (u : Vec Ideal S128x512 .bf16)
    (o p : ℕ) (ho : o + 128 ≤ 256) (hp : p + 512 ≤ 2048) (r : Fin 128) (x : Fin 512) : EReal :=
  gl (u (ix2 r x)) * ((∑ j : Fin 128, (W (ix2 r j) : EReal) * VN (ix2 ⟨o + j.val, by omega⟩ ⟨p + x.val, by omega⟩)) + b (ix2 r 0))

variable (VN : FVec Ideal S256x2048 .bf16) (M N : IVec S128x128 32) (W : Vec Ideal S1x128x128 .f32) (b : Vec Ideal S128x1 .f32)
  (u : Vec Ideal S128x512 .bf16) (r : Fin 128) (x : Fin 512)

/-- The masked weight as the other groups make it. -/
theorem pay13_eq : k0_pay13 (F := Ideal) M N W = k0_pay6 M N W := rfl
/-- The masked weight as the other groups make it. -/
theorem pay17_eq : k0_pay17 (F := Ideal) M N W = k0_pay6 M N W := rfl
/-- The masked weight as the other groups make it. -/
theorem pay26_eq : k0_pay26 (F := Ideal) (k0_pay24 M N) (k0_pay25 W) = k0_pay6 M N W := rfl

/-- Store 1 of the body. -/
theorem st1 : k0_pay8 (F := Ideal) VN M N W b u (ix2 r x) = pc VN (k0_pay6 M N W) b u 0 0 (by decide) (by decide) r x := by
  unfold k0_pay8 k0_pay7
  simp only [pay13_eq, pay17_eq, pay26_eq]
  generalize k0_pay6 M N W = w
  pointwise [pc, gl]

/-- Store 2 of the body. -/
theorem st2 : k0_pay12 (F := Ideal) (k0_pay9 VN M N W b) (k0_pay10 u) (k0_pay11 u) (ix2 r x) = pc VN (k0_pay6 M N W) b u 128 0 (by decide) (by decide) r x := by
  unfold k0_pay12 k0_pay9 k0_pay10 k0_pay11 k0_pay7
  simp only [pay13_eq, pay17_eq, pay26_eq]
  generalize k0_pay6 M N W = w
  pointwise [pc, gl]
  rfl

/-- Store 3 of the body. -/
theorem st3 : k0_pay15 (F := Ideal) VN M N W b u (ix2 r x) = pc VN (k0_pay6 M N W) b u 0 512 (by decide) (by decide) r x := by
  unfold k0_pay15 k0_pay14
  simp only [pay13_eq, pay17_eq, pay26_eq]
  generalize k0_pay6 M N W = w
  pointwise [pc, gl]

/-- Store 4 of the body. -/
theorem st4 : k0_pay16 (F := Ideal) VN (k0_pay13 M N W) (k0_pay14 b) u (ix2 r x) = pc VN (k0_pay6 M N W) b u 128 512 (by decide) (by decide) r x := by
  unfold k0_pay16 k0_pay14
  simp only [pay13_eq, pay17_eq, pay26_eq]
  generalize k0_pay6 M N W = w
  pointwise [pc, gl]

/-- Store 5 of the body. -/
theorem st5 : k0_pay22 (F := Ideal) (k0_pay19 VN M N W b) (k0_pay20 u) (k0_pay21 u) (ix2 r x) = pc VN (k0_pay6 M N W) b u 0 1024 (by decide) (by decide) r x := by
  unfold k0_pay22 k0_pay19 k0_pay20 k0_pay21 k0_pay18
  simp only [pay13_eq, pay17_eq, pay26_eq]
  generalize k0_pay6 M N W = w
  pointwise [pc, gl]
  rfl

/-- Store 6 of the body. -/
theorem st6 : k0_pay23 (F := Ideal) VN (k0_pay17 M N W) (k0_pay18 b) u (ix2 r x) = pc VN (k0_pay6 M N W) b u 128 1024 (by decide) (by decide) r x := by
  unfold k0_pay23 k0_pay18
  simp only [pay13_eq, pay17_eq, pay26_eq]
  generalize k0_pay6 M N W = w
  pointwise [pc, gl]

/-- Store 7 of the body. -/
theorem st7 : k0_pay28 (F := Ideal) VN (k0_pay24 M N) (k0_pay25 W) b u (ix2 r x) = pc VN (k0_pay6 M N W) b u 0 1536 (by decide) (by decide) r x := by
  unfold k0_pay28 k0_pay27
  simp only [pay13_eq, pay17_eq, pay26_eq]
  generalize k0_pay6 M N W = w
  pointwise [pc, gl]

/-- Store 8 of the body. -/
theorem st8 : k0_pay1 (F := Ideal) (k0_pay29 VN (k0_pay24 M N) (k0_pay25 W) b) (k0_pay30 u) (k0_pay31 u) (Scalar.ofBits .f32 0x3F800000#32) (ix2 r x) = pc VN (k0_pay6 M N W) b u 128 1536 (by decide) (by decide) r x := by
  unfold k0_pay1 k0_pay29 k0_pay30 k0_pay31 k0_pay27
  simp only [pay13_eq, pay17_eq, pay26_eq]
  generalize k0_pay6 M N W = w
  pointwise [pc, gl]
  rfl

/-- A position's chunk in its block of 128, as the kernel computes it. -/
theorem chunk_word : ∀ n : Fin 128, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

/-- The chunks of the rows. -/
theorem row_chunk (i k : Fin 128) :
    k0_pay4 (iota .tc S128x128 32 [0] iota_S128x128_d0_w32) 64#32 k0_pay3 (ix2 i k) = BitVec.ofNat 32 (i.val / 64) := by
  pointwise [k0_pay4, k0_pay3]
  exact chunk_word i

/-- The chunks of the columns. -/
theorem col_chunk (i k : Fin 128) : k0_pay5 (ix2 i k) = BitVec.ofNat 32 (k.val / 64) := by
  pointwise [k0_pay5]
  exact chunk_word k

/-- Chunks in a block, compared as words. -/
theorem chunk_ge (i k : Fin 128) :
    IntOp.cmpi CmpIPredicate.sge (BitVec.ofNat 32 (i.val / 64)) (BitVec.ofNat 32 (k.val / 64)) = if k.val / 64 ≤ i.val / 64 then 1#1 else 0#1 := by
  have h : ∀ x y : Fin 2, IntOp.cmpi CmpIPredicate.sge (BitVec.ofNat 32 x.val) (BitVec.ofNat 32 y.val) = if y.val ≤ x.val then 1#1 else 0#1 := by
    decide +kernel
  exact h ⟨i.val / 64, by omega⟩ ⟨k.val / 64, by omega⟩

/-- A weight with the positions of later chunks masked out. -/
abbrev masked (w : EReal) (i k : Fin 128) : EReal := if k.val / 64 ≤ i.val / 64 then w else 0

/-- The masked weight of a group. -/
theorem pay6_at (i k : Fin 128) (hM : ∀ i k : Fin 128, M (ix2 i k) = BitVec.ofNat 32 (i.val / 64)) (hN : ∀ i k : Fin 128, N (ix2 i k) = BitVec.ofNat 32 (k.val / 64)) :
    k0_pay6 (F := Ideal) M N W (ix2 i k) = masked (W (ix3 0 i k)) i k := by
  have h : k0_pay6 (F := Ideal) M N W (ix2 i k) = Scalar.select (IntOp.cmpi CmpIPredicate.sge (M (ix2 i k)) (N (ix2 i k))) (W (ix3 0 i k)) 0 := by
    pointwise [k0_pay6]
  rw [h, hM, hN, chunk_ge, masked]
  split <;> rfl

/-- An entry of the block. -/
abbrev blk (x0 : Vec Ideal S256x2048 .bf16) (VN : FVec Ideal S256x2048 .bf16) (x4 : Vec Ideal S4x128x128 .f32) (x5 : Vec Ideal S128x4 .f32)
    (r : Fin 256) (j : Fin 2048) : EReal :=
  gl (x0 (ix2 r j)) * ((∑ k : Fin 128, masked (x4 (ix3 ⟨j.val / 512, by omega⟩ ⟨r.val % 128, by omega⟩ k)) ⟨r.val % 128, by omega⟩ k
    * VN (ix2 ⟨r.val / 128 * 128 + k.val, by omega⟩ j)) + x5 (ix2 ⟨r.val % 128, by omega⟩ ⟨j.val / 512, by omega⟩))

/-- A store's entries are the block's. -/
theorem piece (x0 : Vec Ideal S256x2048 .bf16) (x4 : Vec Ideal S4x128x128 .f32) (x5 : Vec Ideal S128x4 .f32) (o p a : ℕ)
    (ho : o + 128 ≤ 256) (hp : p + 512 ≤ 2048) (ho' : o % 128 = 0) (hp' : p = 512 * a)
    (inb0 : ∀ i, (![o, p] : Fin 2 → ℕ) i + (![128, 512] : Fin 2 → ℕ) i ≤ S256x2048.size i)
    (inb4 : ∀ i, (![a, 0, 0] : Fin 3 → ℕ) i + (![1, 128, 128] : Fin 3 → ℕ) i ≤ S4x128x128.size i)
    (inb5 : ∀ i, (![0, a] : Fin 2 → ℕ) i + (![128, 1] : Fin 2 → ℕ) i ≤ S128x4.size i)
    (hM : ∀ i k : Fin 128, M (ix2 i k) = BitVec.ofNat 32 (i.val / 64)) (hN : ∀ i k : Fin 128, N (ix2 i k) = BitVec.ofNat 32 (k.val / 64))
    (i : Fin 256) (j : Fin 2048) (hi : i.val = o + r.val) (hj : j.val = p + x.val) :
    pc VN (k0_pay6 M N (View.ld x4 (Rect.unit (s := S4x128x128) ![a, 0, 0] ![1, 128, 128] inb4)))
        (View.ld x5 (Rect.unit (s := S128x4) ![0, a] ![128, 1] inb5)) (View.ld x0 (Rect.unit (s := S256x2048) ![o, p] ![128, 512] inb0)) o p ho hp r x
      = blk x0 VN x4 x5 i j := by
  have e0 : View.ld x0 (Rect.unit (s := S256x2048) ![o, p] ![128, 512] inb0) (ix2 r x) = x0 (ix2 i j) := by
    refine View.ld_unit_apply_of _ _ _ _ _ _ fun a => ?_
    fin_cases a
    · exact hi
    · exact hj
  have er : (⟨i.val % 128, by omega⟩ : Fin 128) = r := Fin.ext (by dsimp only; omega)
  have e5 : View.ld x5 (Rect.unit (s := S128x4) ![0, a] ![128, 1] inb5) (ix2 r 0) = x5 (ix2 r ⟨j.val / 512, by omega⟩) := by
    refine View.ld_unit_apply_of _ _ _ _ _ _ fun a => ?_
    fin_cases a
    · exact (Nat.zero_add _).symm
    · show j.val / 512 = a + 0
      omega
  have e4 : ∀ k : Fin 128, View.ld x4 (Rect.unit (s := S4x128x128) ![a, 0, 0] ![1, 128, 128] inb4) (ix3 0 r k) = x4 (ix3 ⟨j.val / 512, by omega⟩ r k) := by
    intro k
    refine View.ld_unit_apply_of _ _ _ _ _ _ fun a => ?_
    fin_cases a
    · show j.val / 512 = a + 0
      omega
    · exact (Nat.zero_add _).symm
    · exact (Nat.zero_add _).symm
  have ej : (⟨p + x.val, by omega⟩ : Fin 2048) = j := Fin.ext hj.symm
  unfold blk pc
  rw [e0, e5, er]
  refine congrArg (fun s => gl (x0 (ix2 i j)) * (s + x5 (ix2 r ⟨j.val / 512, by omega⟩))) (Finset.sum_congr rfl fun k _ => ?_)
  rw [pay6_at M N _ r k hM hN, e4, ej]
  exact congrArg (fun n => masked (x4 (ix3 ⟨j.val / 512, by omega⟩ r k)) r k * VN (ix2 n j)) (Fin.ext (by dsimp only; omega))

set_option maxHeartbeats 4000000 in
/-- The block after the body's eight stores. -/
theorem out_at (x0 x1 : Vec Ideal S256x2048 .bf16) (x2 x3 : Vec Ideal S1x2048 .f32) (x4 : Vec Ideal S4x128x128 .f32) (x5 : Vec Ideal S128x4 .f32)
    (r : Fin 256) (j : Fin 2048) :
    out0_6 x0 x1 x2 x3 x4 x5 (ix2 r j) = blk x0 (k0_pay2 (View.ld x1 r0_0) (View.ld x2 r0_1) (View.ld x3 r0_1)) x4 x5 r j := by
  canon_tiles x h
  · obtain ⟨s, y, rfl⟩ : ∃ s y, x = ix2 s y := ⟨x 0, x 1, (ix2_eta x).symm⟩
    exact (st8 (k0_pay32 x0 x1 x2 x3 x4 x5) (k0_pay33 x0 x1 x2 x3 x4 x5) (k0_pay34 x0 x1 x2 x3 x4 x5) (View.ld x4 r0_14) (View.ld x5 r0_15) (View.ld x0 r0_17) s y).trans
      (piece _ _ _ s y x0 x4 x5 128 1536 3 _ _ (by decide) (by decide) _ _ _ row_chunk col_chunk r j (h0) (h1))
  · obtain ⟨s, y, rfl⟩ : ∃ s y, x = ix2 s y := ⟨x 0, x 1, (ix2_eta x).symm⟩
    exact (st7 (k0_pay32 x0 x1 x2 x3 x4 x5) (k0_pay33 x0 x1 x2 x3 x4 x5) (k0_pay34 x0 x1 x2 x3 x4 x5) (View.ld x4 r0_14) (View.ld x5 r0_15) (View.ld x0 r0_16) s y).trans
      (piece _ _ _ s y x0 x4 x5 0 1536 3 _ _ (by decide) (by decide) _ _ _ row_chunk col_chunk r j (h0.trans (Nat.zero_add _).symm) (h1))
  · obtain ⟨s, y, rfl⟩ : ∃ s y, x = ix2 s y := ⟨x 0, x 1, (ix2_eta x).symm⟩
    exact (st6 (k0_pay32 x0 x1 x2 x3 x4 x5) (k0_pay33 x0 x1 x2 x3 x4 x5) (k0_pay34 x0 x1 x2 x3 x4 x5) (View.ld x4 r0_10) (View.ld x5 r0_11) (View.ld x0 r0_13) s y).trans
      (piece _ _ _ s y x0 x4 x5 128 1024 2 _ _ (by decide) (by decide) _ _ _ row_chunk col_chunk r j (h0) (h1))
  · obtain ⟨s, y, rfl⟩ : ∃ s y, x = ix2 s y := ⟨x 0, x 1, (ix2_eta x).symm⟩
    exact (st5 (k0_pay32 x0 x1 x2 x3 x4 x5) (k0_pay33 x0 x1 x2 x3 x4 x5) (k0_pay34 x0 x1 x2 x3 x4 x5) (View.ld x4 r0_10) (View.ld x5 r0_11) (View.ld x0 r0_12) s y).trans
      (piece _ _ _ s y x0 x4 x5 0 1024 2 _ _ (by decide) (by decide) _ _ _ row_chunk col_chunk r j (h0.trans (Nat.zero_add _).symm) (h1))
  · obtain ⟨s, y, rfl⟩ : ∃ s y, x = ix2 s y := ⟨x 0, x 1, (ix2_eta x).symm⟩
    exact (st4 (k0_pay32 x0 x1 x2 x3 x4 x5) (k0_pay33 x0 x1 x2 x3 x4 x5) (k0_pay34 x0 x1 x2 x3 x4 x5) (View.ld x4 r0_6) (View.ld x5 r0_7) (View.ld x0 r0_9) s y).trans
      (piece _ _ _ s y x0 x4 x5 128 512 1 _ _ (by decide) (by decide) _ _ _ row_chunk col_chunk r j (h0) (h1))
  · obtain ⟨s, y, rfl⟩ : ∃ s y, x = ix2 s y := ⟨x 0, x 1, (ix2_eta x).symm⟩
    exact (st3 (k0_pay32 x0 x1 x2 x3 x4 x5) (k0_pay33 x0 x1 x2 x3 x4 x5) (k0_pay34 x0 x1 x2 x3 x4 x5) (View.ld x4 r0_6) (View.ld x5 r0_7) (View.ld x0 r0_8) s y).trans
      (piece _ _ _ s y x0 x4 x5 0 512 1 _ _ (by decide) (by decide) _ _ _ row_chunk col_chunk r j (h0.trans (Nat.zero_add _).symm) (h1))
  · obtain ⟨s, y, rfl⟩ : ∃ s y, x = ix2 s y := ⟨x 0, x 1, (ix2_eta x).symm⟩
    exact (st2 (k0_pay32 x0 x1 x2 x3 x4 x5) (k0_pay33 x0 x1 x2 x3 x4 x5) (k0_pay34 x0 x1 x2 x3 x4 x5) (View.ld x4 r0_2) (View.ld x5 r0_3) (View.ld x0 r0_5) s y).trans
      (piece _ _ _ s y x0 x4 x5 128 0 0 _ _ (by decide) (by decide) _ _ _ row_chunk col_chunk r j (h0) (h1.trans (Nat.zero_add _).symm))
  · obtain ⟨s, y, rfl⟩ : ∃ s y, x = ix2 s y := ⟨x 0, x 1, (ix2_eta x).symm⟩
    exact (st1 (k0_pay32 x0 x1 x2 x3 x4 x5) (k0_pay33 x0 x1 x2 x3 x4 x5) (k0_pay34 x0 x1 x2 x3 x4 x5) (View.ld x4 r0_2) (View.ld x5 r0_3) (View.ld x0 r0_4) s y).trans
      (piece _ _ _ s y x0 x4 x5 0 0 0 _ _ (by decide) (by decide) _ _ _ row_chunk col_chunk r j (h0.trans (Nat.zero_add _).symm) (h1.trans (Nat.zero_add _).symm))

end Cert.GmlpIdeal.Value

end
-- ==== Proof.GmlpRef.lean ====
/- The spatial gating's reference, entry by entry. -/
module

public import proofs.«01_k».proof.Proof.Gen.GmlpRefIdeal.Run
public import proofs.«01_k».proof.Proof.GmlpBlock
public import Idealize.ShloMosaic.Lib.Pipeline.ValueKit
public import Idealize.ShloMosaic.Lib.Pipeline.ReadBack
public import Idealize.ShloMosaic.Lib.Claim

@[expose] public section

set_option maxRecDepth 16384

noncomputable section

namespace Cert.GmlpRefIdeal.Value

open Idealize.ShloMosaic Idealize.ShloMosaic.TcCoe Idealize.SL.Sem
open Cert.GmlpRefIdeal Cert.GmlpRefIdeal.Gen
open Cert.GmlpIdeal.Value (gl mean ln masked)

/-- A constant over the rows. -/
abbrev cst (w : BitVec 32) : FVec Ideal S16384x2048 .f32 :=
  broadcastInDim S16384x2048 ![] bcast_S_S16384x2048 (constant (F := Ideal) S_ .f32 w)

/-- The activation of every entry. -/
abbrev gelu (x : FVec Ideal S16384x2048 .f32) : FVec Ideal S16384x2048 .f32 :=
  mulf x (mulf (cst 0x3F000000#32) (addf (cst 0x3F800000#32) (Host.tanh (mulf (cst 0x3F4C422A#32)
    (addf x (mulf (cst 0x3D372713#32) (mulf (mulf x x) x)))))))

/-- The mean of every row, as a column. -/
abbrev mu (v : FVec Ideal S16384x2048 .f32) : FVec Ideal S16384x1 .f32 :=
  Host.divf (broadcastInDim S16384x1 ![0] bcast_S16384_S16384x1_0
      (Host.reduceAdd v (constant (F := Ideal) S_ .f32 0x00000000#32) reducesTo_S16384x2048_S16384_d1 h_S_))
    (broadcastInDim S16384x1 ![] bcast_S_S16384x1 (constant (F := Ideal) S_ .f32 0x45000000#32))

/-- The rows less their means. -/
abbrev cent (v : FVec Ideal S16384x2048 .f32) (c : FVec Ideal S16384x1 .f32) : FVec Ideal S16384x2048 .f32 :=
  subf v (broadcastInDim S16384x2048 ![0, 1] bcast_S16384x1_S16384x2048_0_1 c)

/-- The normed rows, from the centred ones. -/
abbrev scaled (d : FVec Ideal S16384x2048 .f32) (g b : FVec Ideal S2048 .f32) : FVec Ideal S16384x2048 .f32 :=
  addf (mulf (mulf d (broadcastInDim S16384x2048 ![0, 1] bcast_S16384x1_S16384x2048_0_1
      (Host.rsqrt (addf (mu (mulf d d)) (broadcastInDim S16384x1 ![] bcast_S_S16384x1 (constant (F := Ideal) S_ .f32 0x358637BD#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (broadcastInDim S1x2048 ![1] bcast_S2048_S1x2048_1 b))

/-- The chunk of each position of a block: the position over 64, rounded down. -/
abbrev chunk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- The weights with the positions of later chunks masked out, from the chunks. -/
abbrev wm (ch : IVec S128 32) (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2
      (cmpi .sge (broadcastInDim S128x128 ![0, 1] bcast_S128x1_S128x128_0_1 (broadcastInDim S128x1 ![0] bcast_S128_S128x1_0 ch))
        (broadcastInDim S128x128 ![0, 1] bcast_S1x128_S128x128_0_1 (broadcastInDim S1x128 ![1] bcast_S128_S1x128_1 ch)))))
    w (broadcastInDim S4x128x128 ![] bcast_S_S4x128x128 (id (constant (F := Ideal) S_ .f32 0x00000000#32)))

/-- The mixed rows: each group's weights times its block of rows, and the bias. -/
abbrev mixed (v : FVec Ideal S16384x2048 .f32) (w : FVec Ideal S4x128x128 .f32) (b : FVec Ideal S4x128 .f32) : FVec Ideal S16384x2048 .f32 :=
  shapeCast _ (addf
    (transpose S128x128x4x512 [1, 3, 0, 2] (Host.dotGeneral dot_S128x128x4x512_S4x128x128_S4x128x512x128_1_2_03_1_2_0 none
      (shapeCast _ v shapeCasts_S16384x2048_S128x128x4x512) w) transposes_S4x128x512x128_S128x128x4x512_1_3_0_2)
    (broadcastInDim S128x128x4x512 ![0, 1, 2, 3] bcast_S1x128x4x1_S128x128x4x512_0_1_2_3 (broadcastInDim S1x128x4x1 ![1, 2] bcast_S128x4_S1x128x4x1_1_2
      (transpose S128x4 [1, 0] b transposes_S4x128_S128x4_1_0)))) shapeCasts_S128x128x4x512_S16384x2048

/-- The gate's half of the columns. -/
abbrev left (z : FVec Ideal S16384x4096 .bf16) : FVec Ideal S16384x2048 .f32 :=
  extractStridedSlice S16384x2048 ![0, 0] (extf .f32 z bitsLt_bf16_f32) slices_S16384x4096_S16384x2048_0_0

/-- The mixed half of the columns. -/
abbrev right (z : FVec Ideal S16384x4096 .bf16) : FVec Ideal S16384x2048 .f32 :=
  extractStridedSlice S16384x2048 ![0, 2048] (extf .f32 z bitsLt_bf16_f32) slices_S16384x4096_S16384x2048_0_2048

/-- The normed rows. -/
abbrev normed (v : FVec Ideal S16384x2048 .f32) (g b : FVec Ideal S2048 .f32) : FVec Ideal S16384x2048 .f32 :=
  scaled (cent v (mu v)) g b

/-- The reference's result. -/
abbrev REF (z : FVec Ideal S16384x4096 .bf16) (g b : FVec Ideal S2048 .f32) (w : FVec Ideal S4x128x128 .f32) (bs : FVec Ideal S4x128 .f32) :
    FVec Ideal S16384x2048 .bf16 :=
  truncf .bf16 (mulf (gelu (left z)) (mixed (normed (gelu (right z)) g b) (wm chunk w) bs)) bitsLt_bf16_f32

/-- The reference's result, its lines gathered. -/
theorem result (m : (ℓ : Loc nD τ sig) → Buf (Elt Ideal) ℓ) (c : Dev nD) : res_main_v73 m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  with_unfolding_all rfl

/-- An entry of the activation. -/
theorem gelu_at (x : FVec Ideal S16384x2048 .f32) (y : S16384x2048.Idx) : gelu x y = gl (x y) := by
  pointwise [gelu, gl, cst]
  rw [mul_comm (x y * x y) (x y)]

/-- A row's mean. -/
theorem mu_at (v : FVec Ideal S16384x2048 .f32) (n : Fin 16384) : mu v (ix2 n 0) = mean fun l => v (ix2 n l) := by
  pointwise [mu, mean]

/-- An entry of the centred rows. -/
theorem cent_at (v : FVec Ideal S16384x2048 .f32) (c : FVec Ideal S16384x1 .f32) (n : Fin 16384) (k : Fin 2048) :
    cent v c (ix2 n k) = v (ix2 n k) - c (ix2 n 0) := by
  pointwise [cent]

/-- An entry of the scaled rows. -/
theorem scaled_at (d : FVec Ideal S16384x2048 .f32) (g b : FVec Ideal S2048 .f32) (n : Fin 16384) (k : Fin 2048) :
    scaled d g b (ix2 n k) = d (ix2 n k) * Ideal.rsqrt (Ideal.div (∑ l, d (ix2 n l) * d (ix2 n l)) (Ideal.ofBits FTy.f32 0x45000000#32)
      + Ideal.ofBits FTy.f32 0x358637BD#32) * g (ix1 k) + b (ix1 k) := by
  pointwise [scaled, mu]

/-- An entry of the normed rows. -/
theorem normed_at (v : FVec Ideal S16384x2048 .f32) (g b : FVec Ideal S2048 .f32) (n : Fin 16384) (k : Fin 2048) :
    normed v g b (ix2 n k) = ln (fun l => v (ix2 n l)) (fun l => g (ix1 l)) (fun l => b (ix1 l)) k := by
  unfold normed
  rw [scaled_at]
  simp only [cent_at, mu_at]

/-- The operations on words that round a position over 64 down. -/
theorem chunk_word : ∀ n : Fin 128, Scalar.select
      (IntOp.andi
        (IntOp.cmpi CmpIPredicate.ne
          (if BitVec.ofNat 32 n.val = 0 then (0 : BitVec 32) else if (BitVec.ofNat 32 n.val).msb = true then -1 else 1)
          (if 64#32 = 0 then (0 : BitVec 32) else if (64#32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by
  decide +kernel

/-- A position's chunk. -/
theorem chunk_at (n : S128.Idx) : chunk n = BitVec.ofNat 32 ((n 0).val / 64) := by
  pointwise [chunk]
  exact chunk_word (n 0)

/-- An entry of the masked weights. -/
theorem wm_at (w : FVec Ideal S4x128x128 .f32) (a : Fin 4) (i k : Fin 128) : wm chunk w (ix3 a i k) = masked (w (ix3 a i k)) i k := by
  have h : ∀ ch : IVec S128 32, wm ch w (ix3 a i k) = Scalar.select (IntOp.cmpi CmpIPredicate.sge (ch (ix1 i)) (ch (ix1 k))) (w (ix3 a i k)) (0 : EReal) := by
    intro ch
    pointwise [wm]
    show Scalar.select _ _ (constant (F := Ideal) S_ .f32 0x00000000#32 ix0) = _
    pointwise
  rw [h, chunk_at, chunk_at]
  refine (congrArg (fun c => Scalar.select c (w (ix3 a i k)) (0 : EReal)) (Cert.GmlpIdeal.Value.chunk_ge i k)).trans ?_
  unfold masked
  split <;> rfl

/-- An entry of the mixed rows. -/
theorem mixed_at (v : FVec Ideal S16384x2048 .f32) (w : FVec Ideal S4x128x128 .f32) (b : FVec Ideal S4x128 .f32) (n : Fin 16384) (k : Fin 2048) :
    mixed v w b (ix2 n k) = (∑ j : Fin 128, (w (ix3 ⟨k.val / 512, by omega⟩ ⟨n.val % 128, by omega⟩ j) : EReal)
      * v (ix2 ⟨n.val / 128 * 128 + j.val, by omega⟩ k)) + b (ix2 ⟨k.val / 512, by omega⟩ ⟨n.val % 128, by omega⟩) := by
  pointwise [mixed]
  exact congrArg (fun s => s + b (ix2 ⟨k.val / 512, by omega⟩ ⟨n.val % 128, by omega⟩)) (Finset.sum_congr rfl fun _ _ => mul_comm _ _)

/-- The reference's result, entry by entry. -/
theorem REF_at (z : FVec Ideal S16384x4096 .bf16) (g b : FVec Ideal S2048 .f32) (w : FVec Ideal S4x128x128 .f32) (bs : FVec Ideal S4x128 .f32)
    (n : Fin 16384) (k : Fin 2048) :
    REF z g b w bs (ix2 n k) = gl (z (ix2 n ⟨k.val, by omega⟩)) * ((∑ j : Fin 128,
        masked (w (ix3 ⟨k.val / 512, by omega⟩ ⟨n.val % 128, by omega⟩ j)) ⟨n.val % 128, by omega⟩ j
          * ln (fun l => gl (z (ix2 ⟨n.val / 128 * 128 + j.val, by omega⟩ ⟨2048 + l.val, by omega⟩))) (fun l => g (ix1 l)) (fun l => b (ix1 l)) k)
      + bs (ix2 ⟨k.val / 512, by omega⟩ ⟨n.val % 128, by omega⟩)) := by
  have h : ∀ u v : FVec Ideal S16384x2048 .f32, truncf .bf16 (mulf u v) bitsLt_bf16_f32 (ix2 n k) = u (ix2 n k) * v (ix2 n k) := by
    intro u v; pointwise
  have hl : left z (ix2 n k) = z (ix2 n ⟨k.val, by omega⟩) := by pointwise [left]
  have hr : ∀ n l, right z (ix2 n l) = z (ix2 n ⟨2048 + l.val, by omega⟩) := by intro n l; pointwise [right]
  refine (h _ _).trans ?_
  rw [gelu_at, mixed_at, hl]
  simp only [wm_at, normed_at, gelu_at, hr]

end Cert.GmlpRefIdeal.Value

end
-- ==== Proof.GmlpValue.lean ====
/- The spatial gating: a block of 256 rows holds two blocks of positions whole, so the products a block takes are the
   reference's. -/
module

public import proofs.«01_k».proof.Proof.GmlpRef
public import Idealize.ShloMosaic.Lib.Pipeline.ValueKit
public import Idealize.ShloMosaic.Lib.Claim

@[expose] public section

set_option maxRecDepth 16384

noncomputable section

namespace Cert.GmlpIdeal.Value

open Idealize.ShloMosaic Idealize.ShloMosaic.TcCoe Idealize.SL.Sem
open Idealize.ShloMosaic.Pipeline (Dat)
open Cert.GmlpIdeal Cert.GmlpIdeal.Gen
open Cert.GmlpRefIdeal.Value (REF REF_at)

variable (m : (ℓ : Loc nD τ sig) → Buf (Elt Ideal) ℓ)

/-- Where each window's block lies at a grid point: 256 rows of either half of the columns; the rest whole. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The array's row that a block's row is. -/
abbrev row (t : Fin cfg0.N) (r : Fin 256) : Fin 16384 :=
  ⟨t.val * 256 + r.val, by have h : t.val < 64 := t.isLt; omega⟩

/-- The block of the gate. -/
theorem in0 (c : Dev nD) (t : Fin cfg0.N) (r : Fin 256) (l : Fin 2048) :
    iblk m c 0 t (ix2 r l) = m ((c : Thread nD τ).loc main_arg0) (ix2 (row t r) ⟨l.val, by omega⟩) := by
  blk_point [iblk, V, idx t]

/-- The block of the mixed half. -/
theorem in1 (c : Dev nD) (t : Fin cfg0.N) (r : Fin 256) (l : Fin 2048) :
    iblk m c 1 t (ix2 r l) = m ((c : Thread nD τ).loc main_arg0) (ix2 (row t r) ⟨2048 + l.val, by omega⟩) := by
  blk_point [iblk, V, idx t]

/-- The norm's scale. -/
theorem in2 (c : Dev nD) (t : Fin cfg0.N) (l : Fin 2048) :
    iblk m c 2 t (ix2 0 l) = m ((c : Thread nD τ).loc main_arg1) (ix1 l) := by
  blk_point [iblk, V, idx t]

/-- The norm's shift. -/
theorem in3 (c : Dev nD) (t : Fin cfg0.N) (l : Fin 2048) :
    iblk m c 3 t (ix2 0 l) = m ((c : Thread nD τ).loc main_arg2) (ix1 l) := by
  blk_point [iblk, V, idx t]

/-- The groups' weights. -/
theorem in4 (c : Dev nD) (t : Fin cfg0.N) (a : Fin 4) (i k : Fin 128) :
    iblk m c 4 t (ix3 a i k) = m ((c : Thread nD τ).loc main_arg3) (ix3 a i k) := by
  blk_point [iblk, V, idx t]

/-- The groups' biases. -/
theorem in5 (c : Dev nD) (t : Fin cfg0.N) (a : Fin 4) (i : Fin 128) :
    iblk m c 5 t (ix2 i a) = m ((c : Thread nD τ).loc main_arg4) (ix2 a i) := by
  blk_point [iblk, V, idx t]

/-- The block's normed rows, from the loads. -/
theorem vn_at (x1 : Vec Ideal S256x2048 .bf16) (x2 x3 : Vec Ideal S1x2048 .f32) (r : Fin 256) (k : Fin 2048) :
    k0_pay2 (View.ld x1 r0_0) (View.ld x2 r0_1) (View.ld x3 r0_1) (ix2 r k)
      = ln (fun l => gl (x1 (ix2 r l))) (fun l => x2 (ix2 0 l)) (fun l => x3 (ix2 0 l)) k := by
  have e1 : View.ld x1 r0_0 = x1 := by
    funext y
    refine View.ld_unit_apply_of _ _ _ _ _ _ fun a => ?_
    fin_cases a <;> exact (Nat.zero_add _).symm
  have e2 : ∀ v : Vec Ideal S1x2048 .f32, View.ld v r0_1 = v := fun v => by
    funext y
    refine View.ld_unit_apply_of _ _ _ _ _ _ fun a => ?_
    fin_cases a <;> exact (Nat.zero_add _).symm
  rw [e1, e2, e2]
  exact pay2_at x1 x2 x3 r k

/-- The array the run leaves is the reference's. -/
theorem final (c : Dev nD) : (dats m 0 c).arrAt 6 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  have hi := idx t
  obtain ⟨r, j, rfl⟩ : ∃ (r : Fin 256) (j : Fin 2048), y = ix2 r j := ⟨y 0, y 1, by funext i; fin_cases i <;> rfl⟩
  have hE : ((cfg0.win 6).blk t).view.emb (ix2 r j) = (ix2 (row t r) j : S16384x2048.Idx) := by
    blk_ext [hi]
  blk_simp
  rw [after0_6]
  refine Eq.trans ?_ (congrArg (REF _ _ _ _ _) hE.symm)
  refine (out_at _ _ _ _ _ _ r j).trans (Eq.trans ?_ (REF_at _ _ _ _ _ (row t r) j).symm)
  have hr : (⟨(row t r).val % 128, by omega⟩ : Fin 128) = ⟨r.val % 128, by omega⟩ := Fin.ext (by simp only; omega)
  have hq : ∀ k : Fin 128, (⟨(row t r).val / 128 * 128 + k.val, by omega⟩ : Fin 16384) = row t ⟨r.val / 128 * 128 + k.val, by omega⟩ :=
    fun k => Fin.ext (by simp only; omega)
  unfold blk
  simp only [vn_at, in0, in1, in2, in3, in4, in5, hr, hq]

end Cert.GmlpIdeal.Value

end
-- ==== Proof.GmlpClaim.lean ====
/- The two programs of the spatial gating leave the same array. -/
module

public import proofs.«01_k».proof.Defs
public import proofs.«01_k».proof.Proof.Gen.GmlpIdeal.Frame
public import proofs.«01_k».proof.Proof.Gen.GmlpRefIdeal.Run
public import proofs.«01_k».proof.Proof.GmlpValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the spatial gating end with equal results. -/
theorem algebraic_Gmlp : algebraic_GmlpIdeal_GmlpRefIdeal (hGmlpIdeal := Cert.GmlpIdeal.Gen.facts) (hGmlpRefIdeal := Cert.GmlpRefIdeal.Gen.facts) := by
  pair_intro
  · run_from Cert.GmlpIdeal.Gen.run_main m g
  · run_from Cert.GmlpRefIdeal.Value.run m' g'
    obtain ⟨a0, a1, a2, a3, a4⟩ := hagree c
    refine (Cert.GmlpRefIdeal.Value.result m' c).trans ?_
    rw [a0, a1, a2, a3, a4]
    exact (Cert.GmlpIdeal.Value.final m c).symm

end Cert.Proof

end
-- ==== Proof.RetMath.lean ====
/- The retention over extended reals: the keys before a tile gathered into a state, and the tile's own keys beside it. -/
module

public import proofs.«01_k».proof.Proof.AttnMath

@[expose] public section

noncomputable section

namespace Cert.Ret

open Idealize.ShloMosaic

/-- A row of 256 lanes turned by the rotary tables: the first half's lanes and the second half's, paired. -/
def rope (u : Fin 256 → EReal) (c s : Fin 128 → EReal) (d : Fin 256) : EReal :=
  if h : d.val < 128 then u ⟨d.val, by omega⟩ * c ⟨d.val, h⟩ - u ⟨128 + d.val, by omega⟩ * s ⟨d.val, h⟩
  else u ⟨128 + (d.val - 128), by omega⟩ * c ⟨d.val - 128, by omega⟩ + u ⟨d.val - 128, by omega⟩ * s ⟨d.val - 128, by omega⟩

/-- The weight of position `b` at position `a`: it falls with the distance, and is zero where `b`'s chunk is after `a`'s. -/
def dec (lg : EReal) (a b : ℕ) : EReal :=
  if b / 64 ≤ a / 64 then Ideal.exp (((|(a : ℝ) - (b : ℝ)| : ℝ) : EReal) * lg) else 0

/-- A row less its mean, over the root of its mean square distance from it. -/
def gn (o : Fin 256 → EReal) (e : Fin 256) : EReal :=
  (o e - Ideal.div (∑ x, o x) (Ideal.ofBits FTy.f32 0x43800000#32))
    * Ideal.rsqrt (Ideal.div (∑ x, (o x - Ideal.div (∑ x, o x) (Ideal.ofBits FTy.f32 0x43800000#32))
        * (o x - Ideal.div (∑ x, o x) (Ideal.ofBits FTy.f32 0x43800000#32))) (Ideal.ofBits FTy.f32 0x43800000#32)
      + Ideal.ofBits FTy.f32 0x3727C5AC#32)

/-- The state before tile `n`: the keys before it with their values, each weighted by its distance from the last of them. -/
def st (lg : EReal) (k : Fin 4096 → Fin 256 → EReal) (v : Fin 4096 → EReal) (n : ℕ) (d : Fin 256) : EReal :=
  ∑ J : Fin 4096, if J.val < 256 * n then
    (k J d * Ideal.exp ((((256 * n : ℝ) - 1 - (J.val : ℝ) : ℝ) : EReal) * lg)) * v J else 0

/-- A sum without terms after a tile: the terms before the tile, and the tile's. -/
theorem split (n : Fin 16) (F : Fin 4096 → EReal) (h : ∀ J : Fin 4096, 256 * (n.val + 1) ≤ J.val → F J = 0) :
    ∑ J, F J = (∑ J : Fin 4096, if J.val < 256 * n.val then F J else 0) + ∑ j : Fin 256, F ⟨n.val * 256 + j.val, by omega⟩ := by
  have e : ∀ J : Fin 4096, F J = (if J.val < 256 * n.val then F J else 0) + (if J.val / 256 = n.val then F J else 0) := by
    intro J
    by_cases h1 : J.val < 256 * n.val
    · rw [if_pos h1, if_neg (by omega), add_zero]
    · by_cases h2 : J.val / 256 = n.val
      · rw [if_neg h1, if_pos h2, zero_add]
      · rw [if_neg h1, if_neg h2, h J (by omega), add_zero]
  rw [Finset.sum_congr rfl fun J _ => e J, Finset.sum_add_distrib,
    Attn.tile_sum n (fun J => if J.val / 256 = n.val then F J else 0) fun J hJ => if_neg hJ]
  refine congrArg₂ (· + ·) rfl (Finset.sum_congr rfl fun j _ => if_pos ?_)
  dsimp only
  omega

/-- The exponential of a sum of two real numbers times a third. -/
theorem exp_add (a b lg : ℝ) : Ideal.exp (((a + b : ℝ) : EReal) * (lg : EReal))
    = Ideal.exp ((a : EReal) * (lg : EReal)) * Ideal.exp ((b : EReal) * (lg : EReal)) := by
  rw [← EReal.coe_mul, ← EReal.coe_mul, ← EReal.coe_mul]
  change ((Real.exp _ : ℝ) : EReal) = ((Real.exp _ : ℝ) : EReal) * ((Real.exp _ : ℝ) : EReal)
  rw [← EReal.coe_mul, add_mul, Real.exp_add]

/-- Before the first tile the state is zero. -/
theorem st_zero (lg : EReal) (k : Fin 4096 → Fin 256 → EReal) (v : Fin 4096 → EReal) (d : Fin 256) : st lg k v 0 d = 0 := by
  unfold st
  exact Finset.sum_eq_zero fun J _ => if_neg (by omega)

/-- A tile takes the state to the next. -/
theorem st_succ (lg : ℝ) (k : Fin 4096 → Fin 256 → EReal) (v : Fin 4096 → EReal) (n : Fin 16) (d : Fin 256) :
    st lg k v (n.val + 1) d = st lg k v n.val d * Ideal.exp (((256 : ℝ) : EReal) * lg)
      + ∑ j : Fin 256, (k ⟨n.val * 256 + j.val, by omega⟩ d * Ideal.exp ((((255 : ℝ) - (j.val : ℝ) : ℝ) : EReal) * lg))
          * v ⟨n.val * 256 + j.val, by omega⟩ := by
  unfold st
  rw [split n _ fun J hJ => if_neg (by omega)]
  refine congrArg₂ (· + ·) ?_ (Finset.sum_congr rfl fun j _ => ?_)
  · refine Eq.trans ?_ (mul_comm (Ideal.exp (((256 : ℝ) : EReal) * lg)) _)
    have ht : (((256 : ℝ) : EReal) * (lg : EReal)) ≠ ⊤ := by
      rw [← EReal.coe_mul]
      exact EReal.coe_ne_top _
    rw [Attn.mul_sum _ _ (Attn.exp_nonneg _) (Attn.exp_ne_top _ ht)]
    refine Finset.sum_congr rfl fun J _ => ?_
    by_cases h : J.val < 256 * n.val
    · rw [if_pos h, if_pos (by omega), if_pos h]
      have e : ((256 * ((n.val + 1 : ℕ) : ℝ)) - 1 - (J.val : ℝ) : ℝ) = 256 + (256 * (n.val : ℝ) - 1 - (J.val : ℝ)) := by
        push_cast; ring
      rw [e, exp_add, mul_left_comm (k J d), mul_assoc]
    · rw [if_neg h, if_neg h, mul_zero]
  · rw [if_pos (by dsimp only; omega)]
    have e : ((256 * ((n.val + 1 : ℕ) : ℝ)) - 1 - ((n.val * 256 + j.val : ℕ) : ℝ) : ℝ) = 255 - (j.val : ℝ) := by
      push_cast; ring
    dsimp only
    rw [e]

/-- A sum of real numbers, as extended reals. -/
theorem coe_sum {ι : Type*} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

/-- A position of a tile: all the keys weighted, from the tile's own and the state before it. -/
theorem tile (lg : ℝ) (q : Fin 256 → EReal) (k : Fin 4096 → Fin 256 → EReal) (v : Fin 4096 → EReal)
    (hq : ∀ d, q d ≠ ⊤ ∧ q d ≠ ⊥) (hk : ∀ J d, k J d ≠ ⊤ ∧ k J d ≠ ⊥) (hv : ∀ J, v J ≠ ⊤ ∧ v J ≠ ⊥) (n : Fin 16) (i : Fin 256) :
    ∑ J : Fin 4096, ((∑ d, q d * k J d) * dec lg (n.val * 256 + i.val) J.val) * v J
      = (∑ j : Fin 256, ((∑ d, q d * k ⟨n.val * 256 + j.val, by omega⟩ d) * dec lg i.val j.val) * v ⟨n.val * 256 + j.val, by omega⟩)
        + ∑ d, (q d * Ideal.exp ((((i.val : ℝ) + 1 : ℝ) : EReal) * lg)) * st lg k v n.val d := by
  lift q to Fin 256 → ℝ using hq
  lift v to Fin 4096 → ℝ using hv
  obtain ⟨k', rfl⟩ : ∃ k' : Fin 4096 → Fin 256 → ℝ, k = fun J d => ((k' J d : ℝ) : EReal) :=
    ⟨fun J d => (k J d).toReal, funext fun J => funext fun d => (EReal.coe_toReal (hk J d).1 (hk J d).2).symm⟩
  rw [split n _ fun J hJ => by
    unfold dec
    rw [if_neg (by omega), mul_zero, zero_mul], add_comm]
  refine congrArg₂ (· + ·) (Finset.sum_congr rfl fun j _ => ?_) ?_
  · have e : dec lg (n.val * 256 + i.val) (n.val * 256 + j.val) = dec lg i.val j.val := by
      unfold dec
      have h : (((n.val * 256 + i.val : ℕ) : ℝ) - ((n.val * 256 + j.val : ℕ) : ℝ)) = (i.val : ℝ) - (j.val : ℝ) := by push_cast; ring
      rw [h]
      by_cases hc : j.val / 64 ≤ i.val / 64
      · rw [if_pos hc, if_pos (by omega)]
      · rw [if_neg hc, if_neg (by omega)]
    dsimp only
    rw [e]
  · have hs : ∀ d, st lg (fun J d => ((k' J d : ℝ) : EReal)) (fun J => ((v J : ℝ) : EReal)) n.val d
        = ((∑ J : Fin 4096, if J.val < 256 * n.val then k' J d * Real.exp ((256 * (n.val : ℝ) - 1 - (J.val : ℝ)) * lg) * v J else 0 : ℝ) : EReal) := by
      intro d
      unfold st
      rw [coe_sum]
      refine Finset.sum_congr rfl fun J _ => ?_
      by_cases h : J.val < 256 * n.val
      · rw [if_pos h, if_pos h, EReal.coe_mul, EReal.coe_mul]
        rfl
      · rw [if_neg h, if_neg h]; rfl
    have hl : ∀ J : Fin 4096, (if J.val < 256 * n.val then ((∑ d, (q d : EReal) * (k' J d : EReal)) * dec lg (n.val * 256 + i.val) J.val) * (v J : EReal) else 0)
        = ((if J.val < 256 * n.val then ((∑ d, q d * k' J d) * Real.exp (((n.val : ℝ) * 256 + (i.val : ℝ) - (J.val : ℝ)) * lg)) * v J else 0 : ℝ) : EReal) := by
      intro J
      by_cases h : J.val < 256 * n.val
      · rw [if_pos h, if_pos h, EReal.coe_mul, EReal.coe_mul, coe_sum]
        have hd : dec lg (n.val * 256 + i.val) J.val = ((Real.exp (((n.val : ℝ) * 256 + (i.val : ℝ) - (J.val : ℝ)) * lg) : ℝ) : EReal) := by
          unfold dec
          rw [if_pos (by omega)]
          have hx : |((n.val * 256 + i.val : ℕ) : ℝ) - (J.val : ℝ)| = (n.val : ℝ) * 256 + (i.val : ℝ) - (J.val : ℝ) := by
            have hj : (J.val : ℝ) ≤ ((n.val * 256 + i.val : ℕ) : ℝ) := Nat.cast_le.mpr (by omega)
            rw [abs_of_nonneg (sub_nonneg.mpr hj)]
            push_cast; ring
          rw [hx]
          rfl
        rw [hd]
        simp only [EReal.coe_mul]
      · rw [if_neg h, if_neg h]; rfl
    have hr : ∀ d, ((q d : EReal) * Ideal.exp ((((i.val : ℝ) + 1 : ℝ) : EReal) * lg)) = ((q d * Real.exp (((i.val : ℝ) + 1) * lg) : ℝ) : EReal) := by
      intro d
      rw [EReal.coe_mul]
      rfl
    simp only [hs, hl, hr]
    simp only [← EReal.coe_mul]
    rw [← coe_sum, ← coe_sum]
    refine congrArg _ ?_
    simp only [Finset.mul_sum]
    rw [Finset.sum_comm]
    refine Finset.sum_congr rfl fun J _ => ?_
    by_cases h : J.val < 256 * n.val
    · simp only [if_pos h]
      rw [Finset.sum_mul, Finset.sum_mul]
      refine Finset.sum_congr rfl fun d _ => ?_
      have e : Real.exp (((n.val : ℝ) * 256 + (i.val : ℝ) - (J.val : ℝ)) * lg)
          = Real.exp (((i.val : ℝ) + 1) * lg) * Real.exp ((256 * (n.val : ℝ) - 1 - (J.val : ℝ)) * lg) := by
        rw [← Real.exp_add]
        refine congrArg _ ?_
        ring
      rw [e]
      ring
    · simp only [if_neg h, mul_zero, Finset.sum_const_zero]

end Cert.Ret

end
-- ==== Proof.RetStep.lean ====
/- One tile of the retention's kernel, entry by entry. -/
module

public import proofs.«01_k».proof.Proof.Gen.RetIdeal.Frame
public import proofs.«01_k».proof.Proof.RetMath
public import proofs.«01_k».proof.Proof.AttnStep
public import Idealize.ShloMosaic.Lib.Pipeline.ValueKit
public import Idealize.ShloMosaic.Lib.Pipeline.ReadBack
public import Idealize.ShloMosaic.Lib.Claim

@[expose] public section

set_option maxRecDepth 16384

noncomputable section

namespace Cert.RetIdeal.Value

open Idealize.ShloMosaic Idealize.ShloMosaic.TcCoe Idealize.SL.Sem
open Cert.RetIdeal Cert.RetIdeal.Gen

/-- The word of 255. -/
theorem w255 : (Ideal.ofBits FTy.f32 0x437F0000#32 : EReal) = ((255 : ℝ) : EReal) := by
  simp [Ideal.ofBits, Ideal.ieee, -EReal.coe_mul]
  try norm_num

/-- The word of 256. -/
theorem w256 : (Ideal.ofBits FTy.f32 0x43800000#32 : EReal) = ((256 : ℝ) : EReal) := by
  simp [Ideal.ofBits, Ideal.ieee, -EReal.coe_mul]
  try norm_num

/-- A position in its tile, as a number. -/
theorem pos_int : ∀ i : Fin 256, (BitVec.ofNat 32 i.val).toInt = (i.val : ℤ) := by
  decide +kernel

/-- The distance of two positions in their tile, as a number. -/
theorem dist_int (i j : Fin 256) : (IntOp.absi (IntOp.subi (BitVec.ofNat 32 i.val) (BitVec.ofNat 32 j.val))).toInt = |(i.val : ℤ) - (j.val : ℤ)| := by
  have hp : ∀ k : Fin 256, (IntOp.absi (BitVec.ofNat 32 k.val)).toInt = (k.val : ℤ) := by decide +kernel
  have hn : ∀ k : Fin 256, (IntOp.absi (-BitVec.ofNat 32 k.val)).toInt = (k.val : ℤ) := by decide +kernel
  rcases le_total j.val i.val with h | h
  · have e : IntOp.subi (BitVec.ofNat 32 i.val) (BitVec.ofNat 32 j.val) = BitVec.ofNat 32 (i.val - j.val) := by
      refine BitVec.eq_of_toNat_eq ?_
      simp only [IntOp.subi, BitVec.toNat_sub, BitVec.toNat_ofNat]
      omega
    rw [e, hp ⟨i.val - j.val, by omega⟩, abs_of_nonneg (by omega)]
    dsimp only
    omega
  · have e : IntOp.subi (BitVec.ofNat 32 i.val) (BitVec.ofNat 32 j.val) = -BitVec.ofNat 32 (j.val - i.val) := by
      refine BitVec.eq_of_toNat_eq ?_
      simp only [IntOp.subi, BitVec.toNat_sub, BitVec.toNat_neg, BitVec.toNat_ofNat]
      omega
    rw [e, hn ⟨j.val - i.val, by omega⟩, abs_of_nonpos (by omega)]
    dsimp only
    omega

/-- A tile's queries, turned. -/
theorem pay3_at (c s : FVec Ideal S256x128 .f32) (q : FVec Ideal S256x256 .bf16) (i d : Fin 256) :
    k0_pay3 (F := Ideal) c s q (ix2 i d) = Ret.rope (fun d => q (ix2 i d)) (fun d => c (ix2 i d)) (fun d => s (ix2 i d)) d := by
  unfold Ret.rope
  pointwise [k0_pay3]

/-- A tile's keys, turned and scaled. -/
theorem pay4_at (c s : FVec Ideal S256x128 .f32) (q : FVec Ideal S256x256 .bf16) (i d : Fin 256) :
    k0_pay4 (F := Ideal) c s q (ix2 i d) = Ret.rope (fun d => q (ix2 i d)) (fun d => c (ix2 i d)) (fun d => s (ix2 i d)) d
      * Ideal.ofBits FTy.f32 0x3D800000#32 := by
  unfold Ret.rope
  pointwise [k0_pay4]

/-- A position. -/
theorem pay5_at (i : Fin 256) : k0_pay5 (F := Ideal) (ix2 i 0) = ((i.val : ℝ) : EReal) := by
  have h : k0_pay5 (F := Ideal) (ix2 i 0) = ((((BitVec.ofNat 32 i.val).toInt : ℤ) : ℝ) : EReal) := by
    pointwise [k0_pay5]
    rfl
  rw [h, pos_int]
  rfl

/-- The queries, weighted by their distance from before the tile. -/
theorem pay6_at (lg : Ideal .f32) (c s : FVec Ideal S256x128 .f32) (q : FVec Ideal S256x256 .bf16) (i d : Fin 256) :
    k0_pay6 (F := Ideal) lg c s q (ix2 i d) = (k0_pay3 (F := Ideal) c s q (ix2 i d) : EReal)
      * Ideal.exp ((((i.val : ℝ) + 1 : ℝ) : EReal) * lg) := by
  have h5 := pay5_at i
  unfold k0_pay6
  generalize k0_pay5 (F := Ideal) = p at *
  generalize k0_pay3 (F := Ideal) c s q = w at *
  pointwise
  rw [h5]
  rfl

/-- The keys, weighted by their distance from the tile's end. -/
theorem pay7_at (lg : Ideal .f32) (k : FVec Ideal S256x256 .f32) (i d : Fin 256) :
    k0_pay7 (F := Ideal) lg k k0_pay5 (Scalar.ofBits .f32 0x437F0000#32) (ix2 i d) = (k (ix2 i d) : EReal)
      * Ideal.exp ((((255 : ℝ) - (i.val : ℝ) : ℝ) : EReal) * lg) := by
  have h5 := pay5_at i
  generalize k0_pay5 (F := Ideal) = p at *
  pointwise [k0_pay7]
  rw [h5, w255]
  rfl

/-- The column's chunk in its tile. -/
theorem pay8_at (i j : Fin 256) : k0_pay8 (ix2 i j) = BitVec.ofNat 32 (j.val / 64) := by
  pointwise [k0_pay8]
  exact Cert.KernelIdeal.Value.chunk_word j

/-- The tile's weighted values: its own keys', and the state's. -/
theorem pay12_at (lg : Ideal .f32) (q k : FVec Ideal S256x256 .f32) (v : FVec Ideal S256x256 .bf16) (qd S : FVec Ideal S256x256 .f32) (i e : Fin 256) :
    k0_pay12 (F := Ideal) lg q k v qd (iota Kind.tc S256x256 32 [0] iota_S256x256_d0_w32) (iota Kind.tc S256x256 32 [1] iota_S256x256_d1_w32)
        k0_pay8 64#32 k0_pay9 k0_pay10 k0_pay11 S (ix2 i e)
      = (∑ j : Fin 256, ((∑ d : Fin 256, (q (ix2 i d) : EReal) * k (ix2 j d)) * Ret.dec lg i.val j.val) * v (ix2 j e))
        + ∑ d : Fin 256, (qd (ix2 i d) : EReal) * S (ix2 d e) := by
  have h8 := pay8_at
  have hr : ∀ i j : Fin 256, iota Kind.tc S256x256 32 [0] iota_S256x256_d0_w32 (ix2 i j) = BitVec.ofNat 32 i.val := by intro i j; pointwise
  have hc : ∀ i j : Fin 256, iota Kind.tc S256x256 32 [1] iota_S256x256_d1_w32 (ix2 i j) = BitVec.ofNat 32 j.val := by intro i j; pointwise
  unfold k0_pay9 k0_pay10 k0_pay11
  generalize iota Kind.tc S256x256 32 [1] iota_S256x256_d1_w32 = kk at *
  generalize iota Kind.tc S256x256 32 [0] iota_S256x256_d0_w32 = rr at *
  generalize k0_pay8 = ch at *
  dsimp only
  pointwise [k0_pay12]
  simp only [h8, hr, hc, Cert.KernelIdeal.Value.chunk_word, Cert.KernelIdeal.Value.chunk_le]
  unfold Ret.dec
  refine congrArg (· + ∑ d : Fin 256, (qd (ix2 i d) : EReal) * S (ix2 d e)) (Finset.sum_congr rfl fun j _ => ?_)
  have hd : (FloatOps.sitofp (F := Ideal) FTy.f32 (IntOp.absi (IntOp.subi (BitVec.ofNat 32 i.val) (BitVec.ofNat 32 j.val))) : EReal)
      = ((|(i.val : ℝ) - (j.val : ℝ)| : ℝ) : EReal) := by
    change ((((IntOp.absi (IntOp.subi (BitVec.ofNat 32 i.val) (BitVec.ofNat 32 j.val))).toInt : ℤ) : ℝ) : EReal) = _
    rw [dist_int]
    push_cast
    rfl
  rw [hd]
  by_cases h : j.val / 64 ≤ i.val / 64
  · rw [if_pos h, if_pos h]
    rfl
  · rw [if_neg h, if_neg h, mul_zero, zero_mul]
    rfl

/-- The state after the tile. -/
theorem pay13_at (lg : Ideal .f32) (v : FVec Ideal S256x256 .bf16) (kd S : FVec Ideal S256x256 .f32) (d e : Fin 256) :
    k0_pay13 (F := Ideal) lg v kd S (ix2 d e) = (S (ix2 d e) : EReal) * Ideal.exp (((256 : ℝ) : EReal) * lg)
      + ∑ j : Fin 256, (kd (ix2 j d) : EReal) * v (ix2 j e) := by
  pointwise [k0_pay13]
  rw [w256]

/-- The group norm and the gate. -/
theorem pay1_at (o : FVec Ideal S256x256 .f32) (mu : FVec Ideal S256x1 .f32) (g : FVec Ideal S256x256 .bf16) (i e : Fin 256)
    (hmu : mu (ix2 i 0) = Ideal.div (∑ x : Fin 256, o (ix2 i x)) (Ideal.ofBits FTy.f32 0x43800000#32)) :
    k0_pay1 (F := Ideal) o mu g (ix2 i e) = ((g (ix2 i e) : EReal) * Ideal.logistic (g (ix2 i e))) * Ret.gn (fun e => o (ix2 i e)) e := by
  unfold Ret.gn
  pointwise [k0_pay1]
  rw [hmu]

/-- The mean of a row of the tile. -/
theorem pay14_at (lg : Ideal .f32) (q k : FVec Ideal S256x256 .f32) (v : FVec Ideal S256x256 .bf16) (qd S : FVec Ideal S256x256 .f32)
    (a b ch : IVec S256x256 32) (w : BitVec 32) (x y u : IVec S256x256 32) (i : Fin 256) :
    k0_pay14 (F := Ideal) lg q k v qd a b ch w x y u S (ix2 i 0)
      = Ideal.div (∑ e : Fin 256, k0_pay12 (F := Ideal) lg q k v qd a b ch w x y u S (ix2 i e)) (Ideal.ofBits FTy.f32 0x43800000#32) := by
  unfold k0_pay14
  generalize k0_pay12 (F := Ideal) lg q k v qd a b ch w x y u S = o at *
  pointwise

end Cert.RetIdeal.Value

end
-- ==== Proof.RetRef.lean ====
/- The retention's reference, entry by entry. -/
module

public import proofs.«01_k».proof.Proof.Gen.RetRefIdeal.Run
public import proofs.«01_k».proof.Proof.RetMath
public import proofs.«01_k».proof.Proof.AttnRef
public import Idealize.ShloMosaic.Lib.Pipeline.ValueKit
public import Idealize.ShloMosaic.Lib.Pipeline.ReadBack
public import Idealize.ShloMosaic.Lib.Claim

@[expose] public section

set_option maxRecDepth 16384

noncomputable section

namespace Cert.RetRefIdeal.Value

open Idealize.ShloMosaic Idealize.ShloMosaic.TcCoe Idealize.SL.Sem
open Cert.RetRefIdeal Cert.RetRefIdeal.Gen

/-- The input's rows in four parts of eight heads. -/
abbrev parts (z : FVec Ideal S16384x8192 .bf16) : FVec Ideal S16384x4x8x256 .f32 :=
  shapeCast _ (extf .f32 z bitsLt_bf16_f32) shapeCasts_S16384x8192_S16384x4x8x256

/-- The queries' part. -/
abbrev part0 (z : FVec Ideal S16384x8192 .bf16) : FVec Ideal S16384x8x256 .f32 :=
  shapeCast _ (extractStridedSlice S16384x1x8x256 ![0, 0, 0, 0] (parts z) slices_S16384x4x8x256_S16384x1x8x256_0_0_0_0) shapeCasts_S16384x1x8x256_S16384x8x256

/-- The keys' part. -/
abbrev part1 (z : FVec Ideal S16384x8192 .bf16) : FVec Ideal S16384x8x256 .f32 :=
  shapeCast _ (extractStridedSlice S16384x1x8x256 ![0, 1, 0, 0] (parts z) slices_S16384x4x8x256_S16384x1x8x256_0_1_0_0) shapeCasts_S16384x1x8x256_S16384x8x256

/-- The values' part. -/
abbrev part2 (z : FVec Ideal S16384x8192 .bf16) : FVec Ideal S16384x8x256 .f32 :=
  shapeCast _ (extractStridedSlice S16384x1x8x256 ![0, 2, 0, 0] (parts z) slices_S16384x4x8x256_S16384x1x8x256_0_2_0_0) shapeCasts_S16384x1x8x256_S16384x8x256

/-- The gate's part. -/
abbrev part3 (z : FVec Ideal S16384x8192 .bf16) : FVec Ideal S16384x2048 .f32 :=
  shapeCast _ (shapeCast S16384x8x256 (extractStridedSlice S16384x1x8x256 ![0, 3, 0, 0] (parts z) slices_S16384x4x8x256_S16384x1x8x256_0_3_0_0) shapeCasts_S16384x1x8x256_S16384x8x256) shapeCasts_S16384x8x256_S16384x2048

/-- A rotary table, once for every head. -/
abbrev heads (t : FVec Ideal S16384x128 .f32) : FVec Ideal S16384x8x128 .f32 :=
  broadcastInDim S16384x8x128 ![0, 1, 2] bcast_S16384x1x128_S16384x8x128_0_1_2 (broadcastInDim S16384x1x128 ![0, 2] bcast_S16384x128_S16384x1x128_0_2 t)

/-- Rows turned by the rotary tables. -/
abbrev turn (x : FVec Ideal S16384x8x256 .f32) (cos sin : FVec Ideal S16384x128 .f32) : FVec Ideal S16384x8x256 .f32 :=
  concatenate S16384x8x256 2 [⟨S16384x8x128, subf (mulf (extractStridedSlice S16384x8x128 ![0, 0, 0] x slices_S16384x8x256_S16384x8x128_0_0_0) (heads cos)) (mulf (extractStridedSlice S16384x8x128 ![0, 0, 128] x slices_S16384x8x256_S16384x8x128_0_0_128) (heads sin))⟩, ⟨S16384x8x128, addf (mulf (extractStridedSlice S16384x8x128 ![0, 0, 128] x slices_S16384x8x256_S16384x8x128_0_0_128) (heads cos)) (mulf (extractStridedSlice S16384x8x128 ![0, 0, 0] x slices_S16384x8x256_S16384x8x128_0_0_0) (heads sin))⟩] concatenates_S16384x8x128_S16384x8x128_S16384x8x256_d2

/-- The queries. -/
abbrev qs (z : FVec Ideal S16384x8192 .bf16) (cos sin : FVec Ideal S16384x128 .f32) : FVec Ideal S4x4096x8x256 .f32 :=
  shapeCast _ (turn (part0 z) cos sin) shapeCasts_S16384x8x256_S4x4096x8x256

/-- The keys, scaled. -/
abbrev ks (z : FVec Ideal S16384x8192 .bf16) (cos sin : FVec Ideal S16384x128 .f32) : FVec Ideal S4x4096x8x256 .f32 :=
  shapeCast _ (mulf (turn (part1 z) cos sin) (broadcastInDim S16384x8x256 ![] bcast_S_S16384x8x256 (constant S_ .f32 0x3D800000#32))) shapeCasts_S16384x8x256_S4x4096x8x256

/-- The values. -/
abbrev vs (z : FVec Ideal S16384x8192 .bf16) : FVec Ideal S4x4096x8x256 .f32 :=
  shapeCast _ (part2 z) shapeCasts_S16384x8x256_S4x4096x8x256

/-- The logarithms of the heads' decays. -/
abbrev logs : FVec Ideal S8 .f32 :=
  Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0)))))

/-- The chunk of each position: the position over 64, rounded down. -/
abbrev chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which keys a position sees. -/
abbrev sees (ch : IVec S4096 32) : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 ch)) (broadcastInDim S4096x4096 ![0, 1] bcast_S4096x1_S4096x4096_0_1 (broadcastInDim S4096x1 ![0] bcast_S4096_S4096x1_0 ch))))

/-- The decays by distance. -/
abbrev far (lg : FVec Ideal S8 .f32) : FVec Ideal S8x4096x4096 .f32 :=
  Host.exp (mulf (broadcastInDim S8x4096x4096 ![0, 1, 2] bcast_S1x4096x4096_S8x4096x4096_0_1_2 (broadcastInDim S1x4096x4096 ![1, 2] bcast_S4096x4096_S1x4096x4096_1_2 (Host.absf (subf (broadcastInDim S4096x4096 ![0, 1] bcast_S4096x1_S4096x4096_0_1 (broadcastInDim S4096x1 ![0] bcast_S4096_S4096x1_0 (sitofp .f32 (iotaInDim S4096 32 0)))) (broadcastInDim S4096x4096 ![0, 1] bcast_S1x4096_S4096x4096_0_1 (broadcastInDim S1x4096 ![1] bcast_S4096_S1x4096_1 (sitofp .f32 (iotaInDim S4096 32 0)))))))) (broadcastInDim S8x4096x4096 ![0, 1, 2] bcast_S8x1x1_S8x4096x4096_0_1_2 (broadcastInDim S8x1x1 ![0] bcast_S8_S8x1x1_0 lg)))

/-- The decays of the keys a position sees. -/
abbrev weights (ma : IVec S8x4096x4096 1) (fa : FVec Ideal S8x4096x4096 .f32) : FVec Ideal S8x4096x4096 .f32 :=
  select ma fa (broadcastInDim S8x4096x4096 ![] bcast_S_S8x4096x4096 (id (constant S_ .f32 0x00000000#32)))

/-- The weighted values. -/
abbrev retained (q k v : FVec Ideal S4x4096x8x256 .f32) (w : FVec Ideal S8x4096x4096 .f32) : FVec Ideal S4x4096x8x256 .f32 :=
  transpose S4x4096x8x256 [0, 3, 1, 2] (Host.dotGeneral dot_S4x4096x8x256_S4x8x4096x4096_S4x8x256x4096_1_3_3_2_02_01 none v (mulf (Host.dotGeneral dot_S4x4096x8x256_S4x4096x8x256_S4x8x4096x4096_3_3_1_1_02_02 none q k) (broadcastInDim S4x8x4096x4096 ![0, 1, 2, 3] bcast_S1x8x4096x4096_S4x8x4096x4096_0_1_2_3 (broadcastInDim S1x8x4096x4096 ![1, 2, 3] bcast_S8x4096x4096_S1x8x4096x4096_1_2_3 w)))) transposes_S4x8x256x4096_S4x4096x8x256_0_3_1_2

/-- A row's mean, kept as one column. -/
abbrev mean (o : FVec Ideal S4x4096x8x256 .f32) : FVec Ideal S4x4096x8x1 .f32 :=
  Host.divf (broadcastInDim S4x4096x8x1 ![0, 1, 2] bcast_S4x4096x8_S4x4096x8x1_0_1_2 (Host.reduceAdd o (constant S_ .f32 0x00000000#32) reducesTo_S4x4096x8x256_S4x4096x8_d3 h_S_)) (broadcastInDim S4x4096x8x1 ![] bcast_S_S4x4096x8x1 (constant S_ .f32 0x43800000#32))

/-- A column spread over a row. -/
abbrev wide (o : FVec Ideal S4x4096x8x1 .f32) : FVec Ideal S4x4096x8x256 .f32 :=
  broadcastInDim S4x4096x8x256 ![0, 1, 2, 3] bcast_S4x4096x8x1_S4x4096x8x256_0_1_2_3 o

/-- The group norm, from the rows and their means. -/
abbrev normed (o : FVec Ideal S4x4096x8x256 .f32) (mu : FVec Ideal S4x4096x8x1 .f32) : FVec Ideal S4x4096x8x256 .f32 :=
  mulf (subf o (wide mu)) (wide (Host.rsqrt (addf (mean (mulf (subf o (wide mu)) (subf o (wide mu)))) (broadcastInDim S4x4096x8x1 ![] bcast_S_S4x4096x8x1 (constant S_ .f32 0x3727C5AC#32)))))

/-- The gate on the normed rows. -/
abbrev gated (g : FVec Ideal S16384x2048 .f32) (o : FVec Ideal S4x4096x8x256 .f32) : FVec Ideal S16384x2048 .bf16 :=
  truncf .bf16 (mulf (mulf g (Host.divf (broadcastInDim S16384x2048 ![] bcast_S_S16384x2048 (constant S_ .f32 0x3F800000#32)) (addf (broadcastInDim S16384x2048 ![] bcast_S_S16384x2048 (constant S_ .f32 0x3F800000#32)) (Host.exp (Host.negf g))))) (shapeCast _ o shapeCasts_S4x4096x8x256_S16384x2048)) bitsLt_bf16_f32

/-- The weighted values of the arguments. -/
abbrev O (z : FVec Ideal S16384x8192 .bf16) (cos sin : FVec Ideal S16384x128 .f32) : FVec Ideal S4x4096x8x256 .f32 :=
  retained (qs z cos sin) (ks z cos sin) (vs z) (weights (sees chunk) (far logs))

/-- The reference's result. -/
abbrev REF (z : FVec Ideal S16384x8192 .bf16) (cos sin : FVec Ideal S16384x128 .f32) : FVec Ideal S16384x2048 .bf16 :=
  gated (part3 z) (normed (O z cos sin) (mean (O z cos sin)))

/-- The reference's result, its lines gathered. -/
theorem result (m : (ℓ : Loc nD τ sig) → Buf (Elt Ideal) ℓ) (c : Dev nD) : res_main_v104 m c
    = REF (m ((c.tc : Thread nD τ).loc main_arg0)) (m ((c.tc : Thread nD τ).loc main_arg1)) (m ((c.tc : Thread nD τ).loc main_arg2)) := by
  with_unfolding_all rfl

/-- A query's lane. -/
def Q (z : FVec Ideal S16384x8192 .bf16) (cos sin : FVec Ideal S16384x128 .f32) (n : Fin 16384) (h : Fin 8) (d : Fin 256) : EReal :=
  Ret.rope (fun d => z (ix2 n ⟨h.val * 256 + d.val, by omega⟩)) (fun d => cos (ix2 n d)) (fun d => sin (ix2 n d)) d

/-- A key's lane, scaled. -/
def K (z : FVec Ideal S16384x8192 .bf16) (cos sin : FVec Ideal S16384x128 .f32) (n : Fin 16384) (h : Fin 8) (d : Fin 256) : EReal :=
  Ret.rope (fun d => z (ix2 n ⟨2048 + (h.val * 256 + d.val), by omega⟩)) (fun d => cos (ix2 n d)) (fun d => sin (ix2 n d)) d * Ideal.ofBits FTy.f32 0x3D800000#32

/-- A value's lane. -/
def V (z : FVec Ideal S16384x8192 .bf16) (n : Fin 16384) (h : Fin 8) (e : Fin 256) : EReal :=
  z (ix2 n ⟨4096 + (h.val * 256 + e.val), by omega⟩)

/-- The turned rows, entry by entry. -/
theorem turn_at (x : FVec Ideal S16384x8x256 .f32) (cos sin : FVec Ideal S16384x128 .f32) (n : Fin 16384) (h : Fin 8) (d : Fin 256) :
    turn x cos sin (ix3 n h d) = Ret.rope (fun d => x (ix3 n h d)) (fun d => cos (ix2 n d)) (fun d => sin (ix2 n d)) d := by
  unfold Ret.rope
  pointwise [turn]

/-- The queries' part, entry by entry. -/
theorem part0_at (z : FVec Ideal S16384x8192 .bf16) (n : Fin 16384) (h : Fin 8) (d : Fin 256) :
    part0 z (ix3 n h d) = z (ix2 n ⟨h.val * 256 + d.val, by omega⟩) := by
  pointwise [part0]

/-- The keys' part, entry by entry. -/
theorem part1_at (z : FVec Ideal S16384x8192 .bf16) (n : Fin 16384) (h : Fin 8) (d : Fin 256) :
    part1 z (ix3 n h d) = z (ix2 n ⟨2048 + (h.val * 256 + d.val), by omega⟩) := by
  have e : 2048 + h.val * 256 + d.val = 2048 + (h.val * 256 + d.val) := by omega
  pointwise [part1]
  simp only [e]

/-- The queries, entry by entry. -/
theorem qs_at (z : FVec Ideal S16384x8192 .bf16) (cos sin : FVec Ideal S16384x128 .f32) (b : Fin 4) (n : Fin 4096) (h : Fin 8) (d : Fin 256) :
    qs z cos sin (ix4 b n h d) = Q z cos sin ⟨b.val * 4096 + n.val, by omega⟩ h d := by
  have e : ∀ x : FVec Ideal S16384x8x256 .f32, shapeCast S4x4096x8x256 x shapeCasts_S16384x8x256_S4x4096x8x256 (ix4 b n h d)
      = x (ix3 ⟨b.val * 4096 + n.val, by omega⟩ h d) := by
    intro x; pointwise
  refine (e _).trans ((turn_at _ _ _ _ _ _).trans ?_)
  unfold Q
  simp only [part0_at]

/-- The keys, entry by entry. -/
theorem ks_at (z : FVec Ideal S16384x8192 .bf16) (cos sin : FVec Ideal S16384x128 .f32) (b : Fin 4) (n : Fin 4096) (h : Fin 8) (d : Fin 256) :
    ks z cos sin (ix4 b n h d) = K z cos sin ⟨b.val * 4096 + n.val, by omega⟩ h d := by
  have e : ∀ x : FVec Ideal S16384x8x256 .f32, shapeCast S4x4096x8x256 (mulf x (broadcastInDim S16384x8x256 ![] bcast_S_S16384x8x256 (constant S_ .f32 0x3D800000#32))) shapeCasts_S16384x8x256_S4x4096x8x256 (ix4 b n h d)
      = (x (ix3 ⟨b.val * 4096 + n.val, by omega⟩ h d) : EReal) * Ideal.ofBits FTy.f32 0x3D800000#32 := by
    intro x; pointwise
  refine (e _).trans ?_
  unfold K
  rw [turn_at]
  simp only [part1_at]

/-- The values, entry by entry. -/
theorem vs_at (z : FVec Ideal S16384x8192 .bf16) (b : Fin 4) (n : Fin 4096) (h : Fin 8) (d : Fin 256) :
    vs z (ix4 b n h d) = V z ⟨b.val * 4096 + n.val, by omega⟩ h d := by
  have e : 4096 + h.val * 256 + d.val = 4096 + (h.val * 256 + d.val) := by omega
  unfold V
  pointwise [vs, part2]
  simp only [e]

/-- The gate's lane. -/
theorem part3_at (z : FVec Ideal S16384x8192 .bf16) (n : Fin 16384) (j : Fin 2048) :
    part3 z (ix2 n j) = z (ix2 n ⟨6144 + j.val, by omega⟩) := by
  have e : 6144 + j.val / 256 * 256 + j.val % 256 = 6144 + j.val := by omega
  pointwise [part3]
  simp only [e]

/-- The word of two. -/
theorem w2 : (Ideal.ofBits FTy.f32 0x40000000#32 : EReal) = ((2 : ℝ) : EReal) := by
  simp [Ideal.ofBits, Ideal.ieee, -EReal.coe_mul]
  try norm_num

/-- The word of minus five. -/
theorem wm5 : (Ideal.ofBits FTy.f32 0xC0A00000#32 : EReal) = ((-5 : ℝ) : EReal) := by
  simp [Ideal.ofBits, Ideal.ieee, -EReal.coe_mul, -EReal.coe_neg]
  try norm_num

/-- A head's number, from its word. -/
theorem head_int : ∀ h : Fin 8, (BitVec.ofNat 32 h.val).toInt = (h.val : ℤ) := by
  decide +kernel

/-- A position, from its word. -/
theorem pos_int : ∀ n : Fin 4096, (BitVec.ofNat 32 n.val).toInt = (n.val : ℤ) := by
  decide +kernel

/-- A word as a number. -/
theorem sitofp_eq (w : BitVec 32) : (FloatOps.sitofp (F := Ideal) FTy.f32 w : EReal) = ((w.toInt : ℝ) : EReal) := rfl

/-- A head's logarithm is a real number. -/
theorem logs_at (h : Fin 8) : ∃ r : ℝ, logs (ix1 h) = ((r : ℝ) : EReal) := by
  have e : logs (ix1 h) = Ideal.log (1 + -Ideal.pow (Ideal.ofBits FTy.f32 0x40000000#32) (Ideal.ofBits FTy.f32 0xC0A00000#32 - (FloatOps.sitofp (F := Ideal) FTy.f32 (BitVec.ofNat 32 h.val) : EReal))) := by
    pointwise [logs]
    rfl
  rw [e, w2, wm5, sitofp_eq, head_int, ← EReal.coe_sub]
  change ∃ r : ℝ, Ideal.log (((1 : ℝ) : EReal) + -((Real.rpow 2 (-5 - (((h.val : ℤ)) : ℝ)) : ℝ) : EReal)) = ((r : ℝ) : EReal)
  rw [← EReal.coe_neg, ← EReal.coe_add]
  have hp : ¬ (1 + -Real.rpow 2 (-5 - (((h.val : ℤ)) : ℝ)) : ℝ) ≤ 0 := by
    have h0 : (0 : ℝ) ≤ (((h.val : ℤ)) : ℝ) := by positivity
    have hl : Real.rpow 2 (-5 - (((h.val : ℤ)) : ℝ)) < 1 := Real.rpow_lt_one_of_one_lt_of_neg one_lt_two (by linarith)
    linarith
  exact ⟨_, if_neg hp⟩

/-- A weight. -/
theorem weights_at (h : Fin 8) (i j : Fin 4096) :
    weights (sees chunk) (far logs) (ix3 h i j) = Ret.dec (logs (ix1 h)) i.val j.val := by
  have hd : (FloatOps.absf ((FloatOps.sitofp (F := Ideal) FTy.f32 (BitVec.ofNat 32 i.val) : EReal) - (FloatOps.sitofp (F := Ideal) FTy.f32 (BitVec.ofNat 32 j.val) : EReal) : Ideal .f32) : EReal)
      = ((|(i.val : ℝ) - (j.val : ℝ)| : ℝ) : EReal) := by
    rw [sitofp_eq, sitofp_eq, pos_int, pos_int, ← EReal.coe_sub]
    change max (((_ : ℝ) : EReal)) (-((_ : ℝ) : EReal)) = _
    rw [← EReal.coe_neg, abs_eq_max_neg]
    exact (EReal.coe_strictMono.monotone.map_max).symm
  have hf : ∀ lg : FVec Ideal S8 .f32, far lg (ix3 h i j) = Ideal.exp (((|(i.val : ℝ) - (j.val : ℝ)| : ℝ) : EReal) * lg (ix1 h)) := by
    intro lg
    rw [← hd]
    pointwise [far]
  have hs : ∀ ch : IVec S4096 32, sees ch (ix3 h i j) = IntOp.cmpi CmpIPredicate.sle (ch (ix1 j)) (ch (ix1 i)) := by
    intro ch; pointwise [sees]
  have hw : ∀ (ma : IVec S8x4096x4096 1) (fa : FVec Ideal S8x4096x4096 .f32), weights ma fa (ix3 h i j) = Scalar.select (ma (ix3 h i j)) (fa (ix3 h i j)) (0 : EReal) := by
    intro ma fa
    pointwise [weights]
    show Scalar.select _ _ (constant (F := Ideal) S_ .f32 0x00000000#32 ix0) = _
    pointwise
  have hc : ∀ n : Fin 4096, chunk (ix1 n) = BitVec.ofNat 32 (n.val / 64) := fun n => Cert.ReferenceIdeal.Value.chunk_at (ix1 n)
  rw [hw, hf, hs, hc, hc, Cert.ReferenceIdeal.Value.chunk_le j i]
  unfold Ret.dec
  split <;> rfl

/-- The weighted values, entry by entry. -/
theorem retained_at (q k v : FVec Ideal S4x4096x8x256 .f32) (w : FVec Ideal S8x4096x4096 .f32) (b : Fin 4) (n : Fin 4096) (h : Fin 8) (e : Fin 256) :
    retained q k v w (ix4 b n h e) = ∑ J : Fin 4096, (v (ix4 b J h e) : EReal)
      * ((∑ d : Fin 256, (q (ix4 b n h d) : EReal) * k (ix4 b J h d)) * w (ix3 h n J)) := by
  pointwise [retained]

/-- The group norm, entry by entry. -/
theorem normed_at (o : FVec Ideal S4x4096x8x256 .f32) (b : Fin 4) (n : Fin 4096) (h : Fin 8) (e : Fin 256) :
    normed o (mean o) (ix4 b n h e) = Ret.gn (fun e => o (ix4 b n h e)) e := by
  unfold Ret.gn
  pointwise [normed, mean, wide]

/-- The gate, entry by entry. -/
theorem gated_at (g : FVec Ideal S16384x2048 .f32) (o : FVec Ideal S4x4096x8x256 .f32) (b : Fin 4) (n : Fin 4096) (h : Fin 8) (e : Fin 256) :
    gated g o (ix2 ⟨b.val * 4096 + n.val, by omega⟩ ⟨h.val * 256 + e.val, by omega⟩)
      = ((g (ix2 ⟨b.val * 4096 + n.val, by omega⟩ ⟨h.val * 256 + e.val, by omega⟩) : EReal)
          * Ideal.div (Ideal.ofBits FTy.f32 0x3F800000#32) (Ideal.ofBits FTy.f32 0x3F800000#32 + Ideal.exp (-(g (ix2 ⟨b.val * 4096 + n.val, by omega⟩ ⟨h.val * 256 + e.val, by omega⟩) : EReal))))
        * o (ix4 b n h e) := by
  have e0 : (b.val * 4096 + n.val) / 4096 = b.val := by omega
  have e1 : (h.val * 256 + e.val) / 256 = h.val := by omega
  have e2 : (b.val * 4096 + n.val) % 4096 = n.val := by omega
  have e3 : (h.val * 256 + e.val) % 256 = e.val := by omega
  pointwise [gated]

/-- The weighted values of the arguments, entry by entry. -/
theorem O_at (z : FVec Ideal S16384x8192 .bf16) (cos sin : FVec Ideal S16384x128 .f32) (b : Fin 4) (n : Fin 4096) (h : Fin 8) (e : Fin 256) :
    O z cos sin (ix4 b n h e) = ∑ J : Fin 4096, ((∑ d : Fin 256, Q z cos sin ⟨b.val * 4096 + n.val, by omega⟩ h d * K z cos sin ⟨b.val * 4096 + J.val, by omega⟩ h d)
      * Ret.dec (logs (ix1 h)) n.val J.val) * V z ⟨b.val * 4096 + J.val, by omega⟩ h e := by
  refine (retained_at _ _ _ _ b n h e).trans (Finset.sum_congr rfl fun J _ => ?_)
  rw [vs_at, weights_at, mul_comm]
  simp only [qs_at, ks_at]

/-- The reference's result, entry by entry. -/
theorem REF_at (z : FVec Ideal S16384x8192 .bf16) (cos sin : FVec Ideal S16384x128 .f32) (b : Fin 4) (n : Fin 4096) (h : Fin 8) (e : Fin 256) :
    REF z cos sin (ix2 ⟨b.val * 4096 + n.val, by omega⟩ ⟨h.val * 256 + e.val, by omega⟩)
      = ((z (ix2 ⟨b.val * 4096 + n.val, by omega⟩ ⟨6144 + (h.val * 256 + e.val), by omega⟩) : EReal)
          * Ideal.logistic (z (ix2 ⟨b.val * 4096 + n.val, by omega⟩ ⟨6144 + (h.val * 256 + e.val), by omega⟩)))
        * Ret.gn (fun e => O z cos sin (ix4 b n h e)) e := by
  refine (gated_at (part3 z) _ b n h e).trans ?_
  rw [normed_at, part3_at, Ideal.ofBits_one_f32]
  rfl

end Cert.RetRefIdeal.Value

end
-- ==== Proof.RetValue.lean ====
/- The retention: the kernel's state carried over the tiles of a sequence gives the reference's sum over all its keys. -/
module

public import proofs.«01_k».proof.Proof.Gen.RetIdeal.Frame
public import proofs.«01_k».proof.Proof.RetStep
public import proofs.«01_k».proof.Proof.RetRef
public import Idealize.ShloMosaic.Lib.Pipeline.ValueKit
public import Idealize.ShloMosaic.Lib.Pipeline.ReadBack
public import Idealize.ShloMosaic.Lib.Claim

@[expose] public section

set_option maxRecDepth 16384

noncomputable section

namespace Cert.RetIdeal.Value

open Idealize.ShloMosaic Idealize.ShloMosaic.TcCoe Idealize.SL.Sem
open Idealize.ShloMosaic.Pipeline (Dat)
open Cert.RetIdeal Cert.RetIdeal.Gen
open Cert.RetRefIdeal.Value (REF Q K V logs REF_at O_at)

variable (m : (ℓ : Loc nD τ sig) → Buf (Elt Ideal) ℓ)

/-- The sequence of a grid point. -/
abbrev seq (t : Fin cfg0.N) : Fin 4 := ⟨t.val / 128, by have h : t.val < 512 := t.isLt; omega⟩

/-- The head of a grid point. -/
abbrev head (t : Fin cfg0.N) : Fin 8 := ⟨t.val / 16 % 8, by omega⟩

/-- The tile of a grid point. -/
abbrev til (t : Fin cfg0.N) : Fin 16 := ⟨t.val % 16, by omega⟩

/-- The blocks of a grid point. -/
theorem idx : ∀ t : Fin cfg0.N, win0_0.index t = ![0] ∧ win0_1.index t = ![t.val / 128 * 16 + t.val % 16, t.val / 16 % 8]
    ∧ win0_2.index t = ![t.val / 128 * 16 + t.val % 16, 8 + t.val / 16 % 8] ∧ win0_3.index t = ![t.val / 128 * 16 + t.val % 16, 16 + t.val / 16 % 8]
    ∧ win0_4.index t = ![t.val / 128 * 16 + t.val % 16, 24 + t.val / 16 % 8] ∧ win0_5.index t = ![t.val / 128 * 16 + t.val % 16, 0]
    ∧ win0_6.index t = ![t.val / 128 * 16 + t.val % 16, 0] ∧ win0_7.index t = ![t.val / 128 * 16 + t.val % 16, t.val / 16 % 8] :=
  (by decide +kernel : ∀ t : Fin grid0.N, _)

/-- The head's number, as the grid gives it. -/
theorem coord : ∀ t : Fin cfg0.N, k0_off1 (grid0.coords t) 0 = t.val / 16 % 8 :=
  (by decide +kernel : ∀ t : Fin grid0.N, _)

/-- The row of the array a block's row is. -/
abbrev row (t : Fin cfg0.N) (r : Fin 256) : Fin 16384 :=
  ⟨(seq t).val * 4096 + ((til t).val * 256 + r.val), by have h : t.val < 512 := t.isLt; dsimp only; omega⟩

/-- The logarithms of the decays. -/
theorem in0 (c : Dev nD) (t : Fin cfg0.N) (h : Fin 8) : iblk m c 0 t (ix1 h) = logs (ix1 h) := by
  blk_point [iblk, Gen.V, idx t]

/-- The block of the queries. -/
theorem in1 (c : Dev nD) (t : Fin cfg0.N) (r d : Fin 256) :
    iblk m c 1 t (ix2 r d) = m ((c : Thread nD τ).loc main_arg0) (ix2 (row t r) ⟨(head t).val * 256 + d.val, by omega⟩) := by
  blk_point [iblk, Gen.V, idx t]

/-- The block of the keys. -/
theorem in2 (c : Dev nD) (t : Fin cfg0.N) (r d : Fin 256) :
    iblk m c 2 t (ix2 r d) = m ((c : Thread nD τ).loc main_arg0) (ix2 (row t r) ⟨2048 + ((head t).val * 256 + d.val), by omega⟩) := by
  blk_point [iblk, Gen.V, idx t]

/-- The block of the values. -/
theorem in3 (c : Dev nD) (t : Fin cfg0.N) (r d : Fin 256) :
    iblk m c 3 t (ix2 r d) = m ((c : Thread nD τ).loc main_arg0) (ix2 (row t r) ⟨4096 + ((head t).val * 256 + d.val), by omega⟩) := by
  blk_point [iblk, Gen.V, idx t]

/-- The block of the gate. -/
theorem in4 (c : Dev nD) (t : Fin cfg0.N) (r d : Fin 256) :
    iblk m c 4 t (ix2 r d) = m ((c : Thread nD τ).loc main_arg0) (ix2 (row t r) ⟨6144 + ((head t).val * 256 + d.val), by omega⟩) := by
  blk_point [iblk, Gen.V, idx t]

/-- The block of the cosines. -/
theorem in5 (c : Dev nD) (t : Fin cfg0.N) (r : Fin 256) (d : Fin 128) :
    iblk m c 5 t (ix2 r d) = m ((c : Thread nD τ).loc main_arg1) (ix2 (row t r) d) := by
  blk_point [iblk, Gen.V, idx t]

/-- The block of the sines. -/
theorem in6 (c : Dev nD) (t : Fin cfg0.N) (r : Fin 256) (d : Fin 128) :
    iblk m c 6 t (ix2 r d) = m ((c : Thread nD τ).loc main_arg2) (ix2 (row t r) d) := by
  blk_point [iblk, Gen.V, idx t]

/-- The logarithm a grid point reads. -/
abbrev lg (c : Dev nD) (t : Fin cfg0.N) : Ideal .f32 :=
  View.ld (iblk m c 0 t) (Rect.unit (s := S8) (k0_off1 (grid0.coords t)) S1.size (k0_off1_inb (grid0.coords t))) (Shape.Idx.first numel1_S1.ge)

/-- It is the head's. -/
theorem lg_eq (c : Dev nD) (t : Fin cfg0.N) : lg m c t = logs (ix1 (head t)) := by
  refine Eq.trans ?_ (in0 m c t (head t))
  refine View.ld_unit_apply_of _ _ _ _ _ _ fun a => ?_
  fin_cases a
  refine (coord t).symm.trans (Nat.add_zero _).symm |>.trans (congrArg (k0_off1 (grid0.coords t) 0 + ·) ?_)
  exact (Nat.lt_one_iff.mp (Fin.isLt (Shape.Idx.first (s := S1) numel1_S1.ge 0))).symm

/-- The state a grid point leaves, from the state it meets. -/
abbrev next (c : Dev nD) (t : Fin cfg0.N) (P : FVec Ideal S256x256 .f32) : FVec Ideal S256x256 .f32 :=
  k0_pay13 (F := Ideal) (lg m c t) (iblk m c 3 t)
    (k0_pay7 (F := Ideal) (lg m c t) (k0_pay4 (F := Ideal) (iblk m c 5 t) (iblk m c 6 t) (iblk m c 2 t)) k0_pay5 (Scalar.ofBits .f32 0x437F0000#32)) P

/-- The weighted values a grid point has, from the state it meets. -/
abbrev vals (c : Dev nD) (t : Fin cfg0.N) (P : FVec Ideal S256x256 .f32) : FVec Ideal S256x256 .f32 :=
  k0_pay12 (F := Ideal) (lg m c t) (k0_pay3 (F := Ideal) (iblk m c 5 t) (iblk m c 6 t) (iblk m c 1 t))
    (k0_pay4 (F := Ideal) (iblk m c 5 t) (iblk m c 6 t) (iblk m c 2 t)) (iblk m c 3 t)
    (k0_pay6 (F := Ideal) (lg m c t) (iblk m c 5 t) (iblk m c 6 t) (iblk m c 1 t))
    (iota Kind.tc S256x256 32 [0] iota_S256x256_d0_w32) (iota Kind.tc S256x256 32 [1] iota_S256x256_d1_w32) k0_pay8 64#32 k0_pay9 k0_pay10 k0_pay11 P

/-- Their rows' means. -/
abbrev means (c : Dev nD) (t : Fin cfg0.N) (P : FVec Ideal S256x256 .f32) : FVec Ideal S256x1 .f32 :=
  k0_pay14 (F := Ideal) (lg m c t) (k0_pay3 (F := Ideal) (iblk m c 5 t) (iblk m c 6 t) (iblk m c 1 t))
    (k0_pay4 (F := Ideal) (iblk m c 5 t) (iblk m c 6 t) (iblk m c 2 t)) (iblk m c 3 t)
    (k0_pay6 (F := Ideal) (lg m c t) (iblk m c 5 t) (iblk m c 6 t) (iblk m c 1 t))
    (iota Kind.tc S256x256 32 [0] iota_S256x256_d0_w32) (iota Kind.tc S256x256 32 [1] iota_S256x256_d1_w32) k0_pay8 64#32 k0_pay9 k0_pay10 k0_pay11 P

/-- A sequence's first grid point meets the zero state. -/
theorem outA (c : Dev nD) (t : Fin cfg0.N) (h0 : t.val % 16 = 0) :
    (outsAt0 m c t.val t.isLt).1 = k0_pay1 (F := Ideal) (vals m c t k0_pay2) (means m c t k0_pay2) (iblk m c 4 t)
      ∧ (outsAt0 m c t.val t.isLt).2 = next m c t k0_pay2 := by
  rw [outsAt0_A m c t h0]
  constructor
  · frame_out
  · frame_out

/-- Any other meets the state the grid point before it left. -/
theorem outB (c : Dev nD) (t : Fin cfg0.N) (h0 : ¬ t.val % 16 = 0) :
    (outsAt0 m c t.val t.isLt).1 = k0_pay1 (F := Ideal) (vals m c t (outsAt0 m c (t.val - 1) (by omega)).2)
        (means m c t (outsAt0 m c (t.val - 1) (by omega)).2) (iblk m c 4 t)
      ∧ (outsAt0 m c t.val t.isLt).2 = next m c t (outsAt0 m c (t.val - 1) (by omega)).2 := by
  rw [outsAt0_B m c t h0]
  constructor
  · frame_out
    simp only [read_unread_whole]
  · frame_out
    simp only [read_unread_whole]

/-- The keys of a sequence and head. -/
abbrev KK (c : Dev nD) (b : Fin 4) (h : Fin 8) (J : Fin 4096) (d : Fin 256) : EReal :=
  K (m ((c : Thread nD τ).loc main_arg0)) (m ((c : Thread nD τ).loc main_arg1)) (m ((c : Thread nD τ).loc main_arg2))
    ⟨b.val * 4096 + J.val, by omega⟩ h d

/-- The queries of a sequence and head. -/
abbrev QQ (c : Dev nD) (b : Fin 4) (h : Fin 8) (J : Fin 4096) (d : Fin 256) : EReal :=
  Q (m ((c : Thread nD τ).loc main_arg0)) (m ((c : Thread nD τ).loc main_arg1)) (m ((c : Thread nD τ).loc main_arg2))
    ⟨b.val * 4096 + J.val, by omega⟩ h d

/-- A lane of the values of a sequence and head. -/
abbrev VV (c : Dev nD) (b : Fin 4) (h : Fin 8) (e : Fin 256) (J : Fin 4096) : EReal :=
  V (m ((c : Thread nD τ).loc main_arg0)) ⟨b.val * 4096 + J.val, by omega⟩ h e

/-- The arguments give real queries, keys and values. -/
structure Args (z : FVec Ideal Cert.RetRefIdeal.S16384x8192 .bf16) (cos sin : FVec Ideal Cert.RetRefIdeal.S16384x128 .f32) : Prop where
  q : ∀ n h d, Q z cos sin n h d ≠ ⊤ ∧ Q z cos sin n h d ≠ ⊥
  k : ∀ n h d, K z cos sin n h d ≠ ⊤ ∧ K z cos sin n h d ≠ ⊥
  v : ∀ n h e, V z n h e ≠ ⊤ ∧ V z n h e ≠ ⊥

/-- The state gathers the keys before tile `n` of a sequence and head. -/
def Holds (c : Dev nD) (b : Fin 4) (h : Fin 8) (n : ℕ) (P : FVec Ideal S256x256 .f32) : Prop :=
  ∀ d e : Fin 256, P (ix2 d e) = Ret.st (logs (ix1 h)) (KK m c b h) (VV m c b h e) n d

/-- A grid point's keys. -/
theorem key_at (c : Dev nD) (t : Fin cfg0.N) (j d : Fin 256) :
    k0_pay4 (F := Ideal) (iblk m c 5 t) (iblk m c 6 t) (iblk m c 2 t) (ix2 j d)
      = KK m c (seq t) (head t) ⟨(til t).val * 256 + j.val, by have := (til t).isLt; omega⟩ d := by
  refine (pay4_at _ _ _ j d).trans ?_
  simp only [in2, in5, in6]
  rfl

/-- A grid point's queries. -/
theorem query_at (c : Dev nD) (t : Fin cfg0.N) (i d : Fin 256) :
    k0_pay3 (F := Ideal) (iblk m c 5 t) (iblk m c 6 t) (iblk m c 1 t) (ix2 i d)
      = QQ m c (seq t) (head t) ⟨(til t).val * 256 + i.val, by have := (til t).isLt; omega⟩ d := by
  refine (pay3_at _ _ _ i d).trans ?_
  simp only [in1, in5, in6]
  rfl

/-- A grid point's values. -/
theorem value_at (c : Dev nD) (t : Fin cfg0.N) (j e : Fin 256) :
    iblk m c 3 t (ix2 j e) = VV m c (seq t) (head t) e ⟨(til t).val * 256 + j.val, by have := (til t).isLt; omega⟩ := by
  rw [in3]
  rfl

/-- A grid point takes the state to the next tile's. -/
theorem next_holds (c : Dev nD) (t : Fin cfg0.N) (P : FVec Ideal S256x256 .f32) (hP : Holds m c (seq t) (head t) (til t).val P) :
    Holds m c (seq t) (head t) ((til t).val + 1) (next m c t P) := by
  intro d e
  obtain ⟨r, hr⟩ := Cert.RetRefIdeal.Value.logs_at (head t)
  refine (pay13_at _ _ _ _ d e).trans ?_
  rw [hr, Ret.st_succ, hP d e, lg_eq, hr]
  refine congrArg _ (Finset.sum_congr rfl fun j _ => ?_)
  rw [pay7_at, key_at, value_at]

/-- The zero state gathers no keys. -/
theorem zero_holds (c : Dev nD) (b : Fin 4) (h : Fin 8) : Holds m c b h 0 (k0_pay2 (F := Ideal)) := by
  intro d e
  rw [Ret.st_zero]
  exact Ideal.ofBits_zero_f32

/-- The state each grid point leaves. -/
theorem holds (c : Dev nD) : ∀ (n : ℕ) (hn : n < cfg0.N),
    Holds m c (seq ⟨n, hn⟩) (head ⟨n, hn⟩) (n % 16 + 1) (outsAt0 m c n hn).2
  | 0, hn => by
    rw [(outA m c ⟨0, hn⟩ rfl).2]
    exact next_holds m c ⟨0, hn⟩ _ (zero_holds m c _ _)
  | n + 1, hn => by
    by_cases h0 : (n + 1) % 16 = 0
    · rw [(outA m c ⟨n + 1, hn⟩ h0).2]
      refine next_holds m c ⟨n + 1, hn⟩ _ ?_
      have e : (til ⟨n + 1, hn⟩).val = 0 := h0
      rw [e]
      exact zero_holds m c _ _
    · rw [(outB m c ⟨n + 1, hn⟩ h0).2]
      refine next_holds m c ⟨n + 1, hn⟩ _ ?_
      have e1 : seq ⟨n + 1, hn⟩ = seq ⟨n, Nat.lt_of_succ_lt hn⟩ := Fin.ext (by dsimp only; omega)
      have e2 : head ⟨n + 1, hn⟩ = head ⟨n, Nat.lt_of_succ_lt hn⟩ := Fin.ext (by dsimp only; omega)
      have e3 : (til ⟨n + 1, hn⟩).val = n % 16 + 1 := by dsimp only; omega
      rw [e1, e2, e3]
      exact holds c n (Nat.lt_of_succ_lt hn)

/-- The weighted values of a grid point are the reference's. -/
theorem vals_at (c : Dev nD) (t : Fin cfg0.N) (P : FVec Ideal S256x256 .f32) (hP : Holds m c (seq t) (head t) (til t).val P)
    (ha : Args (m ((c : Thread nD τ).loc main_arg0)) (m ((c : Thread nD τ).loc main_arg1)) (m ((c : Thread nD τ).loc main_arg2))) (i e : Fin 256) :
    vals m c t P (ix2 i e) = Cert.RetRefIdeal.Value.O (m ((c : Thread nD τ).loc main_arg0)) (m ((c : Thread nD τ).loc main_arg1))
      (m ((c : Thread nD τ).loc main_arg2)) (ix4 (seq t) ⟨(til t).val * 256 + i.val, by have := (til t).isLt; omega⟩ (head t) e) := by
  obtain ⟨r, hr⟩ := Cert.RetRefIdeal.Value.logs_at (head t)
  refine Eq.trans ?_ (O_at _ _ _ _ _ _ _).symm
  rw [hr]
  refine Eq.trans ?_ (Ret.tile r (QQ m c (seq t) (head t) ⟨(til t).val * 256 + i.val, by have := (til t).isLt; omega⟩) (KK m c (seq t) (head t))
    (VV m c (seq t) (head t) e) (fun d => ha.q _ _ _) (fun J d => ha.k _ _ _) (fun J => ha.v _ _ _) (til t) i).symm
  refine (pay12_at _ _ _ _ _ _ i e).trans ?_
  rw [lg_eq, hr]
  refine congrArg₂ (· + ·) (Finset.sum_congr rfl fun j _ => ?_) (Finset.sum_congr rfl fun d _ => ?_)
  · rw [value_at]
    simp only [query_at, key_at]
  · rw [pay6_at, query_at, hP d e, hr]

/-- What a grid point leaves is the reference's. -/
theorem out_at (c : Dev nD) (t : Fin cfg0.N)
    (ha : Args (m ((c : Thread nD τ).loc main_arg0)) (m ((c : Thread nD τ).loc main_arg1)) (m ((c : Thread nD τ).loc main_arg2))) (r e : Fin 256) :
    (outsAt0 m c t.val t.isLt).1 (ix2 r e) = REF (m ((c : Thread nD τ).loc main_arg0)) (m ((c : Thread nD τ).loc main_arg1))
      (m ((c : Thread nD τ).loc main_arg2)) (ix2 (row t r) ⟨(head t).val * 256 + e.val, by omega⟩) := by
  have hg : ∀ P : FVec Ideal S256x256 .f32, Holds m c (seq t) (head t) (til t).val P →
      k0_pay1 (F := Ideal) (vals m c t P) (means m c t P) (iblk m c 4 t) (ix2 r e)
        = REF (m ((c : Thread nD τ).loc main_arg0)) (m ((c : Thread nD τ).loc main_arg1))
          (m ((c : Thread nD τ).loc main_arg2)) (ix2 (row t r) ⟨(head t).val * 256 + e.val, by omega⟩) := by
    intro P hP
    refine (pay1_at _ _ _ r e (pay14_at _ _ _ _ _ _ _ _ _ _ _ _ _ r)).trans ?_
    refine Eq.trans ?_ (REF_at _ _ _ (seq t) ⟨(til t).val * 256 + r.val, by have := (til t).isLt; omega⟩ (head t) e).symm
    rw [in4]
    refine congrArg _ (congrArg (fun o => Ret.gn o e) (funext fun x => ?_))
    exact vals_at m c t P hP ha r x
  by_cases h0 : t.val % 16 = 0
  · rw [(outA m c t h0).1]
    refine hg _ ?_
    have e' : (til t).val = 0 := h0
    rw [e']
    exact zero_holds m c _ _
  · rw [(outB m c t h0).1]
    refine hg _ ?_
    have hn : t.val - 1 < cfg0.N := by omega
    have e1 : seq t = seq ⟨t.val - 1, hn⟩ := Fin.ext (by dsimp only; omega)
    have e2 : head t = head ⟨t.val - 1, hn⟩ := Fin.ext (by dsimp only; omega)
    have e3 : (til t).val = (t.val - 1) % 16 + 1 := by dsimp only; omega
    rw [e1, e2, e3]
    exact holds m c (t.val - 1) hn

/-- The array the run leaves is the reference's. -/
theorem final (c : Dev nD)
    (ha : Args (m ((c : Thread nD τ).loc main_arg0)) (m ((c : Thread nD τ).loc main_arg1)) (m ((c : Thread nD τ).loc main_arg2))) :
    (dats m 0 c).arrAt 7 (cfgs 0).N
    = REF (m ((c : Thread nD τ).loc main_arg0)) (m ((c : Thread nD τ).loc main_arg1)) (m ((c : Thread nD τ).loc main_arg2)) := by
  refine (dats m 0 c).arrAt_eq_of_covers 7 _ (by decide +kernel) fun t _ y => ?_
  have hi := idx t
  obtain ⟨r, j, rfl⟩ : ∃ (r : Fin 256) (j : Fin 256), y = ix2 r j := ⟨y 0, y 1, by funext i; fin_cases i <;> rfl⟩
  have hE : ((cfg0.win 7).blk t).view.emb (ix2 r j) = (ix2 (row t r) ⟨(head t).val * 256 + j.val, by omega⟩ : S16384x2048.Idx) := by
    blk_ext [hi]
  blk_simp
  rw [after0_7]
  refine Eq.trans ?_ (congrArg (REF _ _ _) hE.symm)
  exact out_at m c t ha r j

end Cert.RetIdeal.Value

end
-- ==== Proof.RetPre.lean ====
/- What the retention's precondition says, entry by entry. -/
module

public import proofs.«01_k».proof.Defs
public import proofs.«01_k».proof.Proof.Gen.Pre_retained_finite
public import proofs.«01_k».proof.Proof.AttnPre
public import proofs.«01_k».proof.Proof.RetValue

@[expose] public section

set_option maxRecDepth 16384

noncomputable section

namespace Cert.Pre_retained_finite

open Idealize.ShloMosaic Idealize.ShloMosaic.TcCoe Idealize.SL.Sem
open Cert.Pre_retained_finite Cert.Pre_retained_finite.Gen

/-- The function's entries: what it says of the queries, keys and values, and of the two rotary tables. -/
theorem fn_at (z : FVec Ideal S16384x8192 .bf16) (cos sin : FVec Ideal S16384x128 .f32) (n : Fin 16384) (j : Fin 6400) :
    Cert.Pre_retained_finite.fn (F := Ideal) z cos sin (ix2 n j) = if h : j.val < 6144 then
      BitVec.ofBool (decide ((FloatOps.absf (z (ix2 n ⟨j.val, by omega⟩)) : Ideal .bf16) < (Ideal.ofBits FTy.f32 2139095040#32 : EReal)))
    else if h : j.val - 6144 < 128 then
      BitVec.ofBool (decide ((FloatOps.absf (cos (ix2 n ⟨j.val - 6144, by omega⟩)) : Ideal .f32) < (Ideal.ofBits FTy.f32 2139095040#32 : EReal)))
    else BitVec.ofBool (decide ((FloatOps.absf (sin (ix2 n ⟨j.val - 6144 - 128, by omega⟩)) : Ideal .f32) < (Ideal.ofBits FTy.f32 2139095040#32 : EReal))) := by
  pointwise [Cert.Pre_retained_finite.fn]
  first | rfl | congr!

/-- A sum of two real numbers is one, and so is their difference. -/
theorem add_finite {a b : EReal} (ha : a ≠ ⊤ ∧ a ≠ ⊥) (hb : b ≠ ⊤ ∧ b ≠ ⊥) : (a + b ≠ ⊤ ∧ a + b ≠ ⊥) ∧ (a - b ≠ ⊤ ∧ a - b ≠ ⊥) := by
  lift a to ℝ using ha
  lift b to ℝ using hb
  rw [← EReal.coe_add, ← EReal.coe_sub]
  exact ⟨⟨EReal.coe_ne_top _, EReal.coe_ne_bot _⟩, ⟨EReal.coe_ne_top _, EReal.coe_ne_bot _⟩⟩

/-- A real row turned by real tables is real. -/
theorem rope_finite {u : Fin 256 → EReal} {c s : Fin 128 → EReal} (hu : ∀ d, u d ≠ ⊤ ∧ u d ≠ ⊥) (hc : ∀ d, c d ≠ ⊤ ∧ c d ≠ ⊥)
    (hs : ∀ d, s d ≠ ⊤ ∧ s d ≠ ⊥) (d : Fin 256) : Ret.rope u c s d ≠ ⊤ ∧ Ret.rope u c s d ≠ ⊥ := by
  unfold Ret.rope
  split
  · exact (add_finite (Attn.mul_finite (hu _) (hc _)) (Attn.mul_finite (hu _) (hs _))).2
  · exact (add_finite (Attn.mul_finite (hu _) (hc _)) (Attn.mul_finite (hu _) (hs _))).1

/-- The keys' scale is a real number. -/
theorem scale_fin : (Ideal.ofBits FTy.f32 0x3D800000#32 : EReal) ≠ ⊤ ∧ (Ideal.ofBits FTy.f32 0x3D800000#32 : EReal) ≠ ⊥ :=
  ⟨EReal.coe_ne_top _, EReal.coe_ne_bot _⟩

/-- Where the function is all ones, the queries, keys and values are real numbers. -/
theorem args (z : FVec Ideal S16384x8192 .bf16) (cos sin : FVec Ideal S16384x128 .f32)
    (h : Cert.Pre_retained_finite.fn (F := Ideal) z cos sin = fun _ => 1#1) : Cert.RetIdeal.Value.Args z cos sin := by
  have hz : ∀ (n : Fin 16384) (j : Fin 8192), j.val < 6144 → (z (ix2 n j) : EReal) ≠ ⊤ ∧ (z (ix2 n j) : EReal) ≠ ⊥ := by
    intro n j hj
    have e := (fn_at z cos sin n ⟨j.val, by omega⟩).symm.trans (congrFun h _)
    rw [dif_pos hj] at e
    exact Cert.Pre_attn_args.fin_of_abs _ e
  have hc : ∀ (n : Fin 16384) (x : Fin 128), (cos (ix2 n x) : EReal) ≠ ⊤ ∧ (cos (ix2 n x) : EReal) ≠ ⊥ := by
    intro n x
    have e := (fn_at z cos sin n ⟨6144 + x.val, by omega⟩).symm.trans (congrFun h _)
    rw [dif_neg (by dsimp only; omega), dif_pos (by dsimp only; omega)] at e
    have e1 : 6144 + x.val - 6144 = x.val := by omega
    simp only [e1] at e
    exact Cert.Pre_attn_args.fin_of_abs _ e
  have hs : ∀ (n : Fin 16384) (x : Fin 128), (sin (ix2 n x) : EReal) ≠ ⊤ ∧ (sin (ix2 n x) : EReal) ≠ ⊥ := by
    intro n x
    have e := (fn_at z cos sin n ⟨6272 + x.val, by omega⟩).symm.trans (congrFun h _)
    rw [dif_neg (by dsimp only; omega), dif_neg (by dsimp only; omega)] at e
    have e1 : 6272 + x.val - 6144 - 128 = x.val := by omega
    simp only [e1] at e
    exact Cert.Pre_attn_args.fin_of_abs _ e
  refine ⟨fun n g d => ?_, fun n g d => ?_, fun n g d => ?_⟩
  · exact rope_finite (fun d => hz n _ (by dsimp only; omega)) (hc n) (hs n) d
  · exact Attn.mul_finite (rope_finite (fun d => hz n _ (by dsimp only; omega)) (hc n) (hs n) d) scale_fin
  · exact hz n _ (by dsimp only; omega)

end Cert.Pre_retained_finite

end
-- ==== Proof.RetClaim.lean ====
/- The two programs of the retention leave the same array. -/
module

public import proofs.«01_k».proof.Defs
public import proofs.«01_k».proof.Proof.Gen.RetIdeal.Frame
public import proofs.«01_k».proof.Proof.Gen.RetRefIdeal.Run
public import proofs.«01_k».proof.Proof.RetPre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the retention end with equal results,
    given real queries, keys, values and tables. -/
theorem algebraic_Ret : algebraic_RetIdeal_RetRefIdeal_pre_retained_finite (hRetIdeal := Cert.RetIdeal.Gen.facts)
    (hRetRefIdeal := Cert.RetRefIdeal.Gen.facts) (hPre_retained_finite := Cert.Pre_retained_finite.Gen.facts) := by
  pair_intro
  · run_from Cert.RetIdeal.Gen.run_main m g
  · run_from Cert.RetRefIdeal.Value.run m' g'
    obtain ⟨a0, a1, a2⟩ := hagree c
    refine (Cert.RetRefIdeal.Value.result m' c).trans ?_
    rw [a0, a1, a2]
    exact (Cert.RetIdeal.Value.final m c (Cert.Pre_retained_finite.args _ _ _ (hpre c))).symm

end Cert.Proof

end
-- ==== Proof.NormValue.lean ====
/- The norm before the mixer: a block of 1024 rows holds whole rows, so the mean square a block takes of its rows is the
   reference's. -/
module

public import proofs.«01_k».proof.Proof.Gen.NormIdeal.Frame
public import proofs.«01_k».proof.Proof.Gen.NormRefIdeal
public import Idealize.ShloMosaic.Lib.Pipeline.ValueKit
public import Idealize.ShloMosaic.Lib.Claim

@[expose] public section

set_option maxRecDepth 16384

noncomputable section

namespace Cert.NormIdeal.Value

open Idealize.ShloMosaic Idealize.ShloMosaic.TcCoe Idealize.SL.Sem
open Idealize.ShloMosaic.Pipeline (Dat)
open Cert.NormIdeal Cert.NormIdeal.Gen

variable (m : (ℓ : Loc nD τ sig) → Buf (Elt Ideal) ℓ)

/-- One over the root mean square of each row of `z`. -/
abbrev inv (z : FVec Ideal Cert.NormRefIdeal.S16384x2048 .f32) : FVec Ideal Cert.NormRefIdeal.S16384x1 .f32 :=
  Host.rsqrt (addf
    (Host.divf
      (broadcastInDim Cert.NormRefIdeal.S16384x1 ![0] Cert.NormRefIdeal.Gen.bcast_S16384_S16384x1_0 (Host.reduceAdd (mulf z z) (constant Cert.NormRefIdeal.S_ .f32 0x00000000#32)
          Cert.NormRefIdeal.Gen.reducesTo_S16384x2048_S16384_d1 Cert.NormRefIdeal.Gen.h_S_))
      (broadcastInDim Cert.NormRefIdeal.S16384x1 ![] Cert.NormRefIdeal.Gen.bcast_S_S16384x1 (constant Cert.NormRefIdeal.S_ .f32 0x45000000#32)))
    (broadcastInDim Cert.NormRefIdeal.S16384x1 ![] Cert.NormRefIdeal.Gen.bcast_S_S16384x1 (constant Cert.NormRefIdeal.S_ .f32 0x358637BD#32)))

/-- The reference's result: the rows over their root mean square, scaled. -/
abbrev REF (x : FVec Ideal Cert.NormRefIdeal.S16384x2048 .f32) (g : FVec Ideal Cert.NormRefIdeal.S2048 .f32) :
    FVec Ideal Cert.NormRefIdeal.S16384x2048 .bf16 :=
  truncf .bf16 (mulf
    (mulf x (broadcastInDim Cert.NormRefIdeal.S16384x2048 ![0, 1] Cert.NormRefIdeal.Gen.bcast_S16384x1_S16384x2048_0_1 (inv x)))
    (broadcastInDim Cert.NormRefIdeal.S16384x2048 ![0, 1] Cert.NormRefIdeal.Gen.bcast_S1x2048_S16384x2048_0_1 (broadcastInDim Cert.NormRefIdeal.S1x2048 ![1] Cert.NormRefIdeal.Gen.bcast_S2048_S1x2048_1 g)))
    Cert.NormRefIdeal.Gen.bitsLt_bf16_f32

/-- Where each window's block lies at a grid point: the rows of the point's own result block; the scale whole. -/
theorem idx : ∀ t : Fin cfg0.N, win0_0.index t = ![win0_2.index t 0, 0] ∧ win0_1.index t = ![0, 0]
    ∧ win0_2.index t 1 = 0 :=
  (by decide +kernel : ∀ t : Fin grid0.N, _)

/-- One element of the block a grid point writes is the reference's element there. -/
theorem point (c : Dev nD) (t : Fin cfg0.N) (y : S1024x2048.Idx) :
    k0_pay1 (iblk m c 0 t) (iblk m c 1 t) y
      = REF (m ((c : Thread nD τ).loc main_arg0)) (m ((c : Thread nD τ).loc main_arg1))
          (((cfg0.win 2).blk t).view.emb y) := by
  pointwise [k0_pay1, REF, inv]
  blk_point [iblk, V, idx t]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Value

end
-- ==== Proof.NormClaim.lean ====
/- The two programs of the norm before the mixer leave the same array. -/
module

public import proofs.«01_k».proof.Defs
public import proofs.«01_k».proof.Proof.Gen.NormIdeal.Frame
public import proofs.«01_k».proof.Proof.Gen.NormRefIdeal
public import proofs.«01_k».proof.Proof.NormValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the norm before the mixer end with equal results. -/
theorem algebraic_Norm : algebraic_NormIdeal_NormRefIdeal (hNormIdeal := Cert.NormIdeal.Gen.facts) (hNormRefIdeal := Cert.NormRefIdeal.Gen.facts) := by
  pair_intro
  · run_from Cert.NormIdeal.Gen.run_main m g
  · hlo_run
    exact (Cert.NormIdeal.Value.final m c).symm

end Cert.Proof

end
-- ==== Proof.TablesValue.lean ====
/- The rotary tables: the kernel takes the cosines and sines of the angles that the lines before it lay out, the reference
   lays out the cosines and sines of the angles. -/
module

public import proofs.«01_k».proof.Proof.Gen.TablesIdeal.Value
public import proofs.«01_k».proof.Proof.Gen.TablesRefIdeal.Run
public import Idealize.ShloMosaic.Lib.Pipeline.ValueKit
public import Idealize.ShloMosaic.Lib.Claim

@[expose] public section

set_option maxRecDepth 16384

noncomputable section

namespace Cert.TablesIdeal.Value

open Idealize.ShloMosaic Idealize.ShloMosaic.TcCoe Idealize.SL.Sem
open Idealize.ShloMosaic.Pipeline (Dat)
open Cert.TablesIdeal Cert.TablesIdeal.Gen

variable (m : (ℓ : Loc nD τ sig) → Buf (Elt Ideal) ℓ)

/-- Positions as a column. -/
abbrev pcol (p : IVec Cert.TablesRefIdeal.S16384 32) : FVec Ideal Cert.TablesRefIdeal.S16384x1 .f32 :=
  broadcastInDim Cert.TablesRefIdeal.S16384x1 ![0] Cert.TablesRefIdeal.Gen.bcast_S16384_S16384x1_0 (sitofp .f32 p)

/-- The attention's 32 inverse wave lengths. -/
abbrev invR : FVec Ideal Cert.TablesRefIdeal.S32 .f32 :=
  Host.powf (broadcastInDim Cert.TablesRefIdeal.S32 ![] Cert.TablesRefIdeal.Gen.bcast_S_S32 (constant Cert.TablesRefIdeal.S_ .f32 0x461C4000#32))
    (Host.divf (Host.negf (addf (broadcastInDim Cert.TablesRefIdeal.S32 ![] Cert.TablesRefIdeal.Gen.bcast_S_S32 (constant Cert.TablesRefIdeal.S_ .f32 0x00000000#32))
      (mulf (broadcastInDim Cert.TablesRefIdeal.S32 ![] Cert.TablesRefIdeal.Gen.bcast_S_S32 (constant Cert.TablesRefIdeal.S_ .f32 0x40000000#32))
        (sitofp .f32 (iotaInDim Cert.TablesRefIdeal.S32 32 0)))))
      (broadcastInDim Cert.TablesRefIdeal.S32 ![] Cert.TablesRefIdeal.Gen.bcast_S_S32 (constant Cert.TablesRefIdeal.S_ .f32 0x42800000#32)))

/-- The retention's 128 inverse wave lengths. -/
abbrev invK : FVec Ideal Cert.TablesRefIdeal.S128 .f32 :=
  Host.powf (broadcastInDim Cert.TablesRefIdeal.S128 ![] Cert.TablesRefIdeal.Gen.bcast_S_S128 (constant Cert.TablesRefIdeal.S_ .f32 0x461C4000#32))
    (Host.divf (Host.negf (addf (broadcastInDim Cert.TablesRefIdeal.S128 ![] Cert.TablesRefIdeal.Gen.bcast_S_S128 (constant Cert.TablesRefIdeal.S_ .f32 0x00000000#32))
      (mulf (broadcastInDim Cert.TablesRefIdeal.S128 ![] Cert.TablesRefIdeal.Gen.bcast_S_S128 (constant Cert.TablesRefIdeal.S_ .f32 0x40000000#32))
        (sitofp .f32 (iotaInDim Cert.TablesRefIdeal.S128 32 0)))))
      (broadcastInDim Cert.TablesRefIdeal.S128 ![] Cert.TablesRefIdeal.Gen.bcast_S_S128 (constant Cert.TablesRefIdeal.S_ .f32 0x43800000#32)))

/-- The attention's angles. -/
abbrev angR (p : IVec Cert.TablesRefIdeal.S16384 32) : FVec Ideal Cert.TablesRefIdeal.S16384x32 .f32 :=
  mulf (broadcastInDim Cert.TablesRefIdeal.S16384x32 ![0, 1] Cert.TablesRefIdeal.Gen.bcast_S16384x1_S16384x32_0_1 (pcol p))
    (broadcastInDim Cert.TablesRefIdeal.S16384x32 ![0, 1] Cert.TablesRefIdeal.Gen.bcast_S1x32_S16384x32_0_1
      (broadcastInDim Cert.TablesRefIdeal.S1x32 ![1] Cert.TablesRefIdeal.Gen.bcast_S32_S1x32_1 invR))

/-- The retention's angles. -/
abbrev angK (p : IVec Cert.TablesRefIdeal.S16384 32) : FVec Ideal Cert.TablesRefIdeal.S16384x128 .f32 :=
  mulf (broadcastInDim Cert.TablesRefIdeal.S16384x128 ![0, 1] Cert.TablesRefIdeal.Gen.bcast_S16384x1_S16384x128_0_1 (pcol p))
    (broadcastInDim Cert.TablesRefIdeal.S16384x128 ![0, 1] Cert.TablesRefIdeal.Gen.bcast_S1x128_S16384x128_0_1
      (broadcastInDim Cert.TablesRefIdeal.S1x128 ![1] Cert.TablesRefIdeal.Gen.bcast_S128_S1x128_1 invK))

/-- A table of 32 columns, laid out twice and padded with zeros. -/
abbrev lay (A : FVec Ideal Cert.TablesRefIdeal.S16384x32 .f32) : FVec Ideal Cert.TablesRefIdeal.S16384x128 .f32 :=
  concatenate Cert.TablesRefIdeal.S16384x128 1 [⟨Cert.TablesRefIdeal.S16384x32, A⟩, ⟨Cert.TablesRefIdeal.S16384x32, A⟩, ⟨Cert.TablesRefIdeal.S16384x64,
    broadcastInDim Cert.TablesRefIdeal.S16384x64 ![] Cert.TablesRefIdeal.Gen.bcast_S_S16384x64 (constant Cert.TablesRefIdeal.S_ .f32 0x00000000#32)⟩]
    Cert.TablesRefIdeal.Gen.concatenates_S16384x32_S16384x32_S16384x64_S16384x128_d1

/-- Three column groups side by side. -/
abbrev cat (A B : FVec Ideal S16384x32 .f32) (Z : FVec Ideal S16384x64 .f32) : FVec Ideal S16384x128 .f32 :=
  concatenate S16384x128 1 [⟨S16384x32, A⟩, ⟨S16384x32, B⟩, ⟨S16384x64, Z⟩] concatenates_S16384x32_S16384x32_S16384x64_S16384x128_d1

/-- `cat` of equal groups. -/
theorem cat_congr {A A' B B' : FVec Ideal S16384x32 .f32} {Z Z' : FVec Ideal S16384x64 .f32} (hA : A = A') (hB : B = B') (hZ : Z = Z') :
    cat A B Z = cat A' B' Z' := by rw [hA, hB, hZ]

/-- What the line that lays out the attention's angles leaves. -/
theorem v27_result (hxs hy) (F : Valuation τ sig (Elt Ideal)) :
    (StableHlo.nary (τ := τ) ![main_v25, main_v25, main_v26] main_v27 (fun u => (concatenate S16384x128 1 [⟨S16384x32, (u 0 : (⟨S16384x32, .f32⟩ : BufTy).Contents (Elt Ideal))⟩, ⟨S16384x32, (u 1 : (⟨S16384x32, .f32⟩ : BufTy).Contents (Elt Ideal))⟩, ⟨S16384x64, (u 2 : (⟨S16384x64, .f32⟩ : BufTy).Contents (Elt Ideal))⟩] concatenates_S16384x32_S16384x32_S16384x64_S16384x128_d1 : (⟨S16384x128, .f32⟩ : BufTy).Contents (Elt Ideal))) hxs hy).result F (Proc.devRef .tc main_v27)
      = cat (F (Proc.devRef .tc main_v25)) (F (Proc.devRef .tc main_v25)) (F (Proc.devRef .tc main_v26)) :=
  StableHlo.nary_result ..

/-- A column made of a vector by reshape is the one made by broadcast. -/
theorem col_eq (q : FVec Ideal S16384 .f32) : (fun i => shapeCast S16384x1 q shapeCasts_S16384_S16384x1 i : FVec Ideal S16384x1 .f32)
    = broadcastInDim Cert.TablesRefIdeal.S16384x1 ![0] Cert.TablesRefIdeal.Gen.bcast_S16384_S16384x1_0 q := by
  funext y
  pointwise

set_option maxHeartbeats 4000000 in
set_option maxRecDepth 100000 in
/-- The attention's angles as the kernel finds them. -/
theorem V_v27 (c : Dev nD) : V m c main_v27 = lay (angR (m ((c : Thread nD τ).loc main_arg0))) := by
  unfold V
  simp only [hostOps0, StableHlo.after_cons, StableHlo.after_nil]
  refine Eq.trans (StableHlo.binary_result_ne (h := by decide) ..) ?_
  refine Eq.trans (StableHlo.unary_result_ne (h := by decide) ..) ?_
  refine Eq.trans (StableHlo.unary_result_ne (h := by decide) ..) ?_
  refine Eq.trans (StableHlo.unary_result_ne (h := by decide) ..) ?_
  refine Eq.trans (v27_result ..) ?_
  refine cat_congr ?_ ?_ ?_ <;> after_results_simp
  all_goals first | rfl | (rw [angR, pcol, ← col_eq]; rfl)

set_option maxHeartbeats 4000000 in
set_option maxRecDepth 100000 in
/-- The retention's angles as the kernel finds them. -/
theorem V_v31 (c : Dev nD) : V m c main_v31 = angK (m ((c : Thread nD τ).loc main_arg0)) := by
  unfold V
  rw [angK, pcol, ← col_eq]
  after_results_simp
  rfl

/-- Where each window's block lies at a grid point: the rows of the point's own result block. -/
theorem idx : ∀ t : Fin cfg0.N, win0_0.index t = ![win0_2.index t 0, 0] ∧ win0_1.index t = ![win0_2.index t 0, 0]
    ∧ win0_2.index t 1 = 0 ∧ win0_3.index t = ![win0_2.index t 0, 0] ∧ win0_4.index t = ![win0_2.index t 0, 0]
    ∧ win0_5.index t = ![win0_2.index t 0, 0] ∧ win0_2.index t 0 < 16 :=
  (by decide +kernel : ∀ t : Fin grid0.N, _)

/-- Row `r` of a grid point's blocks, as a row of the arrays. -/
abbrev row (t : Fin cfg0.N) (r : Fin 1024) : Fin 16384 := ⟨win0_2.index t 0 * 1024 + r.val, by have := idx t; omega⟩

/-- The column test of the kernel. -/
theorem live : ∀ x : Fin 128, IntOp.cmpi CmpIPredicate.slt (BitVec.ofNat 32 x.val) 64#32 = if x.val < 64 then 1#1 else 0#1 := by decide +kernel

/-- The entries of `lay`. -/
theorem lay_at (A : FVec Ideal Cert.TablesRefIdeal.S16384x32 .f32) (n : Fin 16384) (x : Fin 128) :
    lay A (ix2 n x) = if h : x.val < 32 then (A (ix2 n ⟨x.val, h⟩) : EReal)
      else if h : x.val - 32 < 32 then (A (ix2 n ⟨x.val - 32, h⟩) : EReal) else 0 := by
  pointwise [lay]

/-- The attention's cosines of a block: those of the laid-out angles in the first 64 columns are the laid-out cosines. -/
theorem cos_at (a : FVec Ideal Cert.TablesRefIdeal.S16384x32 .f32) (n : Fin 16384) (v : FVec Ideal S1024x128 .f32) (r : Fin 1024) (x : Fin 128)
    (e : v (ix2 r x) = lay a (ix2 n x)) : k0_pay3 v (ix2 r x) = lay (Host.cos a) (ix2 n x) := by
  rw [lay_at] at e ⊢
  have h : k0_pay3 (F := Ideal) v (ix2 r x) = Scalar.select (IntOp.cmpi CmpIPredicate.slt (BitVec.ofNat 32 x.val) 64#32) (Ideal.cos (v (ix2 r x))) 0 := by
    pointwise [k0_pay3, k0_pay2, k0_pay1]
  rw [h, e, live]
  by_cases h1 : x.val < 32
  · rw [dif_pos h1, dif_pos h1, if_pos (by omega)]; rfl
  · rw [dif_neg h1, dif_neg h1]
    by_cases h2 : x.val - 32 < 32
    · rw [dif_pos h2, dif_pos h2, if_pos (by omega)]; rfl
    · rw [dif_neg h2, dif_neg h2, if_neg (by omega)]; rfl

/-- The attention's sines of a block, the same way. -/
theorem sin_at (a : FVec Ideal Cert.TablesRefIdeal.S16384x32 .f32) (n : Fin 16384) (v : FVec Ideal S1024x128 .f32) (r : Fin 1024) (x : Fin 128)
    (e : v (ix2 r x) = lay a (ix2 n x)) : k0_pay4 v (ix2 r x) = lay (Host.sin a) (ix2 n x) := by
  rw [lay_at] at e ⊢
  have h : k0_pay4 (F := Ideal) v (ix2 r x) = Scalar.select (IntOp.cmpi CmpIPredicate.slt (BitVec.ofNat 32 x.val) 64#32) (Ideal.sin (v (ix2 r x))) 0 := by
    pointwise [k0_pay4, k0_pay2, k0_pay1]
  rw [h, e, live]
  by_cases h1 : x.val < 32
  · rw [dif_pos h1, dif_pos h1, if_pos (by omega)]; rfl
  · rw [dif_neg h1, dif_neg h1]
    by_cases h2 : x.val - 32 < 32
    · rw [dif_pos h2, dif_pos h2, if_pos (by omega)]; rfl
    · rw [dif_neg h2, dif_neg h2, if_neg (by omega)]; rfl

/-- The block of the attention's angles. -/
theorem in0 (c : Dev nD) (t : Fin cfg0.N) (r : Fin 1024) (x : Fin 128) :
    iblk m c 0 t (ix2 r x) = lay (angR (m ((c : Thread nD τ).loc main_arg0))) (ix2 (row t r) x) := by
  rw [← V_v27]
  blk_point [iblk, idx t]

/-- The block of the retention's angles. -/
theorem in1 (c : Dev nD) (t : Fin cfg0.N) (r : Fin 1024) (x : Fin 128) :
    iblk m c 1 t (ix2 r x) = angK (m ((c : Thread nD τ).loc main_arg0)) (ix2 (row t r) x) := by
  rw [← V_v31]
  blk_point [iblk, idx t]

/-- The attention's cosines the run leaves are the reference's. -/
theorem final2 (c : Dev nD) : (dats m 0 c).arrAt 2 (cfgs 0).N = lay (Host.cos (angR (m ((c : Thread nD τ).loc main_arg0)))) := by
  refine (dats m 0 c).arrAt_eq_of_covers 2 _ (by decide +kernel) fun t _ y => ?_
  have hi := idx t
  obtain ⟨r, x, rfl⟩ : ∃ (r : Fin 1024) (x : Fin 128), y = ix2 r x := ⟨y 0, y 1, by funext i; fin_cases i <;> rfl⟩
  have hE : ((cfg0.win 2).blk t).view.emb (ix2 r x) = (ix2 (row t r) x : S16384x128.Idx) := by
    blk_ext [hi]
  blk_simp
  rw [after0_2]
  frame_out
  refine Eq.trans ?_ (congrArg (lay (Host.cos (angR (m ((c : Thread nD τ).loc main_arg0))))) hE.symm)
  exact cos_at _ _ _ r x (in0 m c t r x)

/-- The attention's sines the run leaves are the reference's. -/
theorem final3 (c : Dev nD) : (dats m 0 c).arrAt 3 (cfgs 0).N = lay (Host.sin (angR (m ((c : Thread nD τ).loc main_arg0)))) := by
  refine (dats m 0 c).arrAt_eq_of_covers 3 _ (by decide +kernel) fun t _ y => ?_
  have hi := idx t
  obtain ⟨r, x, rfl⟩ : ∃ (r : Fin 1024) (x : Fin 128), y = ix2 r x := ⟨y 0, y 1, by funext i; fin_cases i <;> rfl⟩
  have hE : ((cfg0.win 3).blk t).view.emb (ix2 r x) = (ix2 (row t r) x : S16384x128.Idx) := by
    blk_ext [hi]
  blk_simp
  rw [after0_3]
  frame_out
  refine Eq.trans ?_ (congrArg (lay (Host.sin (angR (m ((c : Thread nD τ).loc main_arg0))))) hE.symm)
  exact sin_at _ _ _ r x (in0 m c t r x)

/-- The retention's cosines the run leaves are the reference's. -/
theorem final4 (c : Dev nD) : (dats m 0 c).arrAt 4 (cfgs 0).N = (Host.cos (angK (m ((c : Thread nD τ).loc main_arg0)))) := by
  refine (dats m 0 c).arrAt_eq_of_covers 4 _ (by decide +kernel) fun t _ y => ?_
  have hi := idx t
  obtain ⟨r, x, rfl⟩ : ∃ (r : Fin 1024) (x : Fin 128), y = ix2 r x := ⟨y 0, y 1, by funext i; fin_cases i <;> rfl⟩
  have hE : ((cfg0.win 4).blk t).view.emb (ix2 r x) = (ix2 (row t r) x : S16384x128.Idx) := by
    blk_ext [hi]
  blk_simp
  rw [after0_4]
  frame_out
  refine Eq.trans ?_ (congrArg ((Host.cos (angK (m ((c : Thread nD τ).loc main_arg0))))) hE.symm)
  have e := in1 m c t r x
  generalize angK (m ((c : Thread nD τ).loc main_arg0)) = a at *
  generalize iblk m c 1 t = v at *
  have h : k0_pay6 v (ix2 r x) = Ideal.cos (v (ix2 r x)) := by pointwise [k0_pay6, k0_pay5]
  exact h.trans (congrArg Ideal.cos e)

/-- The retention's sines the run leaves are the reference's. -/
theorem final5 (c : Dev nD) : (dats m 0 c).arrAt 5 (cfgs 0).N = (Host.sin (angK (m ((c : Thread nD τ).loc main_arg0)))) := by
  refine (dats m 0 c).arrAt_eq_of_covers 5 _ (by decide +kernel) fun t _ y => ?_
  have hi := idx t
  obtain ⟨r, x, rfl⟩ : ∃ (r : Fin 1024) (x : Fin 128), y = ix2 r x := ⟨y 0, y 1, by funext i; fin_cases i <;> rfl⟩
  have hE : ((cfg0.win 5).blk t).view.emb (ix2 r x) = (ix2 (row t r) x : S16384x128.Idx) := by
    blk_ext [hi]
  blk_simp
  rw [after0_5]
  frame_out
  refine Eq.trans ?_ (congrArg ((Host.sin (angK (m ((c : Thread nD τ).loc main_arg0))))) hE.symm)
  have e := in1 m c t r x
  generalize angK (m ((c : Thread nD τ).loc main_arg0)) = a at *
  generalize iblk m c 1 t = v at *
  have h : k0_pay7 v (ix2 r x) = Ideal.sin (v (ix2 r x)) := by pointwise [k0_pay7, k0_pay5]
  exact h.trans (congrArg Ideal.sin e)

end Cert.TablesIdeal.Value

end
-- ==== Proof.TablesClaim.lean ====
/- The two programs of the rotary tables leave the same four tables. -/
module

public import proofs.«01_k».proof.Defs
public import proofs.«01_k».proof.Proof.Gen.TablesIdeal.Value
public import proofs.«01_k».proof.Proof.Gen.TablesRefIdeal.Run
public import proofs.«01_k».proof.Proof.TablesValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the rotary tables end with equal results. -/
theorem algebraic_Tables : algebraic_TablesIdeal_TablesRefIdeal (hTablesIdeal := Cert.TablesIdeal.Gen.facts) (hTablesRefIdeal := Cert.TablesRefIdeal.Gen.facts) := by
  pair_intro
  · run_from Cert.TablesIdeal.Value.run_blocks m g
  · run_from Cert.TablesRefIdeal.Value.run m' g'
    · exact ((rfl : _ = Cert.TablesIdeal.Value.lay (Host.cos (Cert.TablesIdeal.Value.angR (m' ((c.tc : Thread Cert.TablesRefIdeal.nD Cert.TablesRefIdeal.τ).loc Cert.TablesRefIdeal.main_arg0)))))).trans
        ((congrArg (fun p => Cert.TablesIdeal.Value.lay (Host.cos (Cert.TablesIdeal.Value.angR p))) (hagree c)).trans (Cert.TablesIdeal.Value.final2 m c).symm)
    · exact ((rfl : _ = Cert.TablesIdeal.Value.lay (Host.sin (Cert.TablesIdeal.Value.angR (m' ((c.tc : Thread Cert.TablesRefIdeal.nD Cert.TablesRefIdeal.τ).loc Cert.TablesRefIdeal.main_arg0)))))).trans
        ((congrArg (fun p => Cert.TablesIdeal.Value.lay (Host.sin (Cert.TablesIdeal.Value.angR p))) (hagree c)).trans (Cert.TablesIdeal.Value.final3 m c).symm)
    · exact (Cert.TablesIdeal.Value.final4 m c).symm
    · exact (Cert.TablesIdeal.Value.final5 m c).symm

end Cert.Proof

end
-- ==== Proof.MergeValue.lean ====
/- The gated merge of the three branches: a block's three products and gates are, element by element, the reference's,
   whose gate for branch `n` and column `j` is column `2048 n + j` of the one gate product. -/
module

public import proofs.«01_k».proof.Proof.Gen.MergeIdeal.Frame
public import proofs.«01_k».proof.Proof.Gen.MergeRefIdeal
public import Idealize.ShloMosaic.Lib.Pipeline.ValueKit
public import Idealize.ShloMosaic.Lib.Claim

@[expose] public section

set_option maxRecDepth 16384

noncomputable section

namespace Cert.MergeIdeal.Value

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- A branch's rows. -/
abbrev A := FVec Ideal Cert.MergeRefIdeal.S16384x2048 .bf16

/-- All gates of a row: the logistic of the row's gate product plus the gate bias, as one over one plus the exponential
    of its negative. -/
abbrev gates (h : A) (w : FVec Ideal Cert.MergeRefIdeal.S2048x6144 .f32) (b : FVec Ideal Cert.MergeRefIdeal.S6144 .f32) :
    FVec Ideal Cert.MergeRefIdeal.S16384x3x2048 .f32 :=
  shapeCast _ (Host.divf
    (broadcastInDim Cert.MergeRefIdeal.S16384x6144 ![] Cert.MergeRefIdeal.Gen.bcast_S_S16384x6144 (constant Cert.MergeRefIdeal.S_ .f32 0x3F800000#32))
    (addf
      (broadcastInDim Cert.MergeRefIdeal.S16384x6144 ![] Cert.MergeRefIdeal.Gen.bcast_S_S16384x6144 (constant Cert.MergeRefIdeal.S_ .f32 0x3F800000#32))
      (Host.exp (Host.negf (addf
        (Host.dotGeneral Cert.MergeRefIdeal.dot_S16384x2048_S2048x6144_S16384x6144_1_0_0_1_n_n none
          (extf .f32 h Cert.MergeRefIdeal.Gen.bitsLt_bf16_f32) w)
        (broadcastInDim Cert.MergeRefIdeal.S16384x6144 ![0, 1] Cert.MergeRefIdeal.Gen.bcast_S1x6144_S16384x6144_0_1 (broadcastInDim Cert.MergeRefIdeal.S1x6144 ![1] Cert.MergeRefIdeal.Gen.bcast_S6144_S1x6144_1 b)))))))
    Cert.MergeRefIdeal.Gen.shapeCasts_S16384x6144_S16384x3x2048

/-- A branch's rows times its weight. -/
abbrev branch (y : A) (w : FVec Ideal Cert.MergeRefIdeal.S1x2048x2048 .f32) :
    FVec Ideal Cert.MergeRefIdeal.S16384x2048 .f32 :=
  Host.dotGeneral Cert.MergeRefIdeal.dot_S16384x2048_S2048x2048_S16384x2048_1_0_0_1_n_n none
    (extf .f32 y Cert.MergeRefIdeal.Gen.bitsLt_bf16_f32)
    (shapeCast _ w Cert.MergeRefIdeal.Gen.shapeCasts_S1x2048x2048_S2048x2048)

/-- One branch's gates out of all of them. -/
abbrev gate (g : FVec Ideal Cert.MergeRefIdeal.S16384x1x2048 .f32) : FVec Ideal Cert.MergeRefIdeal.S16384x2048 .f32 :=
  shapeCast _ g Cert.MergeRefIdeal.Gen.shapeCasts_S16384x1x2048_S16384x2048

/-- The reference's result: the three branches, each times its gate, added. -/
abbrev REF (h ya yb yc : A) (w : FVec Ideal Cert.MergeRefIdeal.S2048x6144 .f32)
    (b : FVec Ideal Cert.MergeRefIdeal.S6144 .f32) (v : FVec Ideal Cert.MergeRefIdeal.S3x2048x2048 .f32) : A :=
  truncf .bf16 (addf (addf
    (mulf (gate (extractStridedSlice Cert.MergeRefIdeal.S16384x1x2048 ![0, 0, 0] (gates h w b)
        Cert.MergeRefIdeal.Gen.slices_S16384x3x2048_S16384x1x2048_0_0_0))
      (branch ya (extractStridedSlice Cert.MergeRefIdeal.S1x2048x2048 ![0, 0, 0] v
        Cert.MergeRefIdeal.Gen.slices_S3x2048x2048_S1x2048x2048_0_0_0)))
    (mulf (gate (extractStridedSlice Cert.MergeRefIdeal.S16384x1x2048 ![0, 1, 0] (gates h w b)
        Cert.MergeRefIdeal.Gen.slices_S16384x3x2048_S16384x1x2048_0_1_0))
      (branch yb (extractStridedSlice Cert.MergeRefIdeal.S1x2048x2048 ![1, 0, 0] v
        Cert.MergeRefIdeal.Gen.slices_S3x2048x2048_S1x2048x2048_1_0_0))))
    (mulf (gate (extractStridedSlice Cert.MergeRefIdeal.S16384x1x2048 ![0, 2, 0] (gates h w b)
        Cert.MergeRefIdeal.Gen.slices_S16384x3x2048_S16384x1x2048_0_2_0))
      (branch yc (extractStridedSlice Cert.MergeRefIdeal.S1x2048x2048 ![2, 0, 0] v
        Cert.MergeRefIdeal.Gen.slices_S3x2048x2048_S1x2048x2048_2_0_0)))) Cert.MergeRefIdeal.Gen.bitsLt_bf16_f32

/-- Where each window's block lies at a grid point: the rows of the point's own result block; of the gate's weight and
    bias the branch's group of 8 column blocks; of the branch weights the branch's matrix. -/
theorem idx : ∀ t : Fin cfg0.N, (win0_0.index t = ![win0_13.index t 0, 0] ∧ win0_1.index t = ![win0_13.index t 0, 0]
    ∧ win0_2.index t = ![win0_13.index t 0, 0] ∧ win0_3.index t = ![win0_13.index t 0, 0])
    ∧ (win0_4.index t = ![0, win0_13.index t 1] ∧ win0_5.index t = ![0, win0_13.index t 1 + 8]
    ∧ win0_6.index t = ![0, win0_13.index t 1 + 16])
    ∧ (win0_7.index t = ![0, win0_13.index t 1] ∧ win0_8.index t = ![0, win0_13.index t 1 + 8]
    ∧ win0_9.index t = ![0, win0_13.index t 1 + 16])
    ∧ win0_10.index t = ![0, 0, win0_13.index t 1] ∧ win0_11.index t = ![1, 0, win0_13.index t 1]
    ∧ win0_12.index t = ![2, 0, win0_13.index t 1] :=
  (by decide +kernel : ∀ t : Fin grid0.N, _)

/-- The logistic function, as the reference writes it. -/
theorem div_exp_neg (x : EReal) : Ideal.div 1 (1 + Ideal.exp (-x)) = Ideal.logistic x := rfl

set_option maxHeartbeats 800000 in
/-- The array the run leaves is the reference's. -/
theorem final (c : Dev nD) : (dats m 0 c).arrAt 13 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 13 _ (by decide +kernel) fun t _ y => ?_
  blk_simp
  rw [after0_13]
  frame_out
  pointwise [k0_pay1, k0_pay2, k0_pay3, REF, gates, gate, branch]
  simp only [div_exp_neg]
  blk_point [iblk, V, idx t]

end Cert.MergeIdeal.Value

end
-- ==== Proof.MergeClaim.lean ====
/- The two programs of the merge of the branches leave the same array. -/
module

public import proofs.«01_k».proof.Defs
public import proofs.«01_k».proof.Proof.Gen.MergeIdeal.Frame
public import proofs.«01_k».proof.Proof.Gen.MergeRefIdeal
public import proofs.«01_k».proof.Proof.MergeValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the merge of the branches end with equal results. -/
theorem algebraic_Merge : algebraic_MergeIdeal_MergeRefIdeal (hMergeIdeal := Cert.MergeIdeal.Gen.facts) (hMergeRefIdeal := Cert.MergeRefIdeal.Gen.facts) := by
  pair_intro
  · run_from Cert.MergeIdeal.Gen.run_main m g
  · hlo_run
    exact (Cert.MergeIdeal.Value.final m c).symm

end Cert.Proof

end
-- ==== Proof.OutProjValue.lean ====
/- The output projection with its norm and residual: a block of 512 rows holds whole rows, so the mean square a block
   takes of its rows is the reference's. -/
module

public import proofs.«01_k».proof.Proof.Gen.OutProjIdeal.Frame
public import proofs.«01_k».proof.Proof.Gen.OutProjRefIdeal
public import Idealize.ShloMosaic.Lib.Pipeline.ValueKit
public import Idealize.ShloMosaic.Lib.Claim

@[expose] public section

set_option maxRecDepth 16384

noncomputable section

namespace Cert.OutProjIdeal.Value

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The projected rows. -/
abbrev mm (y : FVec Ideal Cert.OutProjRefIdeal.S16384x2048 .bf16) (w : FVec Ideal Cert.OutProjRefIdeal.S2048x2048 .f32) :
    FVec Ideal Cert.OutProjRefIdeal.S16384x2048 .f32 :=
  Host.dotGeneral Cert.OutProjRefIdeal.dot_S16384x2048_S2048x2048_S16384x2048_1_0_0_1_n_n none
    (extf .f32 y Cert.OutProjRefIdeal.Gen.bitsLt_bf16_f32) w

/-- One over the root mean square of each row of `z`. -/
abbrev inv (z : FVec Ideal Cert.OutProjRefIdeal.S16384x2048 .f32) : FVec Ideal Cert.OutProjRefIdeal.S16384x1 .f32 :=
  Host.rsqrt (addf
    (Host.divf
      (broadcastInDim Cert.OutProjRefIdeal.S16384x1 ![0] Cert.OutProjRefIdeal.Gen.bcast_S16384_S16384x1_0 (Host.reduceAdd (mulf z z) (constant Cert.OutProjRefIdeal.S_ .f32 0x00000000#32)
          Cert.OutProjRefIdeal.Gen.reducesTo_S16384x2048_S16384_d1 Cert.OutProjRefIdeal.Gen.h_S_))
      (broadcastInDim Cert.OutProjRefIdeal.S16384x1 ![] Cert.OutProjRefIdeal.Gen.bcast_S_S16384x1 (constant Cert.OutProjRefIdeal.S_ .f32 0x45000000#32)))
    (broadcastInDim Cert.OutProjRefIdeal.S16384x1 ![] Cert.OutProjRefIdeal.Gen.bcast_S_S16384x1 (constant Cert.OutProjRefIdeal.S_ .f32 0x358637BD#32)))

/-- The reference's result: the residual plus the normed projection. -/
abbrev REF (y : FVec Ideal Cert.OutProjRefIdeal.S16384x2048 .bf16) (w : FVec Ideal Cert.OutProjRefIdeal.S2048x2048 .f32)
    (g : FVec Ideal Cert.OutProjRefIdeal.S2048 .f32) (x : FVec Ideal Cert.OutProjRefIdeal.S16384x2048 .f32) :
    FVec Ideal Cert.OutProjRefIdeal.S16384x2048 .f32 :=
  addf x (mulf
    (mulf (mm y w) (broadcastInDim Cert.OutProjRefIdeal.S16384x2048 ![0, 1] Cert.OutProjRefIdeal.Gen.bcast_S16384x1_S16384x2048_0_1 (inv (mm y w))))
    (broadcastInDim Cert.OutProjRefIdeal.S16384x2048 ![0, 1] Cert.OutProjRefIdeal.Gen.bcast_S1x2048_S16384x2048_0_1 (broadcastInDim Cert.OutProjRefIdeal.S1x2048 ![1] Cert.OutProjRefIdeal.Gen.bcast_S2048_S1x2048_1 g)))

/-- Where each window's block lies at a grid point: the rows of the point's own result block; the weight and the scale
    whole. -/
theorem idx : ∀ t : Fin cfg0.N, win0_0.index t = ![win0_4.index t 0, 0] ∧ win0_1.index t = ![0, 0]
    ∧ win0_2.index t = ![0, 0] ∧ win0_3.index t = ![win0_4.index t 0, 0] ∧ win0_4.index t 1 = 0 :=
  (by decide +kernel : ∀ t : Fin grid0.N, _)

/-- One element of the block a grid point writes is the reference's element there. -/
theorem point (c : Dev nD) (t : Fin cfg0.N) (y : S512x2048.Idx) :
    k0_pay1 (iblk m c 0 t) (iblk m c 1 t) (iblk m c 3 t) (iblk m c 2 t) y
      = REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, REF, mm, inv]
  blk_point [iblk, V, idx t]

/-- The array the run leaves is the reference's. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.OutProjIdeal.Value

end
-- ==== Proof.OutProjClaim.lean ====
/- The two programs of the output projection leave the same array. -/
module

public import proofs.«01_k».proof.Defs
public import proofs.«01_k».proof.Proof.Gen.OutProjIdeal.Frame
public import proofs.«01_k».proof.Proof.Gen.OutProjRefIdeal
public import proofs.«01_k».proof.Proof.OutProjValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the output projection end with equal results. -/
theorem algebraic_OutProj : algebraic_OutProjIdeal_OutProjRefIdeal (hOutProjIdeal := Cert.OutProjIdeal.Gen.facts) (hOutProjRefIdeal := Cert.OutProjRefIdeal.Gen.facts) := by
  pair_intro
  · run_from Cert.OutProjIdeal.Gen.run_main m g
  · hlo_run
    exact (Cert.OutProjIdeal.Value.final m c).symm

end Cert.Proof

end
-- ==== Proof.AttnClaim.lean ====
/- The two programs of the attention leave the same array. -/
module

public import proofs.«01_k».proof.Defs
public import proofs.«01_k».proof.Proof.Gen.KernelIdeal.Value
public import proofs.«01_k».proof.Proof.Gen.ReferenceIdeal.Run
public import proofs.«01_k».proof.Proof.AttnPre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 3200000 in
/-- From memories that agree on the arguments, the kernel and the reference of the attention end with equal results,
    given finite scores and a zero upper half of the rotary key's lanes. -/
theorem algebraic_Attn : algebraic_KernelIdeal_ReferenceIdeal_pre_attn_args (hKernelIdeal := Cert.KernelIdeal.Gen.facts)
    (hReferenceIdeal := Cert.ReferenceIdeal.Gen.facts) (hPre_attn_args := Cert.Pre_attn_args.Gen.facts) := by
  pair_intro
  · run_from Cert.KernelIdeal.Value.run_blocks m g
  · run_from Cert.ReferenceIdeal.Value.run m' g'
    obtain ⟨a0, a1, a2⟩ := hagree c
    refine (Cert.ReferenceIdeal.Value.result m' c).trans ?_
    rw [a0, a1, a2]
    exact (Cert.KernelIdeal.Value.final m c (Cert.Pre_attn_args.args _ _ _ (hpre c))).symm

end Cert.Proof

end
-- ==== Proof.lean ====
/- The proof of the claim. -/
module

public import proofs.«01_k».proof.Defs
public import proofs.«01_k».proof.Proof.Frames
public import proofs.«01_k».proof.Proof.FfnClaim
public import proofs.«01_k».proof.Proof.InRetClaim
public import proofs.«01_k».proof.Proof.InGmClaim
public import proofs.«01_k».proof.Proof.InMlaClaim
public import proofs.«01_k».proof.Proof.MlaPrepClaim
public import proofs.«01_k».proof.Proof.GmlpClaim
public import proofs.«01_k».proof.Proof.RetClaim
public import proofs.«01_k».proof.Proof.NormClaim
public import proofs.«01_k».proof.Proof.TablesClaim
public import proofs.«01_k».proof.Proof.MergeClaim
public import proofs.«01_k».proof.Proof.OutProjClaim
public import proofs.«01_k».proof.Proof.AttnClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The mask constant of the kernel stands for minus infinity. -/
theorem preserves : preserves_Kernel_KernelIdeal :=
  IdealRules.named_const.statement Cert.KernelIdeal.κ "mask" .f32 0xF149F2CA#32 ⊥ rfl

/-- The whole claim, its parts put together. -/
theorem claim : Cert.Claim :=
  ⟨Cert.Kernel.Gen.facts, Cert.KernelIdeal.Gen.facts, Cert.ReferenceIdeal.Gen.facts, Cert.Ffn.Gen.facts,
   Cert.FfnIdeal.Gen.facts, Cert.FfnRefIdeal.Gen.facts, Cert.InRet.Gen.facts, Cert.InRetIdeal.Gen.facts,
   Cert.InRetRefIdeal.Gen.facts, Cert.InGm.Gen.facts, Cert.InGmIdeal.Gen.facts, Cert.InGmRefIdeal.Gen.facts,
   Cert.InMla.Gen.facts, Cert.InMlaIdeal.Gen.facts, Cert.InMlaRefIdeal.Gen.facts, Cert.MlaPrep.Gen.facts,
   Cert.MlaPrepIdeal.Gen.facts, Cert.MlaPrepRefIdeal.Gen.facts, Cert.Gmlp.Gen.facts, Cert.GmlpIdeal.Gen.facts,
   Cert.GmlpRefIdeal.Gen.facts, Cert.Ret.Gen.facts, Cert.RetIdeal.Gen.facts, Cert.RetRefIdeal.Gen.facts,
   Cert.Norm.Gen.facts, Cert.NormIdeal.Gen.facts, Cert.NormRefIdeal.Gen.facts, Cert.Tables.Gen.facts,
   Cert.TablesIdeal.Gen.facts, Cert.TablesRefIdeal.Gen.facts, Cert.Merge.Gen.facts, Cert.MergeIdeal.Gen.facts,
   Cert.MergeRefIdeal.Gen.facts, Cert.OutProj.Gen.facts, Cert.OutProjIdeal.Gen.facts, Cert.OutProjRefIdeal.Gen.facts,
   Cert.Pre_attn_args.Gen.facts, Cert.Pre_rotary_finite.Gen.facts, Cert.Pre_queries_finite.Gen.facts, Cert.Pre_retained_finite.Gen.facts,
   frame_Kernel, frame_KernelIdeal, frame_KernelIdeal_pre_attn_args, frame_ReferenceIdeal,
   frame_ReferenceIdeal_pre_attn_args, frame_Ffn, frame_FfnIdeal, frame_FfnRefIdeal,
   frame_InRet, frame_InRetIdeal, frame_InRetRefIdeal, frame_InGm,
   frame_InGmIdeal, frame_InGmRefIdeal, frame_InMla, frame_InMlaIdeal,
   frame_InMlaIdeal_pre_rotary_finite, frame_InMlaRefIdeal, frame_InMlaRefIdeal_pre_rotary_finite, frame_MlaPrep,
   frame_MlaPrepIdeal, frame_MlaPrepIdeal_pre_queries_finite, frame_MlaPrepRefIdeal, frame_MlaPrepRefIdeal_pre_queries_finite,
   frame_Gmlp, frame_GmlpIdeal, frame_GmlpRefIdeal, frame_Ret,
   frame_RetIdeal, frame_RetIdeal_pre_retained_finite, frame_RetRefIdeal, frame_RetRefIdeal_pre_retained_finite,
   frame_Norm, frame_NormIdeal, frame_NormRefIdeal, frame_Tables,
   frame_TablesIdeal, frame_TablesRefIdeal, frame_Merge, frame_MergeIdeal,
   frame_MergeRefIdeal, frame_OutProj, frame_OutProjIdeal, frame_OutProjRefIdeal,
   preserves, algebraic_Attn, trivial, algebraic_Ffn,
   trivial, algebraic_InRet, trivial, algebraic_InGm,
   trivial, algebraic_InMla, trivial, algebraic_MlaPrep,
   trivial, algebraic_Gmlp, trivial, algebraic_Ret,
   trivial, algebraic_Norm, trivial, algebraic_Tables,
   trivial, algebraic_Merge, trivial, algebraic_OutProj⟩

end Cert.Proof

end
